-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v101_0)) (v1 : (c : Dev Cert.KernelIdeal.nD) → Buf (Elt Ideal) ((c.tc : Thread Cert.KernelIdeal.nD Cert.KernelIdeal.τ).loc Cert.KernelIdeal.main_v101_1)) (v2 : (c : Dev Cert.KernelIdeal.nD) → Buf (Elt Ideal) ((c.tc : Thread Cert.KernelIdeal.nD Cert.KernelIdeal.τ).loc Cert.KernelIdeal.main_v101_2)) (v3 : (c : Dev Cert.KernelIdeal.nD) → Buf (Elt Ideal) ((c.tc : Thread Cert.KernelIdeal.nD Cert.KernelIdeal.τ).loc Cert.KernelIdeal.main_v101_3)) (v4 : (c : Dev Cert.KernelIdeal.nD) → Buf (Elt Ideal) ((c.tc : Thread Cert.KernelIdeal.nD Cert.KernelIdeal.τ).loc Cert.KernelIdeal.main_v101_4)) (v5 : (c : Dev Cert.KernelIdeal.nD) → Buf (Elt Ideal) ((c.tc : Thread Cert.KernelIdeal.nD Cert.KernelIdeal.τ).loc Cert.KernelIdeal.main_v101_5)) (v6 : (c : Dev Cert.KernelIdeal.nD) → Buf (Elt Ideal) ((c.tc : Thread Cert.KernelIdeal.nD Cert.KernelIdeal.τ).loc Cert.KernelIdeal.main_v101_6)) (v7 : (c : Dev Cert.KernelIdeal.nD) → Buf (Elt Ideal) ((c.tc : Thread Cert.KernelIdeal.nD Cert.KernelIdeal.τ).loc Cert.KernelIdeal.main_v101_7)) (v8 : (c : Dev Cert.KernelIdeal.nD) → Buf (Elt Ideal) ((c.tc : Thread Cert.KernelIdeal.nD Cert.KernelIdeal.τ).loc Cert.KernelIdeal.main_v101_8)) (v9 : (c : Dev Cert.KernelIdeal.nD) → Buf (Elt Ideal) ((c.tc : Thread Cert.KernelIdeal.nD Cert.KernelIdeal.τ).loc Cert.KernelIdeal.main_v101_9)) (v10 : (c : Dev Cert.KernelIdeal.nD) → Buf (Elt Ideal) ((c.tc : Thread Cert.KernelIdeal.nD Cert.KernelIdeal.τ).loc Cert.KernelIdeal.main_v101_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101_0) = v0 c
          ∧ r.2.mem ((c.tc : Thread Cert.KernelIdeal.nD Cert.KernelIdeal.τ).loc Cert.KernelIdeal.main_v101_1) = v1 c
          ∧ r.2.mem ((c.tc : Thread Cert.KernelIdeal.nD Cert.KernelIdeal.τ).loc Cert.KernelIdeal.main_v101_2) = v2 c
          ∧ r.2.mem ((c.tc : Thread Cert.KernelIdeal.nD Cert.KernelIdeal.τ).loc Cert.KernelIdeal.main_v101_3) = v3 c
          ∧ r.2.mem ((c.tc : Thread Cert.KernelIdeal.nD Cert.KernelIdeal.τ).loc Cert.KernelIdeal.main_v101_4) = v4 c
          ∧ r.2.mem ((c.tc : Thread Cert.KernelIdeal.nD Cert.KernelIdeal.τ).loc Cert.KernelIdeal.main_v101_5) = v5 c
          ∧ r.2.mem ((c.tc : Thread Cert.KernelIdeal.nD Cert.KernelIdeal.τ).loc Cert.KernelIdeal.main_v101_6) = v6 c
          ∧ r.2.mem ((c.tc : Thread Cert.KernelIdeal.nD Cert.KernelIdeal.τ).loc Cert.KernelIdeal.main_v101_7) = v7 c
          ∧ r.2.mem ((c.tc : Thread Cert.KernelIdeal.nD Cert.KernelIdeal.τ).loc Cert.KernelIdeal.main_v101_8) = v8 c
          ∧ r.2.mem ((c.tc : Thread Cert.KernelIdeal.nD Cert.KernelIdeal.τ).loc Cert.KernelIdeal.main_v101_9) = v9 c
          ∧ r.2.mem ((c.tc : Thread Cert.KernelIdeal.nD Cert.KernelIdeal.τ).loc Cert.KernelIdeal.main_v101_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_v232) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_v170) = v5 c
          ∧ r.2.mem ((c.tc : Thread Cert.ReferenceIdeal.nD Cert.ReferenceIdeal.τ).loc Cert.ReferenceIdeal.main_v233) = v6 c
          ∧ r.2.mem ((c.tc : Thread Cert.ReferenceIdeal.nD Cert.ReferenceIdeal.τ).loc Cert.ReferenceIdeal.main_v234) = v7 c
          ∧ r.2.mem ((c.tc : Thread Cert.ReferenceIdeal.nD Cert.ReferenceIdeal.τ).loc Cert.ReferenceIdeal.main_v235) = v8 c
          ∧ r.2.mem ((c.tc : Thread Cert.ReferenceIdeal.nD Cert.ReferenceIdeal.τ).loc Cert.ReferenceIdeal.main_v236) = v9 c
          ∧ r.2.mem ((c.tc : Thread Cert.ReferenceIdeal.nD Cert.ReferenceIdeal.τ).loc Cert.ReferenceIdeal.main_v238) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v23_0)) (v1 : (c : Dev Cert.Kernel8Ideal.nD) → Buf (Elt Ideal) ((c.tc : Thread Cert.Kernel8Ideal.nD Cert.Kernel8Ideal.τ).loc Cert.Kernel8Ideal.main_v23_1)) (v2 : (c : Dev Cert.Kernel8Ideal.nD) → Buf (Elt Ideal) ((c.tc : Thread Cert.Kernel8Ideal.nD Cert.Kernel8Ideal.τ).loc Cert.Kernel8Ideal.main_v23_2)) (v3 : (c : Dev Cert.Kernel8Ideal.nD) → Buf (Elt Ideal) ((c.tc : Thread Cert.Kernel8Ideal.nD Cert.Kernel8Ideal.τ).loc Cert.Kernel8Ideal.main_v23_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23_0) = v0 c
          ∧ r.2.mem ((c.tc : Thread Cert.Kernel8Ideal.nD Cert.Kernel8Ideal.τ).loc Cert.Kernel8Ideal.main_v23_1) = v1 c
          ∧ r.2.mem ((c.tc : Thread Cert.Kernel8Ideal.nD Cert.Kernel8Ideal.τ).loc Cert.Kernel8Ideal.main_v23_2) = v2 c
          ∧ r.2.mem ((c.tc : Thread Cert.Kernel8Ideal.nD Cert.Kernel8Ideal.τ).loc Cert.Kernel8Ideal.main_v23_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v53) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x2048 : S_.BroadcastsInDim S4096x2048 (![] : Fin 0 → Fin S4096x2048.rank)
  bcast_S_S4096x512 : S_.BroadcastsInDim S4096x512 (![] : Fin 0 → Fin S4096x512.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_arg6 : FVec F S4x128x128 .f32) (main_arg7 : FVec F S4x128 .f32) (main_arg8 : FVec F S512 .f32) (main_arg9 : FVec F S512 .f32) (main_arg10 : FVec F S512 .f32) (main_v2 : IVec S4096x1024 1) (main_v5 : IVec S1024x1024 1) (main_v8 : IVec S4096x2048 1) (main_v11 : IVec S4096x512 1) (main_v14 : IVec S512 1) (main_v17 : IVec S512 1) : IVec S4096x1024 1 × IVec S1024x1024 1 × IVec S4096x2048 1 × IVec S4096x512 1 × IVec S512 1 × IVec S512 1 × IVec S4x128x128 1 × IVec S4x128 1 × IVec S512 1 × IVec S512 1 × IVec S512 1 :=
  let main_v18 : FVec F S4x128x128 .f32 := Host.absf main_arg6
  let main_cst_5 : FVec F S_ .f32 := constant S_ .f32 0x7F800000#32
  let main_v19 : FVec F S4x128x128 .f32 := broadcastInDim S4x128x128 ![] bcast_S_S4x128x128 main_cst_5
  let main_v20 : IVec S4x128x128 1 := cmpf .olt main_v18 main_v19
  let main_v21 : FVec F S4x128 .f32 := Host.absf main_arg7
  let main_cst_6 : FVec F S_ .f32 := constant S_ .f32 0x7F800000#32
  let main_v22 : FVec F S4x128 .f32 := broadcastInDim S4x128 ![] bcast_S_S4x128 main_cst_6
  let main_v23 : IVec S4x128 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S512 .f32 := Host.absf main_arg10
  let main_cst_9 : FVec F S_ .f32 := constant S_ .f32 0x7F800000#32
  let main_v31 : FVec F S512 .f32 := broadcastInDim S512 ![] bcast_S_S512 main_cst_9
  let main_v32 : IVec S512 1 := cmpf .olt main_v30 main_v31
  (main_v2, main_v5, main_v8, main_v11, main_v14, main_v17, main_v20, main_v23, main_v26, main_v29, main_v32)

def fn {F : FTy → Type} [FloatOps F] (main_arg0 : FVec F S4096x1024 .f32) (main_arg1 : FVec F S1024x1024 .f32) (main_arg2 : FVec F S4096x2048 .f32) (main_arg3 : FVec F S4096x512 .f32) (main_arg4 : FVec F S512 .f32) (main_arg5 : FVec F S512 .f32) (main_arg6 : FVec F S4x128x128 .f32) (main_arg7 : FVec F S4x128 .f32) (main_arg8 : FVec F S512 .f32) (main_arg9 : FVec F S512 .f32) (main_arg10 : FVec F S512 .f32) : IVec S4096x1024 1 × IVec S1024x1024 1 × IVec S4096x2048 1 × IVec S4096x512 1 × IVec S512 1 × IVec S512 1 × IVec S4x128x128 1 × IVec S4x128 1 × IVec S512 1 × IVec S512 1 × IVec S512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_arg10 main_v2 main_v5 main_v8 main_v11 main_v14 main_v17
-- ==== Kernel.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S8x1024x512 : Shape := ⟨3, ![8, 1024, 512]⟩
abbrev S1x1024x1024 : Shape := ⟨3, ![1, 1024, 1024]⟩
abbrev S512x1024 : Shape := ⟨2, ![512, 1024]⟩
abbrev S512x2048 : Shape := ⟨2, ![512, 2048]⟩
abbrev S512x512 : Shape := ⟨2, ![512, 512]⟩
abbrev S128x512 : Shape := ⟨2, ![128, 512]⟩
abbrev S512x1 : Shape := ⟨2, ![512, 1]⟩
abbrev S128x1 : Shape := ⟨2, ![128, 1]⟩
abbrev S512x128 : Shape := ⟨2, ![512, 128]⟩
abbrev S1x128 : Shape := ⟨2, ![1, 128]⟩
abbrev S128 : Shape := ⟨1, ![128]⟩

abbrev nBuf : Space → Nat
  | .hbm => 155
  | .vmem => 30
  | .smem => 0
  | _ => 0

abbrev hbmTy0_0 (i : Nat) : BufTy := match i % 128 with
  | 0 => ⟨S4096x1024, .f32⟩
  | 1 => ⟨S1024x1024, .f32⟩
  | 2 => ⟨S4096x2048, .f32⟩
  | 3 => ⟨S4096x512, .f32⟩
  | 4 => ⟨S512, .f32⟩
  | 5 => ⟨S512, .f32⟩
  | 6 => ⟨S4x128x128, .f32⟩
  | 7 => ⟨S4x128, .f32⟩
  | 8 => ⟨S512, .f32⟩
  | 9 => ⟨S512, .f32⟩
  | 10 => ⟨S512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S_, .f32⟩
  | 28 => ⟨S_, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x512, .f32⟩
  | 40 => ⟨S4096x512, .f32⟩
  | 41 => ⟨S4096x512, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x512, .f32⟩
  | 49 => ⟨S4096x512, .f32⟩
  | 50 => ⟨S_, .f32⟩
  | 51 => ⟨S4096x1, .f32⟩
  | 52 => ⟨S4096x1, .f32⟩
  | 53 => ⟨S4096x1, .f32⟩
  | 54 => ⟨S4096x512, .f32⟩
  | 55 => ⟨S4096x512, .f32⟩
  | 56 => ⟨S1x512, .f32⟩
  | 57 => ⟨S4096x512, .f32⟩
  | 58 => ⟨S4096x512, .f32⟩
  | 59 => ⟨S1x512, .f32⟩
  | 60 => ⟨S4096x512, .f32⟩
  | 61 => ⟨S4096x512, .f32⟩
  | 62 => ⟨S32x128x4x128, .f32⟩
  | 63 => ⟨S_, .f32⟩
  | 64 => ⟨S128x128, .f32⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .f32⟩
  | 72 => ⟨S128x128, .f32⟩
  | 73 => ⟨S128x128, .f32⟩
  | 74 => ⟨S1x128x128, .f32⟩
  | 75 => ⟨S4x128x128, .f32⟩
  | 76 => ⟨S4x128x128, .f32⟩
  | 77 => ⟨S4x32x128x128, .f32⟩
  | 78 => ⟨S32x128x4x128, .f32⟩
  | 79 => ⟨S128x4, .f32⟩
  | 80 => ⟨S1x128x4x1, .f32⟩
  | 81 => ⟨S32x128x4x128, .f32⟩
  | 82 => ⟨S32x128x4x128, .f32⟩
  | 83 => ⟨S4096x512, .f32⟩
  | 84 => ⟨S4096x512, .f32⟩
  | 85 => ⟨S1x512, .f32⟩
  | 86 => ⟨S4096x512, .f32⟩
  | 87 => ⟨S4096x512, .f32⟩
  | 88 => ⟨S4096x4x128, .f32⟩
  | 89 => ⟨S4x128, .f32⟩
  | 90 => ⟨S4x128, .f32⟩
  | 91 => ⟨S_, .f32⟩
  | 92 => ⟨S4096x4, .f32⟩
  | 93 => ⟨S4096x4x1, .f32⟩
  | 94 => ⟨S_, .f32⟩
  | 95 => ⟨S4096x4x1, .f32⟩
  | 96 => ⟨S4096x4x1, .f32⟩
  | 97 => ⟨S4096x4x128, .f32⟩
  | 98 => ⟨S4096x4x128, .f32⟩
  | 99 => ⟨S4096x4x128, .f32⟩
  | 100 => ⟨S_, .f32⟩
  | 101 => ⟨S4096x4, .f32⟩
  | 102 => ⟨S4096x4x1, .f32⟩
  | 103 => ⟨S_, .f32⟩
  | 104 => ⟨S4096x4x1, .f32⟩
  | 105 => ⟨S4096x4x1, .f32⟩
  | 106 => ⟨S4096x4x128, .f32⟩
  | 107 => ⟨S4096x4x128, .f32⟩
  | 108 => ⟨S_, .f32⟩
  | 109 => ⟨S4096x4x1, .f32⟩
  | 110 => ⟨S4096x4x1, .f32⟩
  | 111 => ⟨S4096x4x1, .f32⟩
  | 112 => ⟨S4096x4x128, .f32⟩
  | 113 => ⟨S4096x4x128, .f32⟩
  | 114 => ⟨S1x4x128, .f32⟩
  | 115 => ⟨S4096x4x128, .f32⟩
  | 116 => ⟨S4096x4x128, .f32⟩
  | 117 => ⟨S1x4x128, .f32⟩
  | 118 => ⟨S4096x4x128, .f32⟩
  | 119 => ⟨S4096x4x128, .f32⟩
  | 120 => ⟨S4096x4x128, .f32⟩
  | 121 => ⟨S4096x4x128, .f32⟩
  | 122 => ⟨S_, .f32⟩
  | 123 => ⟨S4096x4x128, .f32⟩
  | 124 => ⟨S4096x4x128, .f32⟩
  | 125 => ⟨S_, .f32⟩
  | 126 => ⟨S4096x4x128, .f32⟩
  | 127 => ⟨S4096x4x128, .f32⟩
  | _ => ⟨S4096x1024, .f32⟩

abbrev hbmTy0_1 (i : Nat) : BufTy := match i % 128 with
  | 0 => ⟨S4096x4x128, .f32⟩
  | 1 => ⟨S4096x512, .f32⟩
  | 2 => ⟨S4096x1024, .f32⟩
  | 3 => ⟨S1024x1024, .bf16⟩
  | 4 => ⟨S4096x1024, .bf16⟩
  | 5 => ⟨S1x512, .f32⟩
  | 6 => ⟨S4096x512, .f32⟩
  | 7 => ⟨S4096x512, .f32⟩
  | 8 => ⟨S1x512, .f32⟩
  | 9 => ⟨S1x512, .f32⟩
  | 10 => ⟨S128x4, .f32⟩
  | 11 => ⟨S1x512, .f32⟩
  | 12 => ⟨S1x512, .f32⟩
  | 13 => ⟨S4096x1024, .bf16⟩
  | 14 => ⟨S_, .bf16⟩
  | 15 => ⟨S8x1024x512, .bf16⟩
  | 16 => ⟨S4096x1024, .bf16⟩
  | 17 => ⟨S4096x512, .f32⟩
  | 18 => ⟨S1x512, .f32⟩
  | 19 => ⟨S1x512, .f32⟩
  | 20 => ⟨S4x128x128, .f32⟩
  | 21 => ⟨S4x128, .f32⟩
  | 22 => ⟨S1x512, .f32⟩
  | 23 => ⟨S1x512, .f32⟩
  | 24 => ⟨S1x512, .f32⟩
  | 25 => ⟨S1x1024x1024, .f32⟩
  | 26 => ⟨S1x1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S128x4, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x512, .f32⟩
  | .local _ .vmem, ⟨21, _⟩ => ⟨S4x128x128, .f32⟩
  | .local _ .vmem, ⟨22, _⟩ => ⟨S4x128, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x1024x1024, .f32⟩
  | .local _ .vmem, ⟨27, _⟩ => ⟨S1x1024x1024, .bf16⟩
  | .local _ .vmem, ⟨28, _⟩ => ⟨S512x512, .f32⟩
  | .local _ .vmem, ⟨29, _⟩ => ⟨S128x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_cst : Ref sig .tc := ⟨.hbm, 71, rfl⟩
abbrev main_call0_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_14 : Ref sig .tc := ⟨.hbm, 142, rfl⟩
abbrev main_v100 : Ref sig .tc := ⟨.hbm, 143, rfl⟩
abbrev main_v101_0 : Ref sig .tc := ⟨.hbm, 144, rfl⟩
abbrev main_v101_1 : Ref sig .tc := ⟨.hbm, 145, rfl⟩
abbrev main_v101_2 : Ref sig .tc := ⟨.hbm, 146, rfl⟩
abbrev main_v101_3 : Ref sig .tc := ⟨.hbm, 147, rfl⟩
abbrev main_v101_4 : Ref sig .tc := ⟨.hbm, 148, rfl⟩
abbrev main_v101_5 : Ref sig .tc := ⟨.hbm, 149, rfl⟩
abbrev main_v101_6 : Ref sig .tc := ⟨.hbm, 150, rfl⟩
abbrev main_v101_7 : Ref sig .tc := ⟨.hbm, 151, rfl⟩
abbrev main_v101_8 : Ref sig .tc := ⟨.hbm, 152, rfl⟩
abbrev main_v101_9 : Ref sig .tc := ⟨.hbm, 153, rfl⟩
abbrev main_v101_10 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v1094 : BitVec 1 := Scalar.cmpi .eq arg0 c7_i32
  let v1095 : BitVec 32 := Scalar.extui v1094
  let c0_i32_557 : BitVec 32 := 0#32
  let v1096 : BitVec 1 := Scalar.cmpi .ne v1095 c0_i32_557
  v1096

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== ReferenceIdeal.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S1x1024x1024 : Shape := ⟨3, ![1, 1024, 1024]⟩

abbrev nBuf : Space → Nat
  | .hbm => 326
  | .vmem => 0
  | .smem => 0
  | _ => 0

abbrev hbmTy0_0 (i : Nat) : BufTy := match i % 128 with
  | 0 => ⟨S4096x1024, .f32⟩
  | 1 => ⟨S1024x1024, .f32⟩
  | 2 => ⟨S4096x2048, .f32⟩
  | 3 => ⟨S4096x512, .f32⟩
  | 4 => ⟨S512, .f32⟩
  | 5 => ⟨S512, .f32⟩
  | 6 => ⟨S4x128x128, .f32⟩
  | 7 => ⟨S4x128, .f32⟩
  | 8 => ⟨S512, .f32⟩
  | 9 => ⟨S512, .f32⟩
  | 10 => ⟨S512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S_, .f32⟩
  | 19 => ⟨S4096x512, .f32⟩
  | 20 => ⟨S4096x512, .f32⟩
  | 21 => ⟨S_, .f32⟩
  | 22 => ⟨S_, .f32⟩
  | 23 => ⟨S_, .f32⟩
  | 24 => ⟨S_, .f32⟩
  | 25 => ⟨S4096x512, .f32⟩
  | 26 => ⟨S_, .f32⟩
  | 27 => ⟨S_, .f32⟩
  | 28 => ⟨S_, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S_, .f32⟩
  | 41 => ⟨S4096x512, .f32⟩
  | 42 => ⟨S4096x512, .f32⟩
  | 43 => ⟨S_, .f32⟩
  | 44 => ⟨S_, .f32⟩
  | 45 => ⟨S_, .f32⟩
  | 46 => ⟨S_, .f32⟩
  | 47 => ⟨S4096x512, .f32⟩
  | 48 => ⟨S_, .f32⟩
  | 49 => ⟨S_, .f32⟩
  | 50 => ⟨S_, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x512, .f32⟩
  | 76 => ⟨S4096x512, .f32⟩
  | 77 => ⟨S_, .f32⟩
  | 78 => ⟨S4096x1, .f32⟩
  | 79 => ⟨S4096x1, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x512, .f32⟩
  | 86 => ⟨S4096x512, .f32⟩
  | 87 => ⟨S1x512, .f32⟩
  | 88 => ⟨S4096x512, .f32⟩
  | 89 => ⟨S4096x512, .f32⟩
  | 90 => ⟨S1x512, .f32⟩
  | 91 => ⟨S4096x512, .f32⟩
  | 92 => ⟨S4096x512, .f32⟩
  | 93 => ⟨S32x128x4x128, .f32⟩
  | 94 => ⟨S_, .f32⟩
  | 95 => ⟨S128x128, .f32⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x32x128x128, .f32⟩
  | 109 => ⟨S32x128x4x128, .f32⟩
  | 110 => ⟨S128x4, .f32⟩
  | 111 => ⟨S1x128x4x1, .f32⟩
  | 112 => ⟨S32x128x4x128, .f32⟩
  | 113 => ⟨S32x128x4x128, .f32⟩
  | 114 => ⟨S4096x512, .f32⟩
  | 115 => ⟨S4096x512, .f32⟩
  | 116 => ⟨S1x512, .f32⟩
  | 117 => ⟨S4096x512, .f32⟩
  | 118 => ⟨S4096x512, .f32⟩
  | 119 => ⟨S4096x4x128, .f32⟩
  | 120 => ⟨S4x128, .f32⟩
  | 121 => ⟨S4x128, .f32⟩
  | 122 => ⟨S_, .f32⟩
  | 123 => ⟨S4096x4, .f32⟩
  | 124 => ⟨S4096x4x1, .f32⟩
  | 125 => ⟨S_, .f32⟩
  | 126 => ⟨S4096x4x1, .f32⟩
  | 127 => ⟨S4096x4x1, .f32⟩
  | _ => ⟨S4096x1024, .f32⟩

abbrev hbmTy0_1 (i : Nat) : BufTy := match i % 128 with
  | 0 => ⟨S4096x4x128, .f32⟩
  | 1 => ⟨S4096x4x128, .f32⟩
  | 2 => ⟨S4096x4x128, .f32⟩
  | 3 => ⟨S_, .f32⟩
  | 4 => ⟨S4096x4x128, .f32⟩
  | 5 => ⟨S4096x4x128, .f32⟩
  | 6 => ⟨S_, .f32⟩
  | 7 => ⟨S4096x4, .f32⟩
  | 8 => ⟨S4096x4x1, .f32⟩
  | 9 => ⟨S_, .f32⟩
  | 10 => ⟨S4096x4x1, .f32⟩
  | 11 => ⟨S4096x4x1, .f32⟩
  | 12 => ⟨S4096x4x128, .f32⟩
  | 13 => ⟨S4096x4x128, .f32⟩
  | 14 => ⟨S_, .f32⟩
  | 15 => ⟨S4096x4x1, .f32⟩
  | 16 => ⟨S4096x4x1, .f32⟩
  | 17 => ⟨S4096x4x1, .f32⟩
  | 18 => ⟨S4096x4x1, .f32⟩
  | 19 => ⟨S_, .f32⟩
  | 20 => ⟨S4096x4x1, .f32⟩
  | 21 => ⟨S4096x4x1, .f32⟩
  | 22 => ⟨S4096x4x128, .f32⟩
  | 23 => ⟨S4096x4x128, .f32⟩
  | 24 => ⟨S1x4x128, .f32⟩
  | 25 => ⟨S4096x4x128, .f32⟩
  | 26 => ⟨S4096x4x128, .f32⟩
  | 27 => ⟨S1x4x128, .f32⟩
  | 28 => ⟨S4096x4x128, .f32⟩
  | 29 => ⟨S4096x4x128, .f32⟩
  | 30 => ⟨S4096x4x128, .f32⟩
  | 31 => ⟨S4096x4x128, .f32⟩
  | 32 => ⟨S_, .f32⟩
  | 33 => ⟨S4096x4x128, .f32⟩
  | 34 => ⟨S4096x4x128, .f32⟩
  | 35 => ⟨S_, .f32⟩
  | 36 => ⟨S4096x4x128, .f32⟩
  | 37 => ⟨S4096x4x128, .f32⟩
  | 38 => ⟨S_, .f32⟩
  | 39 => ⟨S4096x4x128, .f32⟩
  | 40 => ⟨S4096x4x128, .f32⟩
  | 41 => ⟨S4096x4x128, .f32⟩
  | 42 => ⟨S4096x4x128, .f32⟩
  | 43 => ⟨S4096x512, .f32⟩
  | 44 => ⟨S4096x1024, .f32⟩
  | 45 => ⟨S4096x1024, .f32⟩
  | 46 => ⟨S1024x1024, .f32⟩
  | 47 => ⟨S1024x1024, .f32⟩
  | 48 => ⟨S4096x1024, .f32⟩
  | 49 => ⟨S4096x512, .f32⟩
  | 50 => ⟨S4096x512, .f32⟩
  | 51 => ⟨S4096x4x128, .f32⟩
  | 52 => ⟨S4096x4x128, .f32⟩
  | 53 => ⟨S4096x4x128, .f32⟩
  | 54 => ⟨S4096x4x128, .f32⟩
  | 55 => ⟨S4096x4x128, .f32⟩
  | 56 => ⟨S_, .f32⟩
  | 57 => ⟨S4x128, .f32⟩
  | 58 => ⟨S1x4x128, .f32⟩
  | 59 => ⟨S_, .f32⟩
  | 60 => ⟨S4x128, .f32⟩
  | 61 => ⟨S4096x4x128, .f32⟩
  | 62 => ⟨S_, .f32⟩
  | 63 => ⟨S4x128, .f32⟩
  | 64 => ⟨S1x4x128, .f32⟩
  | 65 => ⟨S4096x4x128, .f32⟩
  | 66 => ⟨S4096x4x128, .f32⟩
  | 67 => ⟨S_, .f32⟩
  | 68 => ⟨S4x128, .f32⟩
  | 69 => ⟨S4096x4x128, .f32⟩
  | 70 => ⟨S_, .f32⟩
  | 71 => ⟨S4096x4, .f32⟩
  | 72 => ⟨S4096x4x1, .f32⟩
  | 73 => ⟨S4096x4x128, .f32⟩
  | 74 => ⟨S4096x4x128, .f32⟩
  | 75 => ⟨S4096x4x1, .f32⟩
  | 76 => ⟨S4096x4x128, .f32⟩
  | 77 => ⟨S_, .f32⟩
  | 78 => ⟨S4096x4, .f32⟩
  | 79 => ⟨S4096x4x1, .f32⟩
  | 80 => ⟨S_, .f32⟩
  | 81 => ⟨S4096x4x1, .f32⟩
  | 82 => ⟨S4096x4x1, .f32⟩
  | 83 => ⟨S_, .f32⟩
  | 84 => ⟨S4096x4, .f32⟩
  | 85 => ⟨S4096x4x128, .f32⟩
  | 86 => ⟨S4096x4x128, .f32⟩
  | 87 => ⟨S4096x4x128, .f32⟩
  | 88 => ⟨S_, .f32⟩
  | 89 => ⟨S4096x4, .f32⟩
  | 90 => ⟨S4096x4x1, .f32⟩
  | 91 => ⟨S4096x4x128, .f32⟩
  | 92 => ⟨S4096x4x1, .f32⟩
  | 93 => ⟨S_, .f32⟩
  | 94 => ⟨S4096x4x1, .f32⟩
  | 95 => ⟨S4096x4x1, .f32⟩
  | 96 => ⟨S_, .f32⟩
  | 97 => ⟨S4096x4, .f32⟩
  | 98 => ⟨S4096x4x128, .f32⟩
  | 99 => ⟨S4096x4x128, .f32⟩
  | 100 => ⟨S512, .f32⟩
  | 101 => ⟨S512, .f32⟩
  | 102 => ⟨S4096x512, .f32⟩
  | 103 => ⟨S_, .f32⟩
  | 104 => ⟨S512, .f32⟩
  | 105 => ⟨S1x512, .f32⟩
  | 106 => ⟨S_, .f32⟩
  | 107 => ⟨S512, .f32⟩
  | 108 => ⟨S4096x512, .f32⟩
  | 109 => ⟨S4096x512, .f32⟩
  | 110 => ⟨S32x128x4x128, .f32⟩
  | 111 => ⟨S_, .f32⟩
  | 112 => ⟨S128x4, .f32⟩
  | 113 => ⟨S1x128x4x1, .f32⟩
  | 114 => ⟨S_, .f32⟩
  | 115 => ⟨S128x4, .f32⟩
  | 116 => ⟨S4x128, .f32⟩
  | 117 => ⟨S4x32x128x128, .f32⟩
  | 118 => ⟨S4x128x128, .f32⟩
  | 119 => ⟨S4x32x128x128, .f32⟩
  | 120 => ⟨S32x128x4x128, .f32⟩
  | 121 => ⟨S4x128x128, .f32⟩
  | 122 => ⟨S4x128x128, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x1024, .f32⟩

abbrev hbmTy0_2 (i : Nat) : BufTy := match i % 128 with
  | 0 => ⟨S512, .f32⟩
  | 1 => ⟨S4096x512, .f32⟩
  | 2 => ⟨S_, .f32⟩
  | 3 => ⟨S512, .f32⟩
  | 4 => ⟨S1x512, .f32⟩
  | 5 => ⟨S4096x512, .f32⟩
  | 6 => ⟨S4096x512, .f32⟩
  | 7 => ⟨S_, .f32⟩
  | 8 => ⟨S512, .f32⟩
  | 9 => ⟨S4096x512, .f32⟩
  | 10 => ⟨S_, .f32⟩
  | 11 => ⟨S4096, .f32⟩
  | 12 => ⟨S4096x1, .f32⟩
  | 13 => ⟨S4096x512, .f32⟩
  | 14 => ⟨S4096x512, .f32⟩
  | 15 => ⟨S4096x1, .f32⟩
  | 16 => ⟨S4096x512, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x512, .f32⟩
  | 26 => ⟨S4096x512, .f32⟩
  | 27 => ⟨S4096x512, .f32⟩
  | 28 => ⟨S_, .f32⟩
  | 29 => ⟨S4096, .f32⟩
  | 30 => ⟨S4096x1, .f32⟩
  | 31 => ⟨S4096x512, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S4096x1024, .f32⟩
  | 61 => ⟨S4096x1024, .bf16⟩
  | 62 => ⟨S1x512, .f32⟩
  | 63 => ⟨S1x512, .f32⟩
  | 64 => ⟨S1x512, .f32⟩
  | 65 => ⟨S1x512, .f32⟩
  | 66 => ⟨S1x512, .f32⟩
  | 67 => ⟨S1x1024x1024, .f32⟩
  | 68 => ⟨S1x1024x1024, .f32⟩
  | 69 => ⟨S1x1024x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_14 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_15 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_call0_v0 : Ref sig .tc := ⟨.hbm, 96, rfl⟩
abbrev main_call0_c : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_cst : Ref sig .tc := ⟨.hbm, 102, rfl⟩
abbrev main_call0_v5 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_cst_21 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_call1_v0 : Ref sig .tc := ⟨.hbm, 158, rfl⟩
abbrev main_call1_v1 : Ref sig .tc := ⟨.hbm, 159, rfl⟩
abbrev main_call1_cst : Ref sig .tc := ⟨.hbm, 160, rfl⟩
abbrev main_call1_v2 : Ref sig .tc := ⟨.hbm, 161, rfl⟩
abbrev main_call1_v3 : Ref sig .tc := ⟨.hbm, 162, rfl⟩
abbrev main_call1_cst_0 : Ref sig .tc := ⟨.hbm, 163, rfl⟩
abbrev main_call1_v4 : Ref sig .tc := ⟨.hbm, 164, rfl⟩
abbrev main_v114_2 : Ref sig .tc := ⟨.hbm, 165, rfl⟩
abbrev main_call1_cst_1 : Ref sig .tc := ⟨.hbm, 166, rfl⟩
abbrev main_call1_v6 : Ref sig .tc := ⟨.hbm, 167, rfl⟩
abbrev main_call1_v7 : Ref sig .tc := ⟨.hbm, 168, rfl⟩
abbrev main_v114_1 : Ref sig .tc := ⟨.hbm, 169, rfl⟩
abbrev main_v114_0 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_call2_v0 : Ref sig .tc := ⟨.hbm, 180, rfl⟩
abbrev main_call2_v1 : Ref sig .tc := ⟨.hbm, 181, rfl⟩
abbrev main_call2_v2 : Ref sig .tc := ⟨.hbm, 182, rfl⟩
abbrev main_v124 : Ref sig .tc := ⟨.hbm, 183, rfl⟩
abbrev main_cst_24 : Ref sig .tc := ⟨.hbm, 184, rfl⟩
abbrev main_v125 : Ref sig .tc := ⟨.hbm, 185, rfl⟩
abbrev main_v126 : Ref sig .tc := ⟨.hbm, 186, rfl⟩
abbrev main_cst_25 : Ref sig .tc := ⟨.hbm, 187, rfl⟩
abbrev main_v127 : Ref sig .tc := ⟨.hbm, 188, rfl⟩
abbrev main_v128 : Ref sig .tc := ⟨.hbm, 189, rfl⟩
abbrev main_cst_26 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_27 : Ref sig .tc := ⟨.hbm, 195, rfl⟩
abbrev main_v133 : Ref sig .tc := ⟨.hbm, 196, rfl⟩
abbrev main_v134 : Ref sig .tc := ⟨.hbm, 197, rfl⟩
abbrev main_cst_28 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_29 : Ref sig .tc := ⟨.hbm, 205, rfl⟩
abbrev main_v141 : Ref sig .tc := ⟨.hbm, 206, rfl⟩
abbrev main_v142 : Ref sig .tc := ⟨.hbm, 207, rfl⟩
abbrev main_cst_30 : Ref sig .tc := ⟨.hbm, 208, rfl⟩
abbrev main_v143 : Ref sig .tc := ⟨.hbm, 209, rfl⟩
abbrev main_v144 : Ref sig .tc := ⟨.hbm, 210, rfl⟩
abbrev main_cst_31 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_32 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_33 : Ref sig .tc := ⟨.hbm, 221, rfl⟩
abbrev main_v153 : Ref sig .tc := ⟨.hbm, 222, rfl⟩
abbrev main_v154 : Ref sig .tc := ⟨.hbm, 223, rfl⟩
abbrev main_cst_34 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_cst_35 : Ref sig .tc := ⟨.hbm, 231, rfl⟩
abbrev main_v161 : Ref sig .tc := ⟨.hbm, 232, rfl⟩
abbrev main_v162 : Ref sig .tc := ⟨.hbm, 233, rfl⟩
abbrev main_cst_36 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_cst_37 : Ref sig .tc := ⟨.hbm, 239, rfl⟩
abbrev main_v167 : Ref sig .tc := ⟨.hbm, 240, rfl⟩
abbrev main_v168 : Ref sig .tc := ⟨.hbm, 241, rfl⟩
abbrev main_cst_38 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_39 : Ref sig .tc := ⟨.hbm, 252, rfl⟩
abbrev main_v178 : Ref sig .tc := ⟨.hbm, 253, rfl⟩
abbrev main_v179 : Ref sig .tc := ⟨.hbm, 254, rfl⟩
abbrev main_cst_40 : Ref sig .tc := ⟨.hbm, 255, rfl⟩
abbrev main_v180 : Ref sig .tc := ⟨.hbm, 256, rfl⟩
abbrev main_v181 : Ref sig .tc := ⟨.hbm, 257, rfl⟩
abbrev main_cst_41 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_cst_42 : Ref sig .tc := ⟨.hbm, 263, rfl⟩
abbrev main_v186 : Ref sig .tc := ⟨.hbm, 264, rfl⟩
abbrev main_v187 : Ref sig .tc := ⟨.hbm, 265, rfl⟩
abbrev main_cst_43 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_cst_44 : Ref sig .tc := ⟨.hbm, 273, rfl⟩
abbrev main_v194 : Ref sig .tc := ⟨.hbm, 274, rfl⟩
abbrev main_v195 : Ref sig .tc := ⟨.hbm, 275, rfl⟩
abbrev main_cst_45 : Ref sig .tc := ⟨.hbm, 276, rfl⟩
abbrev main_v196 : Ref sig .tc := ⟨.hbm, 277, rfl⟩
abbrev main_v197 : Ref sig .tc := ⟨.hbm, 278, rfl⟩
abbrev main_cst_46 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_cst_47 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_cst_48 : Ref sig .tc := ⟨.hbm, 289, rfl⟩
abbrev main_v206 : Ref sig .tc := ⟨.hbm, 290, rfl⟩
abbrev main_v207 : Ref sig .tc := ⟨.hbm, 291, rfl⟩
abbrev main_cst_49 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_cst_50 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_cst_51 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S1x4096x1024, .f32⟩
  | .hbm, ⟨5, _⟩ => ⟨S1x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v15 : BitVec 1 := Scalar.cmpi .eq arg2 c0_i32_10
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S1x4096x1024 : Shape := ⟨3, ![1, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S1x4096x1024, .f32⟩
  | .hbm, ⟨9, _⟩ => ⟨S1x4096x1024, .f32⟩
  | .hbm, ⟨10, _⟩ => ⟨S1x4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S8x1024x512 : Shape := ⟨3, ![8, 1024, 512]⟩
abbrev S2x1024x512 : Shape := ⟨3, ![2, 1024, 512]⟩
abbrev S1x1024x512 : Shape := ⟨3, ![1, 1024, 512]⟩
abbrev S1024x512 : Shape := ⟨2, ![1024, 512]⟩
abbrev S4096x512 : Shape := ⟨2, ![4096, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .f32⟩
  | .hbm, ⟨5, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S2x1024x512, .f32⟩
  | .local _ .vmem, ⟨4, _⟩ => ⟨S2x1024x512, .f32⟩
  | .local _ .vmem, ⟨5, _⟩ => ⟨S2x1024x512, .bf16⟩
  | .local _ .vmem, ⟨6, _⟩ => ⟨S2x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_17 : BitVec 32 := 0#32
  let v23 : BitVec 1 := Scalar.cmpi .eq arg2 c0_i32_17
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S_ : Shape := ⟨0, ![]⟩
abbrev S8x128x1024 : Shape := ⟨3, ![8, 128, 1024]⟩
abbrev S8x1024x256 : Shape := ⟨3, ![8, 1024, 256]⟩
abbrev S4x1024x256 : Shape := ⟨3, ![4, 1024, 256]⟩
abbrev S1x1024x256 : Shape := ⟨3, ![1, 1024, 256]⟩
abbrev S1024x256 : Shape := ⟨2, ![1024, 256]⟩
abbrev S4096x256 : Shape := ⟨2, ![4096, 256]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S_, .bf16⟩
  | .hbm, ⟨5, _⟩ => ⟨S8x128x1024, .bf16⟩
  | .hbm, ⟨6, _⟩ => ⟨S8x1024x256, .f32⟩
  | .hbm, ⟨7, _⟩ => ⟨S8x1024x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4x1024x256, .f32⟩
  | .local _ .vmem, ⟨4, _⟩ => ⟨S4x1024x256, .f32⟩
  | .local _ .vmem, ⟨5, _⟩ => ⟨S4x1024x256, .bf16⟩
  | .local _ .vmem, ⟨6, _⟩ => ⟨S4x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_31 : BitVec 32 := 0#32
  let v41 : BitVec 1 := Scalar.cmpi .eq arg2 c0_i32_31
  let v42 : BitVec 32 := Scalar.extui v41
  let c0_i32_32 : BitVec 32 := 0#32
  let v43 : BitVec 1 := Scalar.cmpi .ne v42 c0_i32_32
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4096x4096 : Shape := ⟨2, ![4096, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S4096x1024, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x512, .bf16⟩
  | .local _ .vmem, ⟨3, _⟩ => ⟨S1024x4096, .bf16⟩
  | .local _ .vmem, ⟨4, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2048 : Shape := ⟨2, ![1024, 2048]⟩
abbrev S1024x8x256 : Shape := ⟨3, ![1024, 8, 256]⟩
abbrev S8x1024x256 : Shape := ⟨3, ![8, 1024, 256]⟩
abbrev S1x1024 : Shape := ⟨2, ![1, 1024]⟩
abbrev S4096x2048 : Shape := ⟨2, ![4096, 2048]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S1x1024, .f32⟩
  | .hbm, ⟨7, _⟩ => ⟨S4096x1024, .bf16⟩
  | .hbm, ⟨8, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .f32⟩
  | .local _ .vmem, ⟨7, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 38
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S1024x8x512, .f32⟩
  | .hbm, ⟨26, _⟩ => ⟨S8x1024x512, .f32⟩
  | .hbm, ⟨27, _⟩ => ⟨S8x1024x512, .bf16⟩
  | .hbm, ⟨28, _⟩ => ⟨S4096x1024, .bf16⟩
  | .hbm, ⟨29, _⟩ => ⟨S4096x1024, .bf16⟩
  | .hbm, ⟨30, _⟩ => ⟨S4096x4096, .bf16⟩
  | .hbm, ⟨31, _⟩ => ⟨S1x1024, .f32⟩
  | .hbm, ⟨32, _⟩ => ⟨S_, .bf16⟩
  | .hbm, ⟨33, _⟩ => ⟨S8x512x1024, .bf16⟩
  | .hbm, ⟨34, _⟩ => ⟨S4096x4096, .bf16⟩
  | .hbm, ⟨35, _⟩ => ⟨S4096x1024, .f32⟩
  | .hbm, ⟨36, _⟩ => ⟨S4096x1024, .bf16⟩
  | .hbm, ⟨37, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | .local _ .vmem, ⟨7, _⟩ => ⟨S8x1024x512, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4096, .bf16⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Calc.lean ====
module

public import Idealize.ShloMosaic.Lib.Pointwise
public import Idealize.ShloMosaic.Lib.Pipeline.Value
public import Idealize.ShloMosaic.Lib.ValueIdx
public import Idealize.ShloMosaic.PureOps.Ideal.Laws

@[expose] public section

set_option maxRecDepth 16384

noncomputable section

/-! Arrays of finite numbers. `Rd x f` says that the array `x` holds at every index the real number that `f` gives at
the coordinates of that index (the coordinates past the last axis are zero). Every operation of the two programs
keeps such a description, so that the description of a result is found by instance search. -/

namespace Calc

open Idealize.ShloMosaic

/-- The coordinate of an index on axis `k`, zero past the last axis. -/
def co {S : Shape} (i : S.Idx) (k : ℕ) : ℕ := if h : k < S.rank then (i ⟨k, h⟩).val else 0

/-- The array holds the finite numbers `f` at the coordinates. -/
class Rd {S : Shape} {φ : FTy} (x : FVec Ideal S φ) (f : outParam (ℕ → ℕ → ℕ → ℕ → ℝ)) : Prop where
  /-- The element at an index. -/
  at_ : ∀ i : S.Idx, (x i : EReal) = ((f (co i 0) (co i 1) (co i 2) (co i 3) : ℝ) : EReal)

section Co
theorem co1 {a : ℕ} (i : Fin a) :
    co (ix1 i) 0 = i.val ∧ co (ix1 i) 1 = 0 ∧ co (ix1 i) 2 = 0 ∧ co (ix1 i) 3 = 0 := ⟨rfl, rfl, rfl, rfl⟩
theorem co2 {a b : ℕ} (i : Fin a) (j : Fin b) :
    co (ix2 i j) 0 = i.val ∧ co (ix2 i j) 1 = j.val ∧ co (ix2 i j) 2 = 0 ∧ co (ix2 i j) 3 = 0 := ⟨rfl, rfl, rfl, rfl⟩
theorem co3 {a b c : ℕ} (i : Fin a) (j : Fin b) (k : Fin c) :
    co (ix3 i j k) 0 = i.val ∧ co (ix3 i j k) 1 = j.val ∧ co (ix3 i j k) 2 = k.val ∧ co (ix3 i j k) 3 = 0 :=
  ⟨rfl, rfl, rfl, rfl⟩
end Co

variable {S : Shape} {φ ψ : FTy} {f g : ℕ → ℕ → ℕ → ℕ → ℝ}

theorem Rd.one {a : ℕ} {x : FVec Ideal ⟨1, ![a]⟩ φ} (h : Rd x f) (i : Fin a) :
    (x (ix1 i) : EReal) = ((f i.val 0 0 0 : ℝ) : EReal) := h.at_ _
theorem Rd.two {a b : ℕ} {x : FVec Ideal ⟨2, ![a, b]⟩ φ} (h : Rd x f) (i : Fin a) (j : Fin b) :
    (x (ix2 i j) : EReal) = ((f i.val j.val 0 0 : ℝ) : EReal) := h.at_ _
theorem Rd.three {a b c : ℕ} {x : FVec Ideal ⟨3, ![a, b, c]⟩ φ} (h : Rd x f) (i : Fin a) (j : Fin b) (k : Fin c) :
    (x (ix3 i j k) : EReal) = ((f i.val j.val k.val 0 : ℝ) : EReal) := h.at_ _
theorem Rd.four {a b c d : ℕ} {x : FVec Ideal ⟨4, ![a, b, c, d]⟩ φ} (h : Rd x f) (i : Fin a) (j : Fin b) (k : Fin c)
    (l : Fin d) : (x (ix4 i j k l) : EReal) = ((f i.val j.val k.val l.val : ℝ) : EReal) := h.at_ _

theorem Rd.of1 {a : ℕ} {x : FVec Ideal ⟨1, ![a]⟩ φ} (h : ∀ i : Fin a, (x (ix1 i) : EReal) = ((f i.val 0 0 0 : ℝ) : EReal)) :
    Rd x f := ⟨fun i => by rw [eq_ix1 i]; exact h _⟩
theorem Rd.of2 {a b : ℕ} {x : FVec Ideal ⟨2, ![a, b]⟩ φ}
    (h : ∀ (i : Fin a) (j : Fin b), (x (ix2 i j) : EReal) = ((f i.val j.val 0 0 : ℝ) : EReal)) :
    Rd x f := ⟨fun i => by rw [eq_ix2 i]; exact h _ _⟩
theorem Rd.of3 {a b c : ℕ} {x : FVec Ideal ⟨3, ![a, b, c]⟩ φ}
    (h : ∀ (i : Fin a) (j : Fin b) (k : Fin c), (x (ix3 i j k) : EReal) = ((f i.val j.val k.val 0 : ℝ) : EReal)) :
    Rd x f := ⟨fun i => by rw [eq_ix3 i]; exact h _ _ _⟩
theorem Rd.of4 {a b c d : ℕ} {x : FVec Ideal ⟨4, ![a, b, c, d]⟩ φ}
    (h : ∀ (i : Fin a) (j : Fin b) (k : Fin c) (l : Fin d),
      (x (ix4 i j k l) : EReal) = ((f i.val j.val k.val l.val : ℝ) : EReal)) :
    Rd x f := ⟨fun i => by rw [eq_ix4 i]; exact h _ _ _ _⟩

theorem Rd.congr {x : FVec Ideal S φ} (h : Rd x f) (e : ∀ a b c d, f a b c d = g a b c d) : Rd x g :=
  ⟨fun i => by rw [h.at_ i, e]⟩

theorem Rd.congr2 {a b : ℕ} {x : FVec Ideal ⟨2, ![a, b]⟩ φ} (h : Rd x f)
    (e : ∀ i j, i < a → j < b → f i j 0 0 = g i j 0 0) : Rd x g :=
  Rd.of2 fun i j => by rw [h.two, e _ _ i.isLt j.isLt]
theorem Rd.congr3 {a b c : ℕ} {x : FVec Ideal ⟨3, ![a, b, c]⟩ φ} (h : Rd x f)
    (e : ∀ i j k, i < a → j < b → k < c → f i j k 0 = g i j k 0) : Rd x g :=
  Rd.of3 fun i j k => by rw [h.three, e _ _ _ i.isLt j.isLt k.isLt]
theorem Rd.congr4 {a b c d : ℕ} {x : FVec Ideal ⟨4, ![a, b, c, d]⟩ φ} (h : Rd x f)
    (e : ∀ i j k l, i < a → j < b → k < c → l < d → f i j k l = g i j k l) : Rd x g :=
  Rd.of4 fun i j k l => by rw [h.four, e _ _ _ _ i.isLt j.isLt k.isLt l.isLt]

/-! ### Elementwise operations -/

section Elem
variable (x y : FVec Ideal S φ) [hx : Rd x f] [hy : Rd y g]

instance Rd.addf : Rd (addf x y) (fun a b c d => f a b c d + g a b c d) :=
  ⟨fun i => by show (x i : EReal) + y i = _; rw [hx.at_ i, hy.at_ i, ← EReal.coe_add]⟩
instance Rd.subf : Rd (subf x y) (fun a b c d => f a b c d - g a b c d) :=
  ⟨fun i => by show (x i : EReal) - y i = _; rw [hx.at_ i, hy.at_ i, ← EReal.coe_sub]⟩
instance Rd.mulf : Rd (mulf x y) (fun a b c d => f a b c d * g a b c d) :=
  ⟨fun i => by show (x i : EReal) * y i = _; rw [hx.at_ i, hy.at_ i, ← EReal.coe_mul]⟩
instance Rd.exp : Rd (exp x) (fun a b c d => Real.exp (f a b c d)) :=
  ⟨fun i => by show Ideal.exp (x i) = _; rw [hx.at_ i, Ideal.exp_coe]⟩

/-- The error function of a real number. -/
def erfR (r : ℝ) : ℝ := 2 / Real.sqrt Real.pi * ∫ t in (0 : ℝ)..r, Real.exp (-(t ^ 2))

instance Rd.erf : Rd (erf x) (fun a b c d => erfR (f a b c d)) :=
  ⟨fun i => by show Ideal.erf (x i) = _; rw [hx.at_ i, Ideal.erf_coe]; rfl⟩
instance Rd.truncf (h : ψ.bits < φ.bits) : Rd (truncf ψ x h) f := ⟨fun i => hx.at_ i⟩

theorem Rd.rsqrt (hp : ∀ a b c d, 0 < f a b c d) : Rd (rsqrt x) (fun a b c d => (Real.sqrt (f a b c d))⁻¹) :=
  ⟨fun i => by
    show Ideal.rsqrt (x i) = _
    rw [hx.at_ i, Ideal.rsqrt_coe, if_neg (not_lt.2 (hp _ _ _ _).le), if_neg (hp _ _ _ _).ne']⟩

theorem Rd.divf (hp : ∀ a b c d, g a b c d ≠ 0) : Rd (divf x y) (fun a b c d => f a b c d / g a b c d) :=
  ⟨fun i => by
    show Ideal.div (x i) (y i) = _
    rw [hx.at_ i, hy.at_ i, Ideal.div_coe (hp _ _ _ _), ← EReal.coe_mul, mul_one_div]⟩

theorem hnegf : Rd (Host.negf x) (fun a b c d => -f a b c d) :=
  ⟨fun i => by show -(x i : EReal) = _; rw [hx.at_ i, ← EReal.coe_neg]⟩
end Elem

/-- A scalar that is the finite number `r`. -/
class Cst {φ : FTy} (c : Ideal φ) (r : outParam ℝ) : Prop where
  /-- Its value. -/
  eq : (c : EReal) = (r : EReal)

instance Rd.bc {r : ℝ} (c : Ideal φ) [h : Cst c r] : Rd (broadcast S c : FVec Ideal S φ) (fun _ _ _ _ => r) :=
  ⟨fun i => h.eq⟩

/-- The value of a 32-bit pattern. -/
class Lit (w : BitVec 32) (r : outParam ℝ) : Prop where
  /-- Its value. -/
  eq : Ideal.ofBits .f32 w = (r : EReal)

instance : Lit 0x00000000#32 0 := ⟨by simp [Ideal.ofBits, Ideal.ieee]⟩
instance : Lit 0x3F800000#32 1 := ⟨by simp [Ideal.ofBits, Ideal.ieee]; rw [← EReal.coe_mul]; norm_num⟩
instance : Lit 0x3F000000#32 (1 / 2) := ⟨by simp [Ideal.ofBits, Ideal.ieee]; norm_cast; norm_num⟩
instance : Lit 0xBF000000#32 (-(1 / 2)) := ⟨by simp [Ideal.ofBits, Ideal.ieee]; norm_cast; norm_num⟩
instance : Lit 0x40000000#32 2 := ⟨by simp [Ideal.ofBits, Ideal.ieee]; norm_cast; norm_num⟩
instance : Lit 0x40800000#32 4 := ⟨by simp [Ideal.ofBits, Ideal.ieee]; norm_cast; norm_num⟩
instance : Lit 0xC0000000#32 (-2) := ⟨by simp [Ideal.ofBits, Ideal.ieee]; norm_cast; norm_num⟩
instance : Lit 0x43000000#32 128 := ⟨by simp [Ideal.ofBits, Ideal.ieee]; norm_cast; norm_num⟩
instance : Lit 0x44000000#32 512 := ⟨by simp [Ideal.ofBits, Ideal.ieee]; norm_cast; norm_num⟩
/-- The number added to a variance. -/
def eps : ℝ := 8796093 * ((2 : ℝ) ^ 43)⁻¹
instance : Lit 0x358637BD#32 eps := ⟨by simp [Ideal.ofBits, Ideal.ieee, eps]⟩
theorem eps_pos : 0 < eps := by unfold eps; positivity

instance Cst.lit {r : ℝ} (w : BitVec 32) [h : Lit w r] : Cst (Scalar.ofBits (F := Ideal) .f32 w) r := ⟨h.eq⟩
instance Rd.constant {r : ℝ} (w : BitVec 32) [h : Lit w r] : Rd (constant (F := Ideal) S .f32 w) (fun _ _ _ _ => r) :=
  ⟨fun i => h.eq⟩

/-! ### Layout operations -/

instance Rd.slice2 {a b a' b' o p : ℕ} (x : FVec Ideal ⟨2, ![a, b]⟩ φ) [hx : Rd x f]
    (h : (⟨2, ![a, b]⟩ : Shape).Slices ![o, p] ⟨2, ![a', b']⟩) :
    Rd (φ := φ) (extractStridedSlice ⟨2, ![a', b']⟩ ![o, p] x h) (fun i j k l => f (o + i) (p + j) k l) :=
  Rd.of2 fun i j => by
    unfold extractStridedSlice
    rw [hx.at_]; rfl

instance Rd.bcol {a b : ℕ} (x : FVec Ideal ⟨2, ![a, 1]⟩ φ) [hx : Rd x f]
    (h : (⟨2, ![a, 1]⟩ : Shape).Broadcasts ⟨2, ![a, b]⟩) :
    Rd (φ := φ) (broadcastTo ⟨2, ![a, b]⟩ x h) (fun i _ _ _ => f i 0 0 0) :=
  Rd.of2 fun i j => by
    unfold broadcastTo
    rw [hx.at_]
    have := i.isLt
    by_cases ha : a = 1
    · subst ha
      have : i.val = 0 := by omega
      simp [co, this]
    · simp [co, ha]

instance Rd.brow {a b : ℕ} (x : FVec Ideal ⟨2, ![1, b]⟩ φ) [hx : Rd x f]
    (h : (⟨2, ![1, b]⟩ : Shape).Broadcasts ⟨2, ![a, b]⟩) :
    Rd (φ := φ) (broadcastTo ⟨2, ![a, b]⟩ x h) (fun _ j _ _ => f 0 j 0 0) :=
  Rd.of2 fun i j => by
    unfold broadcastTo
    rw [hx.at_]
    have := j.isLt
    by_cases ha : b = 1
    · subst ha
      have : j.val = 0 := by omega
      simp [co, this]
    · simp [co, ha]

instance Rd.tr2 {a b : ℕ} (x : FVec Ideal ⟨2, ![a, b]⟩ φ) [hx : Rd x f]
    (h : (⟨2, ![a, b]⟩ : Shape).Transposes [1, 0] ⟨2, ![b, a]⟩) :
    Rd (φ := φ) (transpose ⟨2, ![b, a]⟩ [1, 0] x h) (fun i j _ _ => f j i 0 0) :=
  Rd.of2 fun i j => by
    rw [transpose_apply [1, 0] x h (ix2 i j) (ix2 j i) fun b => by
      match b with
      | ⟨0, _⟩ => rfl
      | ⟨1, _⟩ => rfl]
    exact hx.two _ _

instance Rd.castId {S : Shape} (x : FVec Ideal S φ) [hx : Rd x f] (h : S.ShapeCasts S) :
    Rd (φ := φ) (shapeCast S x h) f := by
  rw [shapeCast_self]; exact hx

instance Rd.castCol {a : ℕ} (x : FVec Ideal ⟨1, ![a]⟩ φ) [hx : Rd x f]
    (h : (⟨1, ![a]⟩ : Shape).ShapeCasts ⟨2, ![a, 1]⟩) :
    Rd (φ := φ) (shapeCast ⟨2, ![a, 1]⟩ x h) (fun i _ _ _ => f i 0 0 0) :=
  Rd.of2 fun i j => by
    rw [shapeCast_apply x h (ix2 i j) (ix1 i) (by
      rw [Shape.rowMajor_val_one, Shape.rowMajor_val_two]
      have := j.isLt
      show i.val = i.val * 1 + j.val
      omega)]
    exact hx.one _

instance Rd.castRow {a : ℕ} (x : FVec Ideal ⟨1, ![a]⟩ φ) [hx : Rd x f]
    (h : (⟨1, ![a]⟩ : Shape).ShapeCasts ⟨2, ![1, a]⟩) :
    Rd (φ := φ) (shapeCast ⟨2, ![1, a]⟩ x h) (fun _ j _ _ => f j 0 0 0) :=
  Rd.of2 fun i j => by
    rw [shapeCast_apply x h (ix2 i j) (ix1 j) (by
      rw [Shape.rowMajor_val_one, Shape.rowMajor_val_two]
      have hi : i.val = 0 := by omega
      show j.val = i.val * a + j.val
      rw [hi]; omega)]
    exact hx.one _

instance Rd.castDrop {a b : ℕ} (x : FVec Ideal ⟨3, ![1, a, b]⟩ φ) [hx : Rd x f]
    (h : (⟨3, ![1, a, b]⟩ : Shape).ShapeCasts ⟨2, ![a, b]⟩) :
    Rd (φ := φ) (shapeCast ⟨2, ![a, b]⟩ x h) (fun i j _ _ => f 0 i j 0) :=
  Rd.of2 fun i j => by
    rw [shapeCast_apply x h (ix2 i j) (ix3 0 i j) (by
      rw [Shape.rowMajor_val_three, Shape.rowMajor_val_two]
      show (0 * a + i.val) * b + j.val = i.val * b + j.val
      rw [Nat.zero_mul, Nat.zero_add])]
    exact hx.three _ _ _

instance Rd.castAdd {a b : ℕ} (x : FVec Ideal ⟨2, ![a, b]⟩ φ) [hx : Rd x f]
    (h : (⟨2, ![a, b]⟩ : Shape).ShapeCasts ⟨3, ![1, a, b]⟩) :
    Rd (φ := φ) (shapeCast ⟨3, ![1, a, b]⟩ x h) (fun _ i j _ => f i j 0 0) :=
  Rd.of3 fun k i j => by
    rw [shapeCast_apply x h (ix3 k i j) (ix2 i j) (by
      rw [Shape.rowMajor_val_three, Shape.rowMajor_val_two]
      have hk : k.val = 0 := by omega
      show i.val * b + j.val = (k.val * a + i.val) * b + j.val
      rw [hk, Nat.zero_mul, Nat.zero_add])]
    exact hx.two _ _

/-! ### Sums -/

theorem coe_sum_range (n : ℕ) (u : Fin n → EReal) (v : ℕ → ℝ) (h : ∀ k : Fin n, u k = ((v k.val : ℝ) : EReal)) :
    ∑ k, u k = ((∑ k ∈ Finset.range n, v k : ℝ) : EReal) := by
  rw [Finset.sum_congr rfl fun k _ => h k, Finset.sum_range]
  exact (map_sum (⟨⟨Real.toEReal, EReal.coe_zero⟩, EReal.coe_add⟩ : ℝ →+ EReal) _ _).symm

instance Rd.sum1 {a b : ℕ} (x : FVec Ideal ⟨2, ![a, b]⟩ φ) [hx : Rd x f] (acc : BitVec φ.bits)
    (h : (⟨2, ![a, b]⟩ : Shape).Reduces [1] ⟨1, ![a]⟩) (h1 h2) :
    Rd (multiReduction .add [1] ⟨1, ![a]⟩ x acc h h1 h2) (fun i _ _ _ => ∑ k ∈ Finset.range b, f i k 0 0) :=
  Rd.of1 fun i => by
    pointwise
    exact coe_sum_range _ _ (fun k => f i.val k 0 0) fun k => hx.two _ _

instance Rd.sum0 {a b : ℕ} (x : FVec Ideal ⟨2, ![a, b]⟩ φ) [hx : Rd x f] (acc : BitVec φ.bits)
    (h : (⟨2, ![a, b]⟩ : Shape).Reduces [0] ⟨1, ![b]⟩) (h1 h2) :
    Rd (multiReduction .add [0] ⟨1, ![b]⟩ x acc h h1 h2) (fun j _ _ _ => ∑ k ∈ Finset.range a, f k j 0 0) :=
  Rd.of1 fun i => by
    pointwise
    exact coe_sum_range _ _ (fun k => f k i.val 0 0) fun k => hx.two _ _

end Calc
-- ==== Proof.Spec.lean ====
module

public import proofs.«01_k».proof.Proof.Calc

@[expose] public section

noncomputable section

/-! The gradient of the mixer in real numbers: the arguments, and every quantity of the backward pass, at a global
position `n` and a channel `d` (natural numbers). -/

namespace Calc

/-- The distribution function of the normal law. -/
def cdfR (x : ℝ) : ℝ := 1 / 2 * (1 + erfR (x * (Real.sqrt 2)⁻¹))
/-- The derivative of `x * cdfR x`. -/
def dgeluR (x : ℝ) : ℝ := cdfR x + x * ((Real.sqrt (2 * Real.pi))⁻¹ * Real.exp (-(1 / 2) * x * x))
/-- A mean of `n` numbers. -/
def meanR (n : ℕ) (u : ℕ → ℝ) : ℝ := (∑ k ∈ Finset.range n, u k) / n
/-- The distance from the mean. -/
def cenR (n : ℕ) (u : ℕ → ℝ) (k : ℕ) : ℝ := u k - meanR n u
/-- The variance with the small number added. -/
def varR (n : ℕ) (u : ℕ → ℝ) : ℝ := meanR n (fun k => cenR n u k * cenR n u k) + eps
/-- The inverse deviation. -/
def rstdR (n : ℕ) (u : ℕ → ℝ) : ℝ := (Real.sqrt (varR n u))⁻¹
/-- The normalized number. -/
def xhatR (n : ℕ) (u : ℕ → ℝ) (k : ℕ) : ℝ := cenR n u k * rstdR n u
/-- The gradient through a normalization: `g` the gradient, `h` the normalized numbers. -/
def lnbR (n : ℕ) (rs : ℝ) (g h : ℕ → ℝ) (k : ℕ) : ℝ :=
  rs * (g k - meanR n g - h k * meanR n (fun k => g k * h k))

theorem varR_pos (n : ℕ) (u : ℕ → ℝ) : 0 < varR n u := by
  unfold varR meanR
  have : 0 ≤ (∑ k ∈ Finset.range n, cenR n u k * cenR n u k) / (n : ℝ) :=
    div_nonneg (Finset.sum_nonneg fun _ _ => mul_self_nonneg _) (Nat.cast_nonneg _)
  have := eps_pos
  linarith

/-- The arguments. -/
structure Args where
  /-- The gradient of the result. -/
  dx : ℕ → ℕ → ℝ
  /-- The output weight. -/
  wo : ℕ → ℕ → ℝ
  /-- The projections. -/
  pr : ℕ → ℕ → ℝ
  /-- The taps' sum. -/
  c0 : ℕ → ℕ → ℝ
  /-- The gating normalization's gain. -/
  lg : ℕ → ℝ
  /-- The gating normalization's bias. -/
  lb : ℕ → ℝ
  /-- The spatial weights. -/
  w : ℕ → ℕ → ℕ → ℝ
  /-- The spatial bias. -/
  b : ℕ → ℕ → ℝ
  /-- The convolution's bias. -/
  cb : ℕ → ℝ
  /-- The convolution's normalization gain. -/
  clg : ℕ → ℝ
  /-- The convolution's normalization bias. -/
  clb : ℕ → ℝ

namespace Args
variable (A : Args)

/-- The gating branch after its activation. -/
def vg (n d : ℕ) : ℝ := A.pr n (512 + d) * cdfR (A.pr n (512 + d))
/-- Its inverse deviation. -/
def rsv (n : ℕ) : ℝ := rstdR 512 (A.vg n)
/-- Normalized. -/
def xh (n d : ℕ) : ℝ := xhatR 512 (A.vg n) d
/-- With gain and bias. -/
def v (n d : ℕ) : ℝ := A.xh n d * A.lg d + A.lb d
/-- The gated branch after its activation. -/
def u (n d : ℕ) : ℝ := A.pr n d * cdfR (A.pr n d)
/-- The gradient of the mixed channels. -/
def dmix (n k : ℕ) : ℝ := ∑ j ∈ Finset.range 1024, A.dx n j * A.wo k j
/-- The causal spatial weights. -/
def wm (h t s : ℕ) : ℝ := if s ≤ t then A.w h t s else 0
/-- The spatial mixing of a chunk. -/
def mixed (n d : ℕ) : ℝ :=
  (∑ s ∈ Finset.range 128, A.wm (d / 128) (n % 128) s * A.v (n / 128 * 128 + s) d) + A.b (d / 128) (n % 128)
/-- The gradient of the mixing. -/
def dmixed (n d : ℕ) : ℝ := A.dmix n d * A.u n d
/-- The gradient of `v`. -/
def dv (n d : ℕ) : ℝ :=
  ∑ t ∈ Finset.range 128, A.wm (d / 128) t (n % 128) * A.dmixed (n / 128 * 128 + t) d
/-- The gradient of `vg`. -/
def dvg (n d : ℕ) : ℝ := lnbR 512 (A.rsv n) (fun d => A.dv n d * A.lg d) (A.xh n) d
/-- The gradient of the two projections. -/
def dpa (n d : ℕ) : ℝ :=
  if d < 512 then A.dmix n d * A.mixed n d * dgeluR (A.pr n d) else A.dvg n (d - 512) * dgeluR (A.pr n d)
/-- The convolution's sum with its bias. -/
def cc (n d : ℕ) : ℝ := A.c0 n d + A.cb d
/-- Its inverse deviation in the group `q`. -/
def crs (n q : ℕ) : ℝ := rstdR 128 (fun e => A.cc n (q * 128 + e))
/-- Normalized in its group. -/
def chat (n d : ℕ) : ℝ := xhatR 128 (fun e => A.cc n (d / 128 * 128 + e)) (d % 128)
/-- With gain and bias. -/
def z (n d : ℕ) : ℝ := A.chat n d * A.clg d + A.clb d
/-- The sigmoid. -/
def sg (n d : ℕ) : ℝ := 1 / (1 + Real.exp (-A.z n d))
/-- The gradient of `z`. -/
def dz (n d : ℕ) : ℝ := A.dmix n (512 + d) * (A.sg n d * (1 + A.z n d * (1 - A.sg n d)))
/-- The gradient of the convolution. -/
def dc (n d : ℕ) : ℝ :=
  lnbR 128 (A.crs n (d / 128)) (fun e => A.dz n (d / 128 * 128 + e) * A.clg (d / 128 * 128 + e))
    (fun e => A.chat n (d / 128 * 128 + e)) (d % 128)
/-- The mixed channels. -/
def mix (n k : ℕ) : ℝ :=
  if k < 512 then A.u n k * A.mixed n k else A.z n (k - 512) * A.sg n (k - 512)

/-- The sums over the first `N` positions. -/
def dlb (N d : ℕ) : ℝ := ∑ n ∈ Finset.range N, A.dv n d
/-- The gradient of the gating gain. -/
def dlg (N d : ℕ) : ℝ := ∑ n ∈ Finset.range N, A.dv n d * A.xh n d
/-- The gradient of the convolution's bias. -/
def dcb (N d : ℕ) : ℝ := ∑ n ∈ Finset.range N, A.dc n d
/-- The gradient of its gain. -/
def dclg (N d : ℕ) : ℝ := ∑ n ∈ Finset.range N, A.dz n d * A.chat n d
/-- The gradient of its normalization bias. -/
def dclb (N d : ℕ) : ℝ := ∑ n ∈ Finset.range N, A.dz n d
/-- The gradient of the output weight. -/
def dwo (N i j : ℕ) : ℝ := ∑ n ∈ Finset.range N, A.mix n i * A.dx n j
/-- The gradient of the full spatial weights, over the first `C` chunks. -/
def dws (C h t s : ℕ) : ℝ :=
  ∑ c ∈ Finset.range C, ∑ e ∈ Finset.range 128,
    A.dmixed (c * 128 + t) (h * 128 + e) * A.v (c * 128 + s) (h * 128 + e)
/-- The gradient of the causal spatial weights. -/
def dwm (C h t s : ℕ) : ℝ := if s ≤ t then A.dws C h t s else 0
/-- The sum over the chunks before the sum over the channels of a head. -/
def dbt (C t d : ℕ) : ℝ := ∑ c ∈ Finset.range C, A.dmixed (c * 128 + t) d
/-- The gradient of the spatial bias. -/
def dbs (C h t : ℕ) : ℝ := ∑ e ∈ Finset.range 128, A.dbt C t (h * 128 + e)

end Args
end Calc
-- ==== Proof.Finite.lean ====
module

public import proofs.«01_k».proof.Pre_finite
public import proofs.«01_k».proof.Proof.Spec

@[expose] public section

noncomputable section

/-! Arrays of finite numbers from the precondition: the numbers an array holds, and that a comparison of every element's
size with infinity says they are real. -/

namespace Calc

open Idealize.ShloMosaic

/-- The facts the precondition's function states. -/
theorem finiteFacts : Cert.Pre_finite.Facts where
  bcast_S_S4096x1024 := by decide
  bcast_S_S1024x1024 := by decide
  bcast_S_S4096x2048 := by decide
  bcast_S_S4096x512 := by decide
  bcast_S_S512 := by decide
  bcast_S_S4x128x128 := by decide
  bcast_S_S4x128 := by decide

/-- Every element of the array is below infinity in size. -/
abbrev Below (S : Shape) (x : FVec Ideal S .f32) (h : (⟨0, ![]⟩ : Shape).BroadcastsInDim S ![]) : Prop :=
  cmpf (F := Ideal) (φ := .f32) .olt (Host.absf x) (broadcastInDim S ![] h (constant ⟨0, ![]⟩ .f32 0x7F800000#32)) = fun _ => 1#1

theorem below_real {S : Shape} {x : FVec Ideal S .f32} {h : (⟨0, ![]⟩ : Shape).BroadcastsInDim S ![]} (hx : Below S x h)
    (i : S.Idx) : (x i : EReal) = ((EReal.toReal (x i) : ℝ) : EReal) := by
  have e := congrFun hx i
  have top : Ideal.ofBits .f32 0x7F800000#32 = (⊤ : EReal) := by simp [Ideal.ofBits, Ideal.ieee]
  have e' : BitVec.ofBool (decide (max (x i : EReal) (-(x i : EReal)) < Ideal.ofBits .f32 0x7F800000#32)) = 1#1 := e
  rw [top] at e'
  have lt : max (x i : EReal) (-(x i : EReal)) < ⊤ := by
    by_contra hc
    rw [decide_eq_false hc] at e'
    exact absurd e' (by decide)
  have l := max_lt_iff.mp lt
  refine (EReal.coe_toReal l.1.ne fun hb => ?_).symm
  rw [hb] at l
  exact absurd l.2 (by simp)

/-- The numbers of an array with one axis. -/
def num1 {a : ℕ} (x : FVec Ideal ⟨1, ![a]⟩ .f32) (i : ℕ) : ℝ := if h : i < a then EReal.toReal (x (ix1 ⟨i, h⟩)) else 0
/-- The numbers of an array with two axes. -/
def num2 {a b : ℕ} (x : FVec Ideal ⟨2, ![a, b]⟩ .f32) (i j : ℕ) : ℝ :=
  if h : i < a ∧ j < b then EReal.toReal (x (ix2 ⟨i, h.1⟩ ⟨j, h.2⟩)) else 0
/-- The numbers of an array with three axes. -/
def num3 {a b c : ℕ} (x : FVec Ideal ⟨3, ![a, b, c]⟩ .f32) (i j k : ℕ) : ℝ :=
  if h : i < a ∧ j < b ∧ k < c then EReal.toReal (x (ix3 ⟨i, h.1⟩ ⟨j, h.2.1⟩ ⟨k, h.2.2⟩)) else 0

theorem Rd.num1 {a : ℕ} {x : FVec Ideal ⟨1, ![a]⟩ .f32} {h} (hx : Below _ x h) : Rd x (fun i _ _ _ => num1 x i) :=
  Rd.of1 fun i => by rw [below_real hx]; unfold Calc.num1; rw [dif_pos i.isLt]
theorem Rd.num2 {a b : ℕ} {x : FVec Ideal ⟨2, ![a, b]⟩ .f32} {h} (hx : Below _ x h) : Rd x (fun i j _ _ => num2 x i j) :=
  Rd.of2 fun i j => by rw [below_real hx]; unfold Calc.num2; rw [dif_pos ⟨i.isLt, j.isLt⟩]
theorem Rd.num3 {a b c : ℕ} {x : FVec Ideal ⟨3, ![a, b, c]⟩ .f32} {h} (hx : Below _ x h) :
    Rd x (fun i j k _ => num3 x i j k) :=
  Rd.of3 fun i j k => by rw [below_real hx]; unfold Calc.num3; rw [dif_pos ⟨i.isLt, j.isLt, k.isLt⟩]

/-- Two descriptions of the same numbers are the same array. -/
theorem Rd.same {S : Shape} {φ : FTy} {f g : ℕ → ℕ → ℕ → ℕ → ℝ} {x y : FVec Ideal S φ} (hx : Rd x f) (hy : Rd y g)
    (e : f = g) : x = y := by
  subst e
  funext i
  exact (hx.at_ i).trans (hy.at_ i).symm

end Calc
-- ==== Proof.KTile.lean ====
module

public import proofs.«01_k».proof.Proof.Spec
public import proofs.«01_k».proof.Proof.Gen.KernelIdeal.Skeleton
public import Idealize.ShloMosaic.Lib.Pipeline.ValueKit

@[expose] public section

set_option maxRecDepth 16384

noncomputable section

/-! One step of the kernel's body in real numbers. -/

namespace Cert.KernelIdeal.Tile

open Idealize.ShloMosaic Cert.KernelIdeal Cert.KernelIdeal.Gen Calc

variable {φ ψ : FTy} {f g : ℕ → ℕ → ℕ → ℕ → ℝ}

instance : Cst (Named.named (F := Ideal) (φ := .f32) κ "sqrt_half" 0x3F3504F3#32) (Real.sqrt 2)⁻¹ :=
  ⟨IdealRules.named_const.ideal_named_scalar _ _ _ _ rfl⟩
instance : Cst (Named.named (F := Ideal) (φ := .f32) κ "inv_sqrt_2pi" 0x3ECC422A#32) (Real.sqrt (2 * Real.pi))⁻¹ :=
  ⟨IdealRules.named_const.ideal_named_scalar _ _ _ _ rfl⟩

section Sums
instance sumR512 (x : FVec Ideal S512x512 .f32) [hx : Rd x f] (h : S512x512.Reduces [1] S512) :
    Rd (φ := .f32) (multiReduction .add [1] S512 x 0x00000000#32 h (.inl rfl) rfl)
      (fun i _ _ _ => ∑ k ∈ Finset.range 512, f i k 0 0) := Rd.sum1 _ _ _ _ _
instance sumR128 (x : FVec Ideal S512x128 .f32) [hx : Rd x f] (h : S512x128.Reduces [1] S512) :
    Rd (φ := .f32) (multiReduction .add [1] S512 x 0x00000000#32 h (.inl rfl) rfl)
      (fun i _ _ _ => ∑ k ∈ Finset.range 128, f i k 0 0) := Rd.sum1 _ _ _ _ _
instance sumC512 (x : FVec Ideal S512x512 .f32) [hx : Rd x f] (h : S512x512.Reduces [0] S512) :
    Rd (φ := .f32) (multiReduction .add [0] S512 x 0x00000000#32 h (.inl rfl) rfl)
      (fun i _ _ _ => ∑ k ∈ Finset.range 512, f k i 0 0) := Rd.sum0 _ _ _ _ _
instance sumC128 (x : FVec Ideal S512x128 .f32) [hx : Rd x f] (h : S512x128.Reduces [0] S128) :
    Rd (φ := .f32) (multiReduction .add [0] S128 x 0x00000000#32 h (.inl rfl) rfl)
      (fun i _ _ _ => ∑ k ∈ Finset.range 512, f k i 0 0) := Rd.sum0 _ _ _ _ _
instance sumT128 (x : FVec Ideal S128x128 .f32) [hx : Rd x f] (h : S128x128.Reduces [0] S128) :
    Rd (φ := .f32) (multiReduction .add [0] S128 x 0x00000000#32 h (.inl rfl) rfl)
      (fun i _ _ _ => ∑ k ∈ Finset.range 128, f k i 0 0) := Rd.sum0 _ _ _ _ _
end Sums

section Dots
instance dotNN (x : FVec Ideal S128x128 φ) (y : FVec Ideal S128x128 ψ) [hx : Rd x f] [hy : Rd y g] :
    Rd (matmul dot_S128x128_S128x128_S128x128_1_0_0_1_n_n none x y (constant S128x128 .f32 0x00000000#32))
      (fun i j _ _ => ∑ k ∈ Finset.range 128, f i k 0 0 * g k j 0 0) :=
  Rd.of2 fun i j => by
    pointwise
    exact coe_sum_range _ _ (fun k => f i.val k 0 0 * g k j.val 0 0) fun k => by rw [hx.two, hy.two, EReal.coe_mul]
instance dotTN (x : FVec Ideal S128x128 φ) (y : FVec Ideal S128x128 ψ) [hx : Rd x f] [hy : Rd y g] :
    Rd (matmul dot_S128x128_S128x128_S128x128_0_0_1_1_n_n none x y (constant S128x128 .f32 0x00000000#32))
      (fun i j _ _ => ∑ k ∈ Finset.range 128, f k i 0 0 * g k j 0 0) :=
  Rd.of2 fun i j => by
    pointwise
    exact coe_sum_range _ _ (fun k => f k i.val 0 0 * g k j.val 0 0) fun k => by rw [hx.two, hy.two, EReal.coe_mul]
instance dotNT (x : FVec Ideal S128x128 φ) (y : FVec Ideal S128x128 ψ) [hx : Rd x f] [hy : Rd y g] :
    Rd (matmul dot_S128x128_S128x128_S128x128_1_1_0_0_n_n none x y (constant S128x128 .f32 0x00000000#32))
      (fun i j _ _ => ∑ k ∈ Finset.range 128, f i k 0 0 * g j k 0 0) :=
  Rd.of2 fun i j => by
    pointwise
    exact coe_sum_range _ _ (fun k => f i.val k 0 0 * g j.val k 0 0) fun k => by rw [hx.two, hy.two, EReal.coe_mul]
instance dotDW (x : FVec Ideal S512x1024 φ) (y : FVec Ideal S512x1024 ψ) [hx : Rd x f] [hy : Rd y g] :
    Rd (matmul dot_S512x1024_S512x1024_S1024x1024_0_0_1_1_n_n none x y (constant S1024x1024 .f32 0x00000000#32))
      (fun i j _ _ => ∑ k ∈ Finset.range 512, f k i 0 0 * g k j 0 0) :=
  Rd.of2 fun i j => by
    pointwise
    exact coe_sum_range _ _ (fun k => f k i.val 0 0 * g k j.val 0 0) fun k => by rw [hx.two, hy.two, EReal.coe_mul]
instance dotDM (x : FVec Ideal S512x1024 φ) (y : FVec Ideal S1024x1024 ψ) [hx : Rd x f] [hy : Rd y g] :
    Rd (matmul dot_S512x1024_S1024x1024_S512x1024_1_1_0_0_n_n none x y (constant S512x1024 .f32 0x00000000#32))
      (fun i j _ _ => ∑ k ∈ Finset.range 1024, f i k 0 0 * g j k 0 0) :=
  Rd.of2 fun i j => by
    pointwise
    exact coe_sum_range _ _ (fun k => f i.val k 0 0 * g j.val k 0 0) fun k => by rw [hx.two, hy.two, EReal.coe_mul]
end Dots

theorem sge_word (i j : Fin 128) :
    IntOp.cmpi CmpIPredicate.sge (BitVec.ofNat 32 i.val) (BitVec.ofNat 32 j.val) = if j.val ≤ i.val then 1#1 else 0#1 := by
  revert i j; decide +kernel

instance mask (x : FVec Ideal S128x128 .f32) (y : FVec Ideal S128x128 .f32) [hx : Rd x f] [hy : Rd y g] :
    Rd (φ := .f32) (select k0_pay31 x y) (fun i j _ _ => if j ≤ i then f i j 0 0 else g i j 0 0) :=
  Rd.of2 fun i j => by
    pointwise [k0_pay31]
    rw [sge_word]
    by_cases h : j.val ≤ i.val
    · rw [if_pos h, if_pos h]; exact hx.two _ _
    · rw [if_neg h, if_neg h]; exact hy.two _ _

/-! ### Loads of a part of a block, and what a load finds after the body's own stores -/

section Loads
instance ld2 {a b o p s u : ℕ} (x : Vec Ideal ⟨2, ![a, b]⟩ .f32) [hx : Rd (φ := .f32) x f]
    (h : ∀ c, (![o, p] : Fin 2 → ℕ) c + (![s, u] : Fin 2 → ℕ) c ≤ (⟨2, ![a, b]⟩ : Shape).size c) :
    Rd (S := ⟨2, ![s, u]⟩) (φ := .f32)
      (View.ld (Val := Elt Ideal) (e' := .f32) x (Rect.unit (s := ⟨2, ![a, b]⟩) ![o, p] ![s, u] h))
      (fun i j k l => f (o + i) (p + j) k l) :=
  Rd.of2 fun i j => by
    show x _ = _
    rw [hx.at_]
    simp [co]
instance ld3 {a b c o p q s u w : ℕ} (x : Vec Ideal ⟨3, ![a, b, c]⟩ .f32) [hx : Rd (φ := .f32) x f]
    (h : ∀ d, (![o, p, q] : Fin 3 → ℕ) d + (![s, u, w] : Fin 3 → ℕ) d ≤ (⟨3, ![a, b, c]⟩ : Shape).size d) :
    Rd (S := ⟨3, ![s, u, w]⟩) (φ := .f32)
      (View.ld (Val := Elt Ideal) (e' := .f32) x (Rect.unit (s := ⟨3, ![a, b, c]⟩) ![o, p, q] ![s, u, w] h))
      (fun i j k l => f (o + i) (p + j) (q + k) l) :=
  Rd.of3 fun i j k => by
    show x _ = _
    rw [hx.at_]
    simp [co]
end Loads

/-! ### Quotients and inverse roots that occur -/

section Quot
variable {S : Shape} {r : ℝ}
/-- A number that may be divided by. -/
class Den (c : Ideal .f32) (r : outParam ℝ) : Prop where
  /-- Its value. -/
  cst : Cst c r
  /-- It is not zero. -/
  ne : r ≠ 0
instance : Den (Scalar.ofBits (F := Ideal) .f32 0x43000000#32) 128 := ⟨inferInstance, by norm_num⟩
instance : Den (Scalar.ofBits (F := Ideal) .f32 0x44000000#32) 512 := ⟨inferInstance, by norm_num⟩
instance divC (x : FVec Ideal S .f32) [hx : Rd x f] (c : Ideal .f32) [h : Den c r] :
    Rd (divf x (broadcast S c : FVec Ideal S .f32)) (fun a b c d => f a b c d / r) :=
  haveI := h.cst
  Rd.divf _ _ fun _ _ _ _ => h.ne
instance divE (x z : FVec Ideal S .f32) [hx : Rd x f] [hz : Rd z g] :
    Rd (divf x (addf (broadcast S (Scalar.ofBits .f32 0x3F800000#32) : FVec Ideal S .f32) (exp z)))
      (fun a b c d => f a b c d / (1 + Real.exp (g a b c d))) :=
  Rd.divf _ _ fun _ _ _ _ => (add_pos one_pos (Real.exp_pos _)).ne'
instance rsq128 (x : FVec Ideal S512x128 .f32) [hx : Rd x f] (h h' : _) :
    Rd (rsqrt (addf (divf (shapeCast S512x1 (multiReduction .add [1] S512 (mulf x x) 0x00000000#32 h (.inl rfl) rfl) h')
      (broadcast S512x1 (Scalar.ofBits .f32 0x43000000#32))) (broadcast S512x1 (Scalar.ofBits .f32 0x358637BD#32))))
      (fun a _ _ _ => (Real.sqrt ((∑ k ∈ Finset.range 128, f a k 0 0 * f a k 0 0) / 128 + eps))⁻¹) :=
  Rd.rsqrt _ fun _ _ _ _ => add_pos_of_nonneg_of_pos
    (div_nonneg (Finset.sum_nonneg fun _ _ => mul_self_nonneg _) (by norm_num)) eps_pos
instance rsq512 (x : FVec Ideal S512x512 .f32) [hx : Rd x f] (h h' : _) :
    Rd (rsqrt (addf (divf (shapeCast S512x1 (multiReduction .add [1] S512 (mulf x x) 0x00000000#32 h (.inl rfl) rfl) h')
      (broadcast S512x1 (Scalar.ofBits .f32 0x44000000#32))) (broadcast S512x1 (Scalar.ofBits .f32 0x358637BD#32))))
      (fun a _ _ _ => (Real.sqrt ((∑ k ∈ Finset.range 512, f a k 0 0 * f a k 0 0) / 512 + eps))⁻¹) :=
  Rd.rsqrt _ fun _ _ _ _ => add_pos_of_nonneg_of_pos
    (div_nonneg (Finset.sum_nonneg fun _ _ => mul_self_nonneg _) (by norm_num)) eps_pos
end Quot

/-- The block of 512 positions a grid point works on, of given arguments. -/
class Step (A : outParam Args) (t : outParam ℕ) : Prop where
  /-- Nothing to say. -/
  ok : True

section Stages
variable {A : Args} {t : ℕ} [hA : Step A t]

instance s18 (x : FVec Ideal S512x1024 .bf16) (y : FVec Ideal S1024x1024 .bf16)
    [Rd x (fun r j _ _ => A.dx (512 * t + r) j)] [Rd y (fun k j _ _ => A.wo k j)] :
    Rd (φ := .f32) (k0_pay22 x y) (fun r k _ _ => A.dmix (512 * t + r) k) := by
  refine Rd.congr (by unfold k0_pay22; exact inferInstance) fun _ _ _ _ => rfl

instance s27 (x : FVec Ideal S512x512 .f32) [Rd x f] : Rd (φ := .f32) (k0_pay23 x) (fun a b c d => cdfR (f a b c d)) := by
  refine Rd.congr (by unfold k0_pay23; exact inferInstance) fun _ _ _ _ => rfl

instance s28 (x : FVec Ideal S512x512 .f32) [Rd x f] : Rd (φ := .f32) (k0_pay24 x) (fun a b c d => f a b c d * cdfR (f a b c d)) := by
  refine Rd.congr (by unfold k0_pay24; exact inferInstance) fun _ _ _ _ => rfl

instance s35 (x : FVec Ideal S512x512 .f32) [Rd x f] : Rd (φ := .f32) (k0_pay26 (k0_pay25 x)) (fun a b c d => cdfR (f a b c d)) := by
  refine Rd.congr (by unfold k0_pay26 k0_pay25; exact inferInstance) fun _ _ _ _ => rfl

/-- The numbers of the gating branch. -/
class Gate (A : outParam Args) (t : outParam ℕ) (f : ℕ → ℕ → ℕ → ℕ → ℝ) : Prop where
  /-- They are the second half of the projections. -/
  eq : f = fun r d _ _ => A.pr (512 * t + (0 + r)) (512 + d)
instance : Gate A t (fun r d _ _ => A.pr (512 * t + (0 + r)) (512 + d)) := ⟨rfl⟩

variable (va : FVec Ideal S512x512 .f32) [hv : Rd va f] [hg : Gate A t f]

instance s42 : Rd (φ := .f32) (k0_pay27 va (k0_pay25 va)) (fun r d _ _ => cenR 512 (A.vg (512 * t + r)) d) := by
  refine Rd.congr (by unfold k0_pay27; exact inferInstance) fun a b _ _ => by
    rw [hg.eq]; simp only [Nat.zero_add]; rfl

instance s50 : Rd (φ := .f32) (k0_pay28 va (k0_pay25 va)) (fun r _ _ _ => A.rsv (512 * t + r)) := by
  refine Rd.congr (by unfold k0_pay28; exact inferInstance) fun _ _ _ _ => rfl

instance s52 : Rd (φ := .f32) (k0_pay29 va (k0_pay25 va)) (fun r d _ _ => A.xh (512 * t + r) d) := by
  refine Rd.congr (by unfold k0_pay29; exact inferInstance) fun _ _ _ _ => rfl

instance s61 (x y : FVec Ideal S1x512 .f32) [Rd x (fun _ d _ _ => A.lg d)] [Rd y (fun _ d _ _ => A.lb d)] :
    Rd (φ := .bf16) (k0_pay30 va (k0_pay25 va) x y) (fun r d _ _ => A.v (512 * t + r) d) := by
  refine Rd.congr (by unfold k0_pay30; exact inferInstance) fun _ _ _ _ => rfl

end Stages

end Cert.KernelIdeal.Tile
-- ==== Proof.RefMath.lean ====
module

public import proofs.«01_k».proof.Proof.Spec

@[expose] public section

noncomputable section

/-! Equations between real numbers: the forms in which the reference computes, and the plain forms. -/

namespace Calc

theorem div_blk {q e : ℕ} (he : e < 128) : (q * 128 + e) / 128 = q := by omega
theorem mod_blk {q e : ℕ} (he : e < 128) : (q * 128 + e) % 128 = e := by omega

theorem erfR_neg (x : ℝ) : erfR (-x) = -erfR x := by
  have h := Idealize.ShloMosaic.Ideal.erf_neg ((x : ℝ) : EReal)
  rw [← EReal.coe_neg, Idealize.ShloMosaic.Ideal.erf_coe, Idealize.ShloMosaic.Ideal.erf_coe, ← EReal.coe_neg] at h
  exact_mod_cast h

/-- The activation through the complementary error function. -/
theorem gelu_eq (x : ℝ) : 1 / 2 * x * (1 - erfR (-x * (Real.sqrt 2)⁻¹)) = x * cdfR x := by
  rw [neg_mul, erfR_neg, cdfR]; ring

/-- The derivative of the complementary error function as the reference computes it. -/
def dexpR (x : ℝ) : ℝ :=
  -2 * (Real.sqrt (4 * Real.arctan 1))⁻¹ * Real.exp (-(-x * (Real.sqrt 2)⁻¹ * (-x * (Real.sqrt 2)⁻¹)))

theorem four_arctan : 4 * Real.arctan 1 = Real.pi := by rw [Real.arctan_one]; ring
theorem four_arctan_pos : 0 < 4 * Real.arctan 1 := by rw [four_arctan]; exact Real.pi_pos

/-- The activation's derivative times a number. -/
theorem dgelu_eq (x g : ℝ) :
    -(dexpR x * (1 / 2 * x * g) * (Real.sqrt 2)⁻¹) + 1 / 2 * (g * (1 - erfR (-x * (Real.sqrt 2)⁻¹))) = g * dgeluR x := by
  have hc : (Real.sqrt 2)⁻¹ * (Real.sqrt 2)⁻¹ = 1 / 2 := by
    rw [← mul_inv, Real.mul_self_sqrt (by norm_num)]; norm_num
  have he : -(-x * (Real.sqrt 2)⁻¹ * (-x * (Real.sqrt 2)⁻¹)) = -(1 / 2) * x * x := by
    rw [show -x * (Real.sqrt 2)⁻¹ * (-x * (Real.sqrt 2)⁻¹) = x * x * ((Real.sqrt 2)⁻¹ * (Real.sqrt 2)⁻¹) by ring, hc]
    ring
  have hs : (Real.sqrt (2 * Real.pi))⁻¹ = (Real.sqrt 2)⁻¹ * (Real.sqrt Real.pi)⁻¹ := by
    rw [Real.sqrt_mul (by norm_num), mul_inv]
  rw [dexpR, he, four_arctan, dgeluR, hs, neg_mul x, erfR_neg, cdfR]
  ring

theorem sum_cen {n : ℕ} (hn : n ≠ 0) (u : ℕ → ℝ) : ∑ k ∈ Finset.range n, cenR n u k = 0 := by
  have h : (n : ℝ) ≠ 0 := by exact_mod_cast hn
  simp only [cenR, Finset.sum_sub_distrib, Finset.sum_const, Finset.card_range, nsmul_eq_mul, meanR]
  field_simp
  ring

theorem rstd_div (n : ℕ) (u : ℕ → ℝ) : rstdR n u / varR n u = rstdR n u * rstdR n u * rstdR n u := by
  have h := varR_pos n u
  have hr : rstdR n u * rstdR n u = (varR n u)⁻¹ := by
    rw [rstdR, ← mul_inv, Real.mul_self_sqrt h.le]
  rw [mul_assoc, hr, div_eq_mul_inv]

/-- The gradient through a normalization: the sum of the three ways in which an input reaches the outputs. -/
theorem lnb_eq {n : ℕ} (hn : n ≠ 0) (u g : ℕ → ℝ) (k : ℕ) :
    g k * rstdR n u +
        (∑ j ∈ Finset.range n, cenR n u j * g j) * (-(1 / 2) * (rstdR n u / varR n u)) / n * (2 * cenR n u k) +
      (∑ j ∈ Finset.range n, -(g j * rstdR n u) +
        ∑ j ∈ Finset.range n,
          -((∑ j ∈ Finset.range n, cenR n u j * g j) * (-(1 / 2) * (rstdR n u / varR n u)) / n * (2 * cenR n u j))) / n =
      lnbR n (rstdR n u) g (xhatR n u) k := by
  have h : (n : ℝ) ≠ 0 := by exact_mod_cast hn
  have e : ∀ c : ℝ, ∑ j ∈ Finset.range n, -(c * (2 * cenR n u j)) = 0 := fun c => by
    rw [Finset.sum_neg_distrib, ← Finset.mul_sum, ← Finset.mul_sum, sum_cen hn]; ring
  have e2 : ∑ j ∈ Finset.range n, g j * (cenR n u j * rstdR n u) =
      (∑ j ∈ Finset.range n, cenR n u j * g j) * rstdR n u := by
    rw [Finset.sum_mul]; exact Finset.sum_congr rfl fun _ _ => by ring
  rw [e, rstd_div, lnbR, Finset.sum_neg_distrib, ← Finset.sum_mul]
  simp only [meanR, xhatR]
  rw [e2]
  field_simp
  ring

theorem lnb_congr {n : ℕ} {rs : ℝ} {g h h' : ℕ → ℝ} {k : ℕ} (hk : k < n) (e : ∀ j, j < n → h j = h' j) :
    lnbR n rs g h k = lnbR n rs g h' k := by
  have h2 : ∑ j ∈ Finset.range n, g j * h j = ∑ j ∈ Finset.range n, g j * h' j :=
    Finset.sum_congr rfl fun j hj => by rw [e j (Finset.mem_range.1 hj)]
  simp only [lnbR, meanR, e k hk, h2]

end Calc
-- ==== Proof.KClose.lean ====
module

public import proofs.«01_k».proof.Proof.RefMath
public import Idealize.ShloMosaic.Lib.Pipeline.ValueKit

@[expose] public section

noncomputable section

/-! Equalities between the numbers a step of the kernel computes and the gradient's, and facts about lists of stores. -/

namespace Calc

open Idealize.ShloMosaic

section Stores
variable {Val : EltTy → Type} {s : Shape} {e : EltTy} [∀ e, Nonempty (Val e)]

/-- Older stores do not matter where the later ones reach. -/
theorem canon_later (L' : List (View.Piece Val s e)) (y : s.Idx) :
    ∀ (L : List (View.Piece Val s e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_later L' y L ?_
      obtain ⟨q, hq, hy⟩ := h
      rcases List.mem_cons.1 hq with rfl | hq
      · exact absurd hy hm
      · exact ⟨q, hq, hy⟩

/-- A store over a rectangle hides the one just before it over the same rectangle. -/
theorem canon_twice (r : Rect s) (a b : r.shape.Idx → Val e) (L : List (View.Piece Val s e)) :
    View.canon (⟨r, a⟩ :: ⟨r, b⟩ :: L) = View.canon (⟨r, a⟩ :: L) := by
  funext y
  by_cases hm : y ∈ r.set
  · obtain ⟨x, rfl⟩ := r.exists_idx_of_mem hm
    rw [show r.idx x = r.emb x from rfl, View.canon_cons_emb, View.canon_cons_emb]
  · rw [View.canon_cons_of_not_mem _ _ hm, View.canon_cons_of_not_mem _ _ hm, View.canon_cons_of_not_mem _ _ hm]

theorem canon_under {L L' : List (View.Piece Val s e)} (p : View.Piece Val s e) (h : View.canon L = View.canon L') :
    View.canon (p :: L) = View.canon (p :: L') := by rw [View.canon_cons, View.canon_cons, h]

/-- Of four stores over each of four rectangles, in turn, the last over each is what remains. -/
theorem canon_last4 (r3 r2 r1 r0 : Rect s) (a3 b3 c3 d3 : r3.shape.Idx → Val e) (a2 b2 c2 d2 : r2.shape.Idx → Val e)
    (a1 b1 c1 d1 : r1.shape.Idx → Val e) (a0 b0 c0 d0 : r0.shape.Idx → Val e) (L : List (View.Piece Val s e)) :
    View.canon (⟨r3, a3⟩ :: ⟨r3, b3⟩ :: ⟨r3, c3⟩ :: ⟨r3, d3⟩ :: ⟨r2, a2⟩ :: ⟨r2, b2⟩ :: ⟨r2, c2⟩ :: ⟨r2, d2⟩ ::
      ⟨r1, a1⟩ :: ⟨r1, b1⟩ :: ⟨r1, c1⟩ :: ⟨r1, d1⟩ :: ⟨r0, a0⟩ :: ⟨r0, b0⟩ :: ⟨r0, c0⟩ :: ⟨r0, d0⟩ :: L) =
    View.canon (⟨r3, a3⟩ :: ⟨r2, a2⟩ :: ⟨r1, a1⟩ :: ⟨r0, a0⟩ :: L) := by
  rw [canon_twice, canon_twice, canon_twice]; refine canon_under _ ?_
  rw [canon_twice, canon_twice, canon_twice]; refine canon_under _ ?_
  rw [canon_twice, canon_twice, canon_twice]; refine canon_under _ ?_
  rw [canon_twice, canon_twice, canon_twice]

end Stores

/-- A sum over more positions. -/
theorem sum_more {u F : ℕ → ℝ} {P : ℝ} {N M : ℕ} (hP : P = ∑ n ∈ Finset.range N, u n)
    (hF : ∀ r < M, F r = u (N + r)) : P + ∑ r ∈ Finset.range M, F r = ∑ n ∈ Finset.range (N + M), u n := by
  rw [hP, Finset.sum_range_add]
  exact congrArg _ (Finset.sum_congr rfl fun r hr => hF r (Finset.mem_range.1 hr))

theorem sum_none {u : ℕ → ℝ} {N : ℕ} (h : N = 0) : 0 = ∑ n ∈ Finset.range N, u n := by subst h; rfl

theorem mul_two {a b c d : ℝ} (h : a = b) (k : c = d) : a * c = b * d := by rw [h, k]

/-- A sum over four more chunks, added one after the other. -/
theorem sum_four {u : ℕ → ℝ} {P a b c d : ℝ} {C : ℕ} (hP : P = ∑ n ∈ Finset.range C, u n)
    (ha : a = u C) (hb : b = u (C + 1)) (hc : c = u (C + 2)) (hd : d = u (C + 3)) :
    P + a + b + c + d = ∑ n ∈ Finset.range (C + 4), u n := by
  rw [hP, ha, hb, hc, hd, show C + 4 = C + 1 + 1 + 1 + 1 from rfl, Finset.sum_range_succ, Finset.sum_range_succ,
    Finset.sum_range_succ, Finset.sum_range_succ]

theorem sum_congr_lt {n : ℕ} {f g : ℕ → ℝ} (h : ∀ k < n, f k = g k) :
    ∑ k ∈ Finset.range n, f k = ∑ k ∈ Finset.range n, g k :=
  Finset.sum_congr rfl fun k hk => h k (Finset.mem_range.1 hk)

theorem meanR_congr {n : ℕ} {f g : ℕ → ℝ} (h : ∀ k < n, f k = g k) : meanR n f = meanR n g := by
  rw [meanR, meanR, sum_congr_lt h]
theorem cenR_congr {n : ℕ} {f g : ℕ → ℝ} (h : ∀ k < n, f k = g k) {k : ℕ} (hk : k < n) : cenR n f k = cenR n g k := by
  rw [cenR, cenR, meanR_congr h, h k hk]
theorem rstdR_congr {n : ℕ} {f g : ℕ → ℝ} (h : ∀ k < n, f k = g k) : rstdR n f = rstdR n g := by
  rw [rstdR, rstdR, varR, varR, meanR_congr fun k hk => by rw [cenR_congr h hk]]
theorem xhatR_congr {n : ℕ} {f g : ℕ → ℝ} (h : ∀ k < n, f k = g k) {k : ℕ} (hk : k < n) : xhatR n f k = xhatR n g k := by
  rw [xhatR, xhatR, rstdR_congr h, cenR_congr h hk]

/-- The gradient through a normalization whose normalized numbers and gradient agree in range. -/
theorem lnbR_congr {n : ℕ} {rs rs' : ℝ} {g g' h h' : ℕ → ℝ} (e : rs = rs') (eg : ∀ k < n, g k = g' k)
    (eh : ∀ k < n, h k = h' k) {k : ℕ} (hk : k < n) : lnbR n rs g h k = lnbR n rs' g' h' k := by
  rw [lnbR, lnbR, e, meanR_congr eg, eg k hk, eh k hk,
    meanR_congr (f := fun k => g k * h k) (g := fun k => g' k * h' k) fun j hj => by rw [eg j hj, eh j hj]]

namespace Args
variable (A : Args)

theorem wm_at {h t s h' i j : ℕ} {p : Prop} [Decidable p] (hp : p ↔ s ≤ t) (eh : h' = h) (ei : i = t) (ej : j = s) :
    (if p then A.w h' i j else 0) = A.wm h t s := by
  subst eh ei ej; unfold wm; exact if_congr hp rfl rfl

variable {A}

theorem dmixed_at {n d n' d' i j : ℕ} (e1 : n' = n) (e2 : d' = d) (e3 : i = n) (e4 : j = d) :
    A.dmix n' d' * (A.pr i j * cdfR (A.pr i j)) = A.dmixed n d := by
  subst e1 e2 e3 e4; rfl

theorem v_at {n d n' d' : ℕ} (e1 : n' = n) (e2 : d' = d) : A.v n' d' = A.v n d := by rw [e1, e2]
theorem dws_eq {C h i j h' i' j' : ℕ} (e1 : h' = h) (e2 : i' = i) (e3 : j' = j) : A.dws C h' i' j' = A.dws C h i j := by
  rw [e1, e2, e3]
theorem dbt_eq {C i d i' d' : ℕ} (e1 : i' = i) (e2 : d' = d) : A.dbt C i' d' = A.dbt C i d := by rw [e1, e2]

/-- The left half of the projections' gradient. -/
theorem dpa_left {n d i j : ℕ} {D X bb : ℝ} {W V : ℕ → ℝ} (hi : i = n) (hj : j = d) (hd : d < 512) (hD : D = A.dmix n d)
    (hX : X = A.pr n d) (hW : ∀ k < 128, W k = A.wm (d / 128) (n % 128) k)
    (hV : ∀ k < 128, V k = A.v (n / 128 * 128 + k) d) (hb : bb = A.b (d / 128) (n % 128)) :
    D * ((∑ k ∈ Finset.range 128, W k * V k) + bb) *
      (cdfR X + X * ((Real.sqrt (2 * Real.pi))⁻¹ * Real.exp (-(1 / 2) * X * X))) = A.dpa i j := by
  subst hi hj hD hX hb
  rw [dpa, if_pos hd, mixed, dgeluR, sum_congr_lt fun k hk => by rw [hW k hk, hV k hk]]

/-- The right half. -/
theorem dpa_right {n d i j : ℕ} {G X : ℝ} (hi : i = n) (hj : j = 512 + d) (hG : G = A.dvg n d) (hX : X = A.pr n j) :
    G * (cdfR X + X * ((Real.sqrt (2 * Real.pi))⁻¹ * Real.exp (-(1 / 2) * X * X))) = A.dpa i j := by
  subst hi hj hX hG
  rw [dpa, if_neg (by omega), dgeluR, Nat.add_sub_cancel_left]

/-- The gradient of `v` in a chunk. -/
theorem dv_at {n d : ℕ} {W F : ℕ → ℝ} (hW : ∀ k < 128, W k = A.wm (d / 128) k (n % 128))
    (hF : ∀ k < 128, F k = A.dmixed (n / 128 * 128 + k) d) :
    ∑ k ∈ Finset.range 128, W k * F k = A.dv n d := by
  rw [dv, sum_congr_lt fun k hk => by rw [hW k hk, hF k hk]]

/-- The numbers of one group of a convolution's row. -/
structure Group (A : Args) (n q : ℕ) (a g b m : ℕ → ℝ) : Prop where
  a : ∀ k < 128, a k = A.cc n (q * 128 + k)
  g : ∀ k < 128, g k = A.clg (q * 128 + k)
  b : ∀ k < 128, b k = A.clb (q * 128 + k)
  m : ∀ k < 128, m k = A.dmix n (512 + (q * 128 + k))

/-- The gradient before the normalization's gain. -/
def dzR (a g b m : ℕ → ℝ) (k : ℕ) : ℝ :=
  m k * (1 / (1 + Real.exp (0 - (xhatR 128 a k * g k + b k))) *
    (1 + (xhatR 128 a k * g k + b k) * (1 - 1 / (1 + Real.exp (0 - (xhatR 128 a k * g k + b k))))))

namespace Group
variable {n q : ℕ} {a g b m : ℕ → ℝ} (h : Group A n q a g b m)
include h

theorem chat {k : ℕ} (hk : k < 128) : xhatR 128 a k = A.chat n (q * 128 + k) := by
  rw [Args.chat, div_blk hk, mod_blk hk]; exact xhatR_congr h.a hk
theorem crs : rstdR 128 a = A.crs n q := rstdR_congr h.a
theorem dz {k : ℕ} (hk : k < 128) : dzR a g b m k = A.dz n (q * 128 + k) := by
  rw [dzR, Args.dz, Args.sg, Args.z, h.chat hk, h.g k hk, h.b k hk, h.m k hk, zero_sub]
theorem dc {k : ℕ} (hk : k < 128) :
    lnbR 128 (rstdR 128 a) (fun e => dzR a g b m e * g e) (xhatR 128 a) k = A.dc n (q * 128 + k) := by
  rw [Args.dc, div_blk hk, mod_blk hk]
  exact lnbR_congr h.crs (fun e he => by rw [h.dz he, h.g e he]) (fun e he => h.chat he) hk

end Group

/-- A group read from blocks at offsets. -/
theorem Group.of {n q n' n'' o o' : ℕ} (e1 : n' = n) (e2 : n'' = n) (e3 : o = q * 128) (e4 : o' = 512 + q * 128) :
    Group A n q (fun e => A.c0 n' (o + e) + A.cb (o + e)) (fun e => A.clg (o + e)) (fun e => A.clb (o + e))
      (fun e => A.dmix n'' (o' + e)) := by
  subst e1 e2 e3 e4
  exact ⟨fun _ _ => rfl, fun _ _ => rfl, fun _ _ => rfl, fun _ _ => by rw [Nat.add_assoc]⟩

section Group
variable {n q k i j : ℕ} {a g b m : ℕ → ℝ} (hi : i = n) (hj : j = q * 128 + k) (hk : k < 128) (h : Group A n q a g b m)
include hi hj hk h

theorem dc_at : lnbR 128 (rstdR 128 a) (fun e => dzR a g b m e * g e) (fun e => xhatR 128 a e) k = A.dc i j := by
  subst hi hj; exact h.dc hk
theorem dz_at : dzR a g b m k = A.dz i j := by subst hi hj; exact h.dz hk
theorem dzx_at : dzR a g b m k * xhatR 128 a k = A.dz i j * A.chat i j := by subst hi hj; rw [h.dz hk, h.chat hk]
end Group

end Args
end Calc
-- ==== Proof.KBase.lean ====
module

public import proofs.«01_k».proof.Proof.KTile
public import proofs.«01_k».proof.Proof.KClose
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

/-! What the kernel's blocks hold, and the gradient of the gated branch as the kernel's scratch buffer holds it. -/

namespace Cert.KernelIdeal.Gen

open Idealize.ShloMosaic Calc Tile

theorem Rd2 {S : Shape} {φ : FTy} {f : ℕ → ℕ → ℕ → ℕ → ℝ} (x : FVec Ideal S φ) [hx : Rd x f] (i : S.Idx) :
    (x i : EReal) = ((f (co i 0) (co i 1) (co i 2) (co i 3) : ℝ) : EReal) := hx.at_ i

/-- The blocks a step reads hold the arguments' numbers. -/
class In (m : (ℓ : Loc nD τ sig) → Buf (Elt Ideal) ℓ) (c : Dev nD) (A : outParam Args) : Prop where
  i0 : ∀ t : Fin cfg0.N, Rd (S := S512x1024) (φ := .bf16) (iblk m c 0 t) (fun r j _ _ => A.dx (512 * t.val + r) j)
  i1 : ∀ t : Fin cfg0.N, Rd (S := S1024x1024) (φ := .bf16) (iblk m c 1 t) (fun k j _ _ => A.wo k j)
  i2 : ∀ t : Fin cfg0.N, Rd (S := S512x2048) (φ := .f32) (iblk m c 2 t) (fun r j _ _ => A.pr (512 * t.val + r) j)
  i3 : ∀ t : Fin cfg0.N, Rd (S := S512x512) (φ := .f32) (iblk m c 3 t)
    (fun r j _ _ => A.c0 (512 * t.val + r) j + A.cb j)
  i4 : ∀ t : Fin cfg0.N, Rd (S := S1x512) (φ := .f32) (iblk m c 4 t) (fun _ d _ _ => A.lg d)
  i5 : ∀ t : Fin cfg0.N, Rd (S := S1x512) (φ := .f32) (iblk m c 5 t) (fun _ d _ _ => A.lb d)
  i6 : ∀ t : Fin cfg0.N, Rd (S := S4x128x128) (φ := .f32) (iblk m c 6 t) (fun h i j _ => A.w h i j)
  i7 : ∀ t : Fin cfg0.N, Rd (S := S128x4) (φ := .f32) (iblk m c 7 t) (fun i h _ _ => A.b h i)
  i8 : ∀ t : Fin cfg0.N, Rd (S := S1x512) (φ := .f32) (iblk m c 8 t) (fun _ d _ _ => A.clg d)
  i9 : ∀ t : Fin cfg0.N, Rd (S := S1x512) (φ := .f32) (iblk m c 9 t) (fun _ d _ _ => A.clb d)
  i10 : ∀ t : Fin cfg0.N, Rd (S := S512x1024) (φ := .bf16) (iblk m c 10 t) (fun r j _ _ => A.mix (512 * t.val + r) j)

attribute [instance] In.i0 In.i1 In.i2 In.i3 In.i4 In.i5 In.i6 In.i7 In.i8 In.i9 In.i10

/-- A statement about every point from the first and from one to the next. -/
theorem points {P : ∀ n, n < cfg0.N → Prop} (first : ∀ t : Fin cfg0.N, t.val % 8 = 0 → P t.val t.isLt)
    (next : ∀ t : Fin cfg0.N, ¬t.val % 8 = 0 → ∀ h : t.val - 1 < cfg0.N, P (t.val - 1) h → P t.val t.isLt) :
    ∀ n h, P n h
  | 0, h => first ⟨0, h⟩ rfl
  | n + 1, h => next ⟨n + 1, h⟩ (by have : n + 1 < 8 := h; show ¬(n + 1) % 8 = 0; omega) (Nat.lt_of_succ_lt h)
      (points first next n (Nat.lt_of_succ_lt h))

theorem point (t : Fin cfg0.N) : (t.val % 8 = 0 ∧ ¬t.val % 8 = 7) ∨ (¬t.val % 8 = 0 ∧ ¬t.val % 8 = 7) ∨
    (¬t.val % 8 = 0 ∧ t.val % 8 = 7) := by omega

theorem before (t : Fin cfg0.N) : t.val - 1 < cfg0.N := lt_of_le_of_lt (Nat.sub_le _ _) t.isLt

theorem first_zero (t : Fin cfg0.N) (h : t.val % 8 = 0) : t.val = 0 := by have : t.val < 8 := t.isLt; omega

theorem last_seven (t : Fin cfg0.N) (h : t.val % 8 = 7) : t.val = 7 := by have : t.val < 8 := t.isLt; omega

section Scratch

/-- The gated branch after its activation, from the projections' block. -/
abbrev uOf (x2 : Vec Ideal S512x2048 .f32) : FVec Ideal S512x512 .f32 :=
  k0_pay24 (View.ld (Val := Elt Ideal) (e' := .f32) x2 (Rect.unit (s := S512x2048) ![0, 0] ![512, 512] inb_S512x2048_S512x512_0_0))
/-- Head 0 of the spatial weights. -/
abbrev wAt0 (x6 : Vec Ideal S4x128x128 .f32) : FVec Ideal S1x128x128 .f32 :=
  View.ld (Val := Elt Ideal) (e' := .f32) x6 (Rect.unit (s := S4x128x128) ![0, 0, 0] ![1, 128, 128] inb_S4x128x128_S1x128x128_0_0_0)
/-- Head 1 of the spatial weights. -/
abbrev wAt1 (x6 : Vec Ideal S4x128x128 .f32) : FVec Ideal S1x128x128 .f32 :=
  View.ld (Val := Elt Ideal) (e' := .f32) x6 (Rect.unit (s := S4x128x128) ![1, 0, 0] ![1, 128, 128] inb_S4x128x128_S1x128x128_1_0_0)
/-- Head 2 of the spatial weights. -/
abbrev wAt2 (x6 : Vec Ideal S4x128x128 .f32) : FVec Ideal S1x128x128 .f32 :=
  View.ld (Val := Elt Ideal) (e' := .f32) x6 (Rect.unit (s := S4x128x128) ![2, 0, 0] ![1, 128, 128] inb_S4x128x128_S1x128x128_2_0_0)
/-- Head 3 of the spatial weights. -/
abbrev wAt3 (x6 : Vec Ideal S4x128x128 .f32) : FVec Ideal S1x128x128 .f32 :=
  View.ld (Val := Elt Ideal) (e' := .f32) x6 (Rect.unit (s := S4x128x128) ![3, 0, 0] ![1, 128, 128] inb_S4x128x128_S1x128x128_3_0_0)

/-- The stores of the gradient of `v`, the last first. -/
abbrev dvStores (x0 : FVec Ideal S512x1024 .bf16) (x1 : FVec Ideal S1024x1024 .bf16) (x2 : Vec Ideal S512x2048 .f32)
    (x6 : Vec Ideal S4x128x128 .f32) : List (View.Piece (Elt Ideal) S512x512 .f32) :=
  [⟨Rect.unit ![384, 384] ![128, 128] inb_S512x512_S128x128_384_384, k0_pay175 (uOf x2) (k0_pay143 k0_pay31 (wAt3 x6)) (k0_pay170 (k0_pay22 x0 x1))⟩,
   ⟨Rect.unit ![256, 384] ![128, 128] inb_S512x512_S128x128_256_384, k0_pay166 (uOf x2) (k0_pay143 k0_pay31 (wAt3 x6)) (k0_pay162 (k0_pay22 x0 x1))⟩,
   ⟨Rect.unit ![128, 384] ![128, 128] inb_S512x512_S128x128_128_384, k0_pay158 (k0_pay157 (k0_pay22 x0 x1) (uOf x2) (k0_pay143 k0_pay31 (wAt3 x6)))⟩,
   ⟨Rect.unit ![0, 384] ![128, 128] inb_S512x512_S128x128_0_384, k0_pay149 (k0_pay22 x0 x1) (uOf x2) k0_pay31 (wAt3 x6)⟩,
   ⟨Rect.unit ![384, 256] ![128, 128] inb_S512x512_S128x128_384_256, k0_pay139 (k0_pay22 x0 x1) (uOf x2) (k0_pay105 k0_pay31 (wAt2 x6))⟩,
   ⟨Rect.unit ![256, 256] ![128, 128] inb_S512x512_S128x128_256_256, k0_pay131 (k0_pay22 x0 x1) (uOf x2) (k0_pay105 k0_pay31 (wAt2 x6))⟩,
   ⟨Rect.unit ![128, 256] ![128, 128] inb_S512x512_S128x128_128_256, k0_pay122 (k0_pay22 x0 x1) (uOf x2) (k0_pay105 k0_pay31 (wAt2 x6))⟩,
   ⟨Rect.unit ![0, 256] ![128, 128] inb_S512x512_S128x128_0_256, k0_pay113 (k0_pay22 x0 x1) (uOf x2) (k0_pay105 k0_pay31 (wAt2 x6))⟩,
   ⟨Rect.unit ![384, 128] ![128, 128] inb_S512x512_S128x128_384_128, k0_pay102 (uOf x2) (k0_pay68 k0_pay31 (wAt1 x6)) (k0_pay95 (k0_pay22 x0 x1))⟩,
   ⟨Rect.unit ![256, 128] ![128, 128] inb_S512x512_S128x128_256_128, k0_pay91 (uOf x2) (k0_pay68 k0_pay31 (wAt1 x6)) (k0_pay87 (k0_pay22 x0 x1))⟩,
   ⟨Rect.unit ![128, 128] ![128, 128] inb_S512x512_S128x128_128_128, k0_pay83 (k0_pay68 k0_pay31 (wAt1 x6)) (k0_pay82 (k0_pay22 x0 x1) (uOf x2))⟩,
   ⟨Rect.unit ![0, 128] ![128, 128] inb_S512x512_S128x128_0_128, k0_pay75 (k0_pay74 (k0_pay22 x0 x1) (uOf x2) k0_pay31 (wAt1 x6))⟩,
   ⟨Rect.unit ![384, 0] ![128, 128] inb_S512x512_S128x128_384_0, k0_pay64 (k0_pay22 x0 x1) (uOf x2) (k0_pay32 (wAt0 x6))⟩,
   ⟨Rect.unit ![256, 0] ![128, 128] inb_S512x512_S128x128_256_0, k0_pay56 (k0_pay22 x0 x1) (uOf x2) (k0_pay32 (wAt0 x6))⟩,
   ⟨Rect.unit ![128, 0] ![128, 128] inb_S512x512_S128x128_128_0, k0_pay47 (k0_pay22 x0 x1) (uOf x2) (k0_pay32 (wAt0 x6))⟩,
   ⟨Rect.unit ![0, 0] ![128, 128] inb_S512x512_S128x128_0_0, k0_pay39 (k0_pay22 x0 x1) (uOf x2) (k0_pay32 (wAt0 x6))⟩]

variable {A : Args} {t : ℕ} [hA : Step A t]
  (x0 : FVec Ideal S512x1024 .bf16) [Rd x0 (fun r j _ _ => A.dx (512 * t + r) j)]
  (x1 : FVec Ideal S1024x1024 .bf16) [Rd x1 (fun k j _ _ => A.wo k j)]
  (x2 : Vec Ideal S512x2048 .f32) [Rd (φ := .f32) x2 (fun r j _ _ => A.pr (512 * t + r) j)]
  (x6 : Vec Ideal S4x128x128 .f32) [Rd (φ := .f32) x6 (fun h i j _ => A.w h i j)]

theorem dv_canon (y : S512x512.Idx) :
    View.canon (dvStores x0 x1 x2 x6) y = ((A.dv (512 * t + (y 0).val) (y 1).val : ℝ) : EReal) := by
  unfold dvStores
  canon_tiles x h using View.cover_of_tiledBy _ ![128, 128] (by sl_kernel_rfl) _
  all_goals simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218]
  all_goals refine (Rd2 _ _).trans (congrArg _ ?_)
  all_goals simp only [show co x 0 = (x 0).val from rfl, show co x 1 = (x 1).val from rfl]
  all_goals refine Args.dv_at (fun k hk => Args.wm_at A ?_ ?_ ?_ ?_) (fun k hk => Args.dmixed_at ?_ ?_ ?_ ?_) <;> omega

instance dvRd [hA : Step A t] : Rd (S := S512x512) (φ := .f32)
    (View.readCov (Val := Elt Ideal) (View.whole cc0_scratch0) (dvStores x0 x1 x2 x6)
      (Rect.unit (s := S512x512) ![0, 0] ![512, 512] inb_S512x512_S512x512_0_0).toLoadRect)
    (fun r d _ _ => A.dv (512 * t + r) d) :=
  ⟨fun j => by
    rw [View.readCov_eq_canon']; refine (dv_canon x0 x1 x2 x6 _).trans ?_
    simp [co, LoadRect.idx, Rect.toLoadRect]⟩

end Scratch
end Cert.KernelIdeal.Gen
-- ==== Proof.KOut1.lean ====
module

public import proofs.«01_k».proof.Proof.KBase
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

/-! The left results of one step: the gradient of the projections, and the sums of the gating normalization. -/

namespace Cert.KernelIdeal.Gen

open Idealize.ShloMosaic Calc Tile

variable (m : (ℓ : Loc nD τ sig) → Buf (Elt Ideal) ℓ) (c : Dev nD) {A : Args} [hin : In m c A]

theorem out11 (t : Fin cfg0.N) :
    Rd (S := S512x1024) (φ := .bf16) (outsAt0 m c t.val t.isLt).1 (fun r d _ _ => A.dpa (512 * t.val + r) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  all_goals
    frame_out
    canon_tiles x h using View.cover_of_tiledBy _ ![128, 128] (by sl_kernel_rfl) _
    · simp only [k0_pay181]
      refine (Rd2 _ _).trans (congrArg _ ?_)
      simp only [show co x 0 = (x 0).val from rfl, show co x 1 = (x 1).val from rfl,
    show co y 0 = (y 0).val from rfl, show co y 1 = (y 1).val from rfl]
      refine Args.dpa_right (n := 512 * t.val + (x 0).val) (d := (x 1).val) (by omega) (by omega) rfl ?_
      congr 1 <;> omega
    all_goals simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218]
    all_goals refine (Rd2 _ _).trans (congrArg _ ?_)
    all_goals simp only [show co x 0 = (x 0).val from rfl, show co x 1 = (x 1).val from rfl,
    show co y 0 = (y 0).val from rfl, show co y 1 = (y 1).val from rfl]
    all_goals refine Args.dpa_left (n := 512 * t.val + (y 0).val) (d := (y 1).val) rfl rfl (by omega) ?_ ?_
                 (fun k hk => Args.wm_at A ?_ ?_ ?_ ?_) (fun k hk => ?_) ?_
    all_goals first | omega | (congr 1 <;> omega)

theorem out13 (t : Fin cfg0.N) (hp : ¬t.val % 8 = 0 → Rd (S := S1x512) (φ := .f32)
      (outsAt0 m c (t.val - 1) (before t)).2.2.1 (fun _ d _ _ => A.dlg (512 * t.val) d)) :
    Rd (S := S1x512) (φ := .f32) (outsAt0 m c t.val t.isLt).2.2.1 (fun _ d _ _ => A.dlg (512 * (t.val + 1)) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals
    frame_out
    simp only [k0_pay180, k0_pay179, k0_pay12]
    refine (Rd2 _ _).trans (congrArg _ ?_)
    refine sum_more (u := fun n => A.dv n (y 1).val * A.xh n (y 1).val) ?_ fun r hr => rfl
  · exact sum_none (by rw [first_zero t e0])
  all_goals rfl

theorem out14 (t : Fin cfg0.N) (hp : ¬t.val % 8 = 0 → Rd (S := S1x512) (φ := .f32)
      (outsAt0 m c (t.val - 1) (before t)).2.2.2.1 (fun _ d _ _ => A.dlb (512 * t.val) d)) :
    Rd (S := S1x512) (φ := .f32) (outsAt0 m c t.val t.isLt).2.2.2.1 (fun _ d _ _ => A.dlb (512 * (t.val + 1)) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals
    frame_out
    simp only [k0_pay178, k0_pay13]
    refine (Rd2 _ _).trans (congrArg _ ?_)
    refine sum_more (u := fun n => A.dv n (y 1).val) ?_ fun r hr => rfl
  · exact sum_none (by rw [first_zero t e0])
  all_goals rfl

end Cert.KernelIdeal.Gen
-- ==== Proof.KConv.lean ====
module

public import proofs.«01_k».proof.Proof.KTile
public import proofs.«01_k».proof.Proof.KClose
public import Idealize.ShloMosaic.Lib.Pipeline.ValueKit
public import Idealize.ShloMosaic.Lib.Pipeline.ReadBack

@[expose] public section

set_option maxRecDepth 16384

noncomputable section

/-! The convolution's normalization and its gradient on one group of channels. The kernel writes the same operations for
its four groups; each is brought to one form. -/

namespace Cert.KernelIdeal.Tile

open Idealize.ShloMosaic Cert.KernelIdeal Cert.KernelIdeal.Gen Calc

/-- The normalized numbers with gain and bias. -/
def zOf (y : FVec Ideal S512x128 .f32) (g b : FVec Ideal S1x128 .f32) : FVec Ideal S512x128 .f32 :=
  addf (mulf (k0_pay196 y) (broadcastTo S512x128 (shapeCast S1x128 g shapeCasts_S1x128_S1x128) broadcasts_S1x128_S512x128))
    (broadcastTo S512x128 (shapeCast S1x128 b shapeCasts_S1x128_S1x128) broadcasts_S1x128_S512x128)
/-- The sigmoid of a block. -/
def sigOf (z : FVec Ideal S512x128 .f32) : FVec Ideal S512x128 .f32 :=
  divf (broadcast S512x128 (Scalar.ofBits .f32 0x3F800000#32))
    (addf (broadcast S512x128 (Scalar.ofBits .f32 0x3F800000#32))
      (exp (subf (broadcast S512x128 (Scalar.ofBits .f32 0x00000000#32)) z)))
/-- The gradient before the gain. -/
def dzOf (m y : FVec Ideal S512x128 .f32) (g b : FVec Ideal S1x128 .f32) : FVec Ideal S512x128 .f32 :=
  mulf m (mulf (sigOf (zOf y g b)) (addf (broadcast S512x128 (Scalar.ofBits .f32 0x3F800000#32))
    (mulf (zOf y g b) (subf (broadcast S512x128 (Scalar.ofBits .f32 0x3F800000#32)) (sigOf (zOf y g b))))))

section Forms
variable (x : FVec Ideal S512x128 .f32) (dx : FVec Ideal S512x1024 .f32) (g b : FVec Ideal S1x128 .f32)

theorem c186 : k0_pay186 (F := Ideal) (k0_pay182 (F := Ideal) x) (k0_pay183 (F := Ideal) x) (k0_pay184 (F := Ideal)) = k0_pay195 (F := Ideal) (k0_pay193 (F := Ideal) x) := rfl
theorem c203 : k0_pay203 (F := Ideal) x = k0_pay195 (F := Ideal) (k0_pay193 (F := Ideal) x) := rfl
theorem c212 : k0_pay212 (F := Ideal) x = k0_pay195 (F := Ideal) (k0_pay193 (F := Ideal) x) := rfl
theorem c187 : k0_pay187 (F := Ideal) (k0_pay182 (F := Ideal) x) (k0_pay183 (F := Ideal) x) (k0_pay184 (F := Ideal)) = k0_pay196 (F := Ideal) (k0_pay193 (F := Ideal) x) := rfl
theorem c204 : k0_pay204 (F := Ideal) x = k0_pay196 (F := Ideal) (k0_pay193 (F := Ideal) x) := rfl
theorem c213 : k0_pay213 (F := Ideal) x = k0_pay196 (F := Ideal) (k0_pay193 (F := Ideal) x) := rfl
theorem c188 : k0_pay188 (F := Ideal) dx (k0_pay182 (F := Ideal) x) (k0_pay183 (F := Ideal) x) (k0_pay184 (F := Ideal)) g b =
    dzOf (extractStridedSlice S512x128 ![0, 512] dx slices_S512x1024_o0_512_S512x128) (k0_pay193 (F := Ideal) x) g b := rfl
theorem c197 : k0_pay197 (F := Ideal) dx x g b =
    dzOf (extractStridedSlice S512x128 ![0, 640] dx slices_S512x1024_o0_640_S512x128) x g b := rfl
theorem c205 : k0_pay205 (F := Ideal) dx x g b =
    dzOf (extractStridedSlice S512x128 ![0, 768] dx slices_S512x1024_o0_768_S512x128) (k0_pay193 (F := Ideal) x) g b := rfl
theorem c214 : k0_pay214 (F := Ideal) dx x g b =
    dzOf (extractStridedSlice S512x128 ![0, 896] dx slices_S512x1024_o0_896_S512x128) (k0_pay193 (F := Ideal) x) g b := rfl
variable (rs : FVec Ideal S512x1 .f32) (xh dz : FVec Ideal S512x128 .f32)
theorem c200 : k0_pay200 (F := Ideal) rs xh dz g = k0_pay191 (F := Ideal) rs xh dz g := rfl
theorem c209 : k0_pay209 (F := Ideal) rs xh dz g = k0_pay191 (F := Ideal) rs xh dz g := rfl
theorem c217 : k0_pay217 (F := Ideal) rs xh dz g = k0_pay191 (F := Ideal) rs xh dz g := rfl
end Forms

section Group
variable (y : FVec Ideal S512x128 .f32) {f : ℕ → ℕ → ℕ → ℕ → ℝ}

instance iCast [hy : Rd y f] : Rd (φ := .f32) (k0_pay193 y) f := by unfold k0_pay193; infer_instance

instance iCen [hy : Rd y f] : Rd (φ := .f32) (k0_pay194 y) (fun a b _ _ => cenR 128 (fun e => f a e 0 0) b) := by
  refine Rd.congr2 (by unfold k0_pay194; exact inferInstance) fun _ _ _ _ => rfl

instance iRstd [hy : Rd y f] : Rd (φ := .f32) (k0_pay195 y) (fun a _ _ _ => rstdR 128 (fun e => f a e 0 0)) := by
  refine Rd.congr2 (by unfold k0_pay195; exact inferInstance) fun _ _ _ _ => rfl

instance iXhat [hy : Rd y f] : Rd (φ := .f32) (k0_pay196 y) (fun a b _ _ => xhatR 128 (fun e => f a e 0 0) b) := by
  refine Rd.congr2 (by unfold k0_pay196; exact inferInstance) fun _ _ _ _ => rfl

instance iDz (m : FVec Ideal S512x128 .f32) (g b : FVec Ideal S1x128 .f32) {fm fg fb : ℕ → ℕ → ℕ → ℕ → ℝ} [hm : Rd m fm]
    [hy : Rd y f] [hg : Rd g fg] [hb : Rd b fb] : Rd (φ := .f32) (dzOf m y g b) (fun r d _ _ =>
      Args.dzR (fun e => f r e 0 0) (fun e => fg 0 e 0 0) (fun e => fb 0 e 0 0) (fun e => fm r e 0 0) d) := by
  refine Rd.congr2 (by unfold dzOf sigOf zOf; exact inferInstance) fun _ _ _ _ => rfl

instance iDc (rs : FVec Ideal S512x1 .f32) (xh dz : FVec Ideal S512x128 .f32) (g : FVec Ideal S1x128 .f32)
    {fr fx fz fg : ℕ → ℕ → ℕ → ℕ → ℝ} [hr : Rd rs fr] [hx : Rd xh fx] [hz : Rd dz fz] [hg : Rd g fg] :
    Rd (φ := .f32) (k0_pay191 rs xh dz g) (fun r d _ _ =>
      lnbR 128 (fr r 0 0 0) (fun e => fz r e 0 0 * fg 0 e 0 0) (fun e => fx r e 0 0) d) := by
  refine Rd.congr2 (by unfold k0_pay191; exact inferInstance) fun _ _ _ _ => rfl
end Group

end Cert.KernelIdeal.Tile
-- ==== Proof.KOut2.lean ====
module

public import proofs.«01_k».proof.Proof.KBase
public import proofs.«01_k».proof.Proof.KConv
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

/-! The convolution's gradient of one step and its sums, and the gradient of the output weight. -/

namespace Cert.KernelIdeal.Gen

open Idealize.ShloMosaic Calc Tile

variable (m : (ℓ : Loc nD τ sig) → Buf (Elt Ideal) ℓ) (c : Dev nD) {A : Args} [hin : In m c A]

theorem out12 (t : Fin cfg0.N) :
    Rd (S := S512x512) (φ := .f32) (outsAt0 m c t.val t.isLt).2.1 (fun r d _ _ => A.dc (512 * t.val + r) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  all_goals
    frame_out
    canon_tiles x h using View.cover_of_tiledBy _ ![512, 128] (by sl_kernel_rfl) _
    all_goals simp only [c186, c203, c212, c187, c204, c213, c188, c197, c205, c214, c200, c209, c217]
    all_goals refine (Rd2 _ _).trans (congrArg _ ?_)
    all_goals simp only [show co x 0 = (x 0).val from rfl, show co x 1 = (x 1).val from rfl,
    show co y 0 = (y 0).val from rfl, show co y 1 = (y 1).val from rfl]
    all_goals refine Args.dc_at (n := 512 * t.val + (y 0).val) (q := (y 1).val / 128) (k := (x 1).val) rfl ?_ ?_
                 (Args.Group.of ?_ ?_ ?_ ?_) <;> omega

theorem out17 (t : Fin cfg0.N) (hp : ¬t.val % 8 = 0 → Rd (S := S1x512) (φ := .f32)
      (outsAt0 m c (t.val - 1) (before t)).2.2.2.2.2.2.1 (fun _ d _ _ => A.dcb (512 * t.val) d)) :
    Rd (S := S1x512) (φ := .f32) (outsAt0 m c t.val t.isLt).2.2.2.2.2.2.1
      (fun _ d _ _ => A.dcb (512 * (t.val + 1)) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals frame_out
  on_goal 1 =>
    simp (disch := decide) only [↓View.readCov_cons_toLoadRect, ↓View.readCov_skip, ↓View.readCov_fill]
    refine (canon_later [_] y [_, _, _, _] (View.cover_of_tiledBy _ ![1, 128] (by sl_kernel_rfl) _)).trans ?_
  all_goals
    canon_tiles x h using View.cover_of_tiledBy _ ![1, 128] (by sl_kernel_rfl) _
    all_goals simp only [k0_pay1, k0_pay189, k0_pay190, k0_pay192, k0_pay198, k0_pay199, k0_pay201, k0_pay206, k0_pay207, k0_pay208,
    k0_pay210, k0_pay215, k0_pay216, k0_pay218, k0_pay16, k0_pay17, k0_pay18, c186, c203, c212, c187, c204, c213, c188, c197, c205, c214, c200, c209, c217]
    all_goals refine (Rd2 _ _).trans (congrArg _ ?_)
    all_goals simp only [show co x 0 = (x 0).val from rfl, show co x 1 = (x 1).val from rfl,
    show co y 0 = (y 0).val from rfl, show co y 1 = (y 1).val from rfl]
    all_goals refine sum_more (u := fun n => A.dc n (y 1).val) ?_ fun r hr =>
                 Args.dc_at (n := 512 * t.val + r) (q := (y 1).val / 128) (k := (x 1).val) rfl ?_ ?_ (Args.Group.of ?_ ?_ ?_ ?_)
  all_goals first
    | omega
    | exact sum_none (by rw [first_zero t e0])
    | exact congrArg (A.dcb _) (by omega)

theorem out18 (t : Fin cfg0.N) (hp : ¬t.val % 8 = 0 → Rd (S := S1x512) (φ := .f32)
      (outsAt0 m c (t.val - 1) (before t)).2.2.2.2.2.2.2.1 (fun _ d _ _ => A.dclg (512 * t.val) d)) :
    Rd (S := S1x512) (φ := .f32) (outsAt0 m c t.val t.isLt).2.2.2.2.2.2.2.1
      (fun _ d _ _ => A.dclg (512 * (t.val + 1)) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals frame_out
  on_goal 1 =>
    simp (disch := decide) only [↓View.readCov_cons_toLoadRect, ↓View.readCov_skip, ↓View.readCov_fill]
    refine (canon_later [_] y [_, _, _, _] (View.cover_of_tiledBy _ ![1, 128] (by sl_kernel_rfl) _)).trans ?_
  all_goals
    canon_tiles x h using View.cover_of_tiledBy _ ![1, 128] (by sl_kernel_rfl) _
    all_goals simp only [k0_pay1, k0_pay189, k0_pay190, k0_pay192, k0_pay198, k0_pay199, k0_pay201, k0_pay206, k0_pay207, k0_pay208,
    k0_pay210, k0_pay215, k0_pay216, k0_pay218, k0_pay16, k0_pay17, k0_pay18, c186, c203, c212, c187, c204, c213, c188, c197, c205, c214, c200, c209, c217]
    all_goals refine (Rd2 _ _).trans (congrArg _ ?_)
    all_goals simp only [show co x 0 = (x 0).val from rfl, show co x 1 = (x 1).val from rfl,
    show co y 0 = (y 0).val from rfl, show co y 1 = (y 1).val from rfl]
    all_goals refine sum_more (u := fun n => A.dz n (y 1).val * A.chat n (y 1).val) ?_ fun r hr =>
                 Args.dzx_at (n := 512 * t.val + r) (q := (y 1).val / 128) (k := (x 1).val) rfl ?_ ?_ (Args.Group.of ?_ ?_ ?_ ?_)
  all_goals first
    | omega
    | exact sum_none (by rw [first_zero t e0])
    | exact congrArg (A.dclg _) (by omega)

theorem out19 (t : Fin cfg0.N) (hp : ¬t.val % 8 = 0 → Rd (S := S1x512) (φ := .f32)
      (outsAt0 m c (t.val - 1) (before t)).2.2.2.2.2.2.2.2.1 (fun _ d _ _ => A.dclb (512 * t.val) d)) :
    Rd (S := S1x512) (φ := .f32) (outsAt0 m c t.val t.isLt).2.2.2.2.2.2.2.2.1
      (fun _ d _ _ => A.dclb (512 * (t.val + 1)) d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals frame_out
  on_goal 1 =>
    simp (disch := decide) only [↓View.readCov_cons_toLoadRect, ↓View.readCov_skip, ↓View.readCov_fill]
    refine (canon_later [_] y [_, _, _, _] (View.cover_of_tiledBy _ ![1, 128] (by sl_kernel_rfl) _)).trans ?_
  all_goals
    canon_tiles x h using View.cover_of_tiledBy _ ![1, 128] (by sl_kernel_rfl) _
    all_goals simp only [k0_pay1, k0_pay189, k0_pay190, k0_pay192, k0_pay198, k0_pay199, k0_pay201, k0_pay206, k0_pay207, k0_pay208,
    k0_pay210, k0_pay215, k0_pay216, k0_pay218, k0_pay16, k0_pay17, k0_pay18, c186, c203, c212, c187, c204, c213, c188, c197, c205, c214, c200, c209, c217]
    all_goals refine (Rd2 _ _).trans (congrArg _ ?_)
    all_goals simp only [show co x 0 = (x 0).val from rfl, show co x 1 = (x 1).val from rfl,
    show co y 0 = (y 0).val from rfl, show co y 1 = (y 1).val from rfl]
    all_goals refine sum_more (u := fun n => A.dz n (y 1).val) ?_ fun r hr =>
                 Args.dz_at (n := 512 * t.val + r) (q := (y 1).val / 128) (k := (x 1).val) rfl ?_ ?_ (Args.Group.of ?_ ?_ ?_ ?_)
  all_goals first
    | omega
    | exact sum_none (by rw [first_zero t e0])
    | exact congrArg (A.dclb _) (by omega)

theorem out20 (t : Fin cfg0.N) (hp : ¬t.val % 8 = 0 → Rd (S := S1x1024x1024) (φ := .f32)
      (outsAt0 m c (t.val - 1) (before t)).2.2.2.2.2.2.2.2.2.1 (fun _ i j _ => A.dwo (512 * t.val) i j)) :
    Rd (S := S1x1024x1024) (φ := .f32) (outsAt0 m c t.val t.isLt).2.2.2.2.2.2.2.2.2.1
      (fun _ i j _ => A.dwo (512 * (t.val + 1)) i j) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals
    frame_out
    try simp (disch := decide) only [↓View.readCov_cons_toLoadRect, ↓View.readCov_skip, ↓View.readCov_fill, ↓read_unread_whole]
    simp only [k0_pay21, k0_pay20]
    refine (Rd2 _ _).trans (congrArg _ ?_)
    refine sum_more (u := fun n => A.mix n (y 1).val * A.dx n (y 2).val) ?_ fun r hr => rfl
  · exact sum_none (by rw [first_zero t e0])
  all_goals rfl

theorem out21 (t : Fin cfg0.N) (e0 : ¬t.val % 8 = 0) (e1 : t.val % 8 = 7) (hp : Rd (S := S1x1024x1024) (φ := .f32)
      (outsAt0 m c (t.val - 1) (before t)).2.2.2.2.2.2.2.2.2.1 (fun _ i j _ => A.dwo (512 * t.val) i j)) :
    Rd (S := S1x1024x1024) (φ := .bf16) (outsAt0 m c t.val t.isLt).2.2.2.2.2.2.2.2.2.2.1
      (fun _ i j _ => A.dwo (512 * (t.val + 1)) i j) := by
  haveI : Step A t.val := ⟨trivial⟩
  refine ⟨fun y => ?_⟩
  rw [outsAt0_C m c t e0 e1]
  frame_out
  try simp (disch := decide) only [↓View.readCov_cons_toLoadRect, ↓View.readCov_skip, ↓View.readCov_fill, ↓read_unread_whole]
  simp only [k0_pay21, k0_pay6]
  refine (Rd2 _ _).trans (congrArg _ ?_)
  exact sum_more (u := fun n => A.mix n (y 1).val * A.dx n (y 2).val) rfl fun r hr => rfl

end Cert.KernelIdeal.Gen
-- ==== Proof.KOut3.lean ====
module

public import proofs.«01_k».proof.Proof.KBase
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

/-! The sums over the chunks of one step: the gradient of the spatial weights and of the spatial bias. -/

namespace Cert.KernelIdeal.Gen

open Idealize.ShloMosaic Calc Tile

variable (m : (ℓ : Loc nD τ sig) → Buf (Elt Ideal) ℓ) (c : Dev nD) {A : Args} [hin : In m c A]

theorem out15 (t : Fin cfg0.N) (e1 : ¬t.val % 8 = 7) (hp : ¬t.val % 8 = 0 → Rd (S := S4x128x128) (φ := .f32)
      (outsAt0 m c (t.val - 1) (before t)).2.2.2.2.1 (fun h i j _ => A.dws (4 * t.val) h i j)) :
    Rd (S := S4x128x128) (φ := .f32) (outsAt0 m c t.val t.isLt).2.2.2.2.1
      (fun h i j _ => A.dws (4 * (t.val + 1)) h i j) := by
  haveI : Step A t.val := ⟨trivial⟩
  refine ⟨fun y => ?_⟩
  by_cases e0 : t.val % 8 = 0
  on_goal 1 => rw [outsAt0_A m c t e0 e1]
  on_goal 2 =>
    rw [outsAt0_B m c t e0 e1]
    haveI := hp e0
  all_goals frame_out
  all_goals simp (disch := decide) only [↓View.readCov_cons_toLoadRect, ↓View.readCov_skip, ↓View.readCov_fill, ↓read_unread_whole]
  all_goals rw [canon_last4]
  on_goal 1 =>
    refine (canon_later [_] y [_, _, _, _] (View.cover_of_tiledBy _ ![1, 128, 128] (by sl_kernel_rfl) _)).trans ?_
  all_goals
    canon_tiles x h using View.cover_of_tiledBy _ ![1, 128, 128] (by sl_kernel_rfl) _
    all_goals simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218]
    all_goals refine (Rd2 _ _).trans (congrArg _ ?_)
    all_goals simp only [show co x 0 = (x 0).val from rfl, show co x 1 = (x 1).val from rfl, show co x 2 = (x 2).val from rfl,
    show co y 0 = (y 0).val from rfl, show co y 1 = (y 1).val from rfl, show co y 2 = (y 2).val from rfl]
    all_goals refine sum_four (C := 4 * t.val)
                 (u := fun c => ∑ e ∈ Finset.range 128,
                   A.dmixed (c * 128 + (y 1).val) ((y 0).val * 128 + e) * A.v (c * 128 + (y 2).val) ((y 0).val * 128 + e)) ?_
                 (sum_congr_lt fun e he => mul_two (Args.dmixed_at ?_ ?_ ?_ ?_) (Args.v_at ?_ ?_))
                 (sum_congr_lt fun e he => mul_two (Args.dmixed_at ?_ ?_ ?_ ?_) (Args.v_at ?_ ?_))
                 (sum_congr_lt fun e he => mul_two (Args.dmixed_at ?_ ?_ ?_ ?_) (Args.v_at ?_ ?_))
                 (sum_congr_lt fun e he => mul_two (Args.dmixed_at ?_ ?_ ?_ ?_) (Args.v_at ?_ ?_))
  all_goals first
    | omega
    | exact sum_none (by rw [first_zero t e0])
    | exact Args.dws_eq (h := (y 0).val) (i := (y 1).val) (j := (y 2).val) (by omega) (by omega) (by omega)

theorem out15_last (t : Fin cfg0.N) (e0 : ¬t.val % 8 = 0) (e1 : t.val % 8 = 7) (hp : Rd (S := S4x128x128) (φ := .f32)
      (outsAt0 m c (t.val - 1) (before t)).2.2.2.2.1 (fun h i j _ => A.dws (4 * t.val) h i j)) :
    Rd (S := S4x128x128) (φ := .f32) (outsAt0 m c t.val t.isLt).2.2.2.2.1
      (fun h i j _ => A.dwm (4 * (t.val + 1)) h i j) := by
  haveI : Step A t.val := ⟨trivial⟩
  refine ⟨fun y => ?_⟩
  rw [outsAt0_C m c t e0 e1]
  frame_out
  simp (disch := decide) only [↓View.readCov_cons_toLoadRect, ↓View.readCov_skip, ↓View.readCov_fill, ↓read_unread_whole]
  refine (canon_later _ y [_, _, _, _] (View.cover_of_tiledBy _ ![1, 128, 128] (by sl_kernel_rfl) _)).trans ?_
  canon_tiles x h using View.cover_of_tiledBy _ ![1, 128, 128] (by sl_kernel_rfl) _
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218]
    refine (Rd2 _ _).trans (congrArg _ ?_)
    simp only [show co x 0 = (x 0).val from rfl, show co x 1 = (x 1).val from rfl, show co x 2 = (x 2).val from rfl,
    show co y 0 = (y 0).val from rfl, show co y 1 = (y 1).val from rfl, show co y 2 = (y 2).val from rfl]
    refine if_congr ?_ (sum_four (C := 4 * t.val)
                 (u := fun c => ∑ e ∈ Finset.range 128,
                   A.dmixed (c * 128 + (y 1).val) ((y 0).val * 128 + e) * A.v (c * 128 + (y 2).val) ((y 0).val * 128 + e)) ?_
                 (sum_congr_lt fun e he => mul_two (Args.dmixed_at ?_ ?_ ?_ ?_) (Args.v_at ?_ ?_))
                 (sum_congr_lt fun e he => mul_two (Args.dmixed_at ?_ ?_ ?_ ?_) (Args.v_at ?_ ?_))
                 (sum_congr_lt fun e he => mul_two (Args.dmixed_at ?_ ?_ ?_ ?_) (Args.v_at ?_ ?_))
                 (sum_congr_lt fun e he => mul_two (Args.dmixed_at ?_ ?_ ?_ ?_) (Args.v_at ?_ ?_))) rfl
  all_goals first
    | omega
    | exact Args.dws_eq (h := (y 0).val) (i := (y 1).val) (j := (y 2).val) (by omega) (by omega) (by omega)

theorem out22 (t : Fin cfg0.N) (hp : ¬t.val % 8 = 0 → Rd (S := S128x512) (φ := .f32)
      (outsAt0 m c (t.val - 1) (before t)).2.2.2.2.2.2.2.2.2.2.2 (fun i d _ _ => A.dbt (4 * t.val) i d)) :
    Rd (S := S128x512) (φ := .f32) (outsAt0 m c t.val t.isLt).2.2.2.2.2.2.2.2.2.2.2
      (fun i d _ _ => A.dbt (4 * (t.val + 1)) i d) := by
  haveI : Step A t.val := ⟨trivial⟩
  refine ⟨fun y => ?_⟩
  rcases point t with ⟨e0, e1⟩ | ⟨e0, e1⟩ | ⟨e0, e1⟩
  on_goal 1 => rw [outsAt0_A m c t e0 e1]
  on_goal 2 => rw [outsAt0_B m c t e0 e1]
  on_goal 3 => rw [outsAt0_C m c t e0 e1]
  on_goal 2 => haveI := hp e0
  on_goal 3 => haveI := hp e0
  all_goals frame_out
  all_goals simp (disch := decide) only [↓View.readCov_cons_toLoadRect, ↓View.readCov_skip, ↓View.readCov_fill, ↓read_unread_whole]
  all_goals rw [canon_last4]
  on_goal 1 =>
    refine (canon_later [_] y [_, _, _, _] (View.cover_of_tiledBy _ ![128, 128] (by sl_kernel_rfl) _)).trans ?_
  all_goals
    canon_tiles x h using View.cover_of_tiledBy _ ![128, 128] (by sl_kernel_rfl) _
    all_goals simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218]
    all_goals refine (Rd2 _ _).trans (congrArg _ ?_)
    all_goals simp only [show co x 0 = (x 0).val from rfl, show co x 1 = (x 1).val from rfl,
    show co y 0 = (y 0).val from rfl, show co y 1 = (y 1).val from rfl]
    all_goals refine sum_four (C := 4 * t.val) (u := fun c => A.dmixed (c * 128 + (y 0).val) (y 1).val) ?_
                 (Args.dmixed_at ?_ ?_ ?_ ?_) (Args.dmixed_at ?_ ?_ ?_ ?_)
                 (Args.dmixed_at ?_ ?_ ?_ ?_) (Args.dmixed_at ?_ ?_ ?_ ?_)
  all_goals first
    | omega
    | exact sum_none (by rw [first_zero t e0])
    | exact Args.dbt_eq (i := (y 0).val) (d := (y 1).val) (by omega) (by omega)

theorem out16 (t : Fin cfg0.N) (e0 : ¬t.val % 8 = 0) (e1 : t.val % 8 = 7) (hp : Rd (S := S128x512) (φ := .f32)
      (outsAt0 m c (t.val - 1) (before t)).2.2.2.2.2.2.2.2.2.2.2 (fun i d _ _ => A.dbt (4 * t.val) i d)) :
    Rd (S := S4x128) (φ := .f32) (outsAt0 m c t.val t.isLt).2.2.2.2.2.1
      (fun h i _ _ => A.dbs (4 * (t.val + 1)) h i) := by
  haveI : Step A t.val := ⟨trivial⟩
  refine ⟨fun y => ?_⟩
  rw [outsAt0_C m c t e0 e1]
  frame_out
  simp (disch := decide) only [↓View.readCov_cons_toLoadRect, ↓View.readCov_skip, ↓View.readCov_fill, ↓read_unread_whole]
  canon_tiles x h using View.cover_of_tiledBy _ ![1, 128] (by sl_kernel_rfl) _
  all_goals
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218]
    refine (Rd2 _ _).trans (congrArg _ ?_)
    simp only [show co x 0 = (x 0).val from rfl, show co x 1 = (x 1).val from rfl,
    show co y 0 = (y 0).val from rfl, show co y 1 = (y 1).val from rfl]
    refine sum_congr_lt fun e he => sum_four (C := 4 * t.val)
                 (u := fun c => A.dmixed (c * 128 + (y 1).val) ((y 0).val * 128 + e)) ?_
                 (Args.dmixed_at ?_ ?_ ?_ ?_) (Args.dmixed_at ?_ ?_ ?_ ?_)
                 (Args.dmixed_at ?_ ?_ ?_ ?_) (Args.dmixed_at ?_ ?_ ?_ ?_)
  all_goals first
    | omega
    | exact Args.dbt_eq (i := (y 1).val) (d := (y 0).val * 128 + e) (by omega) (by omega)

end Cert.KernelIdeal.Gen
-- ==== Proof.KFinal.lean ====
module

public import proofs.«01_k».proof.Proof.KOut1
public import proofs.«01_k».proof.Proof.KOut2
public import proofs.«01_k».proof.Proof.KOut3
public import proofs.«01_k».proof.Proof.Gen.KernelIdeal.Value
public import Idealize.ShloMosaic.Lib.Pipeline.ValueKit

@[expose] public section

set_option maxRecDepth 16384

noncomputable section

/-! The sums after every step, and the arrays the kernel leaves. -/

namespace Cert.KernelIdeal.Gen

open Idealize.ShloMosaic Calc Tile

variable (m : (ℓ : Loc nD τ sig) → Buf (Elt Ideal) ℓ) (c : Dev nD) {A : Args} [hin : In m c A]

theorem step_pred {n : ℕ} (h : ¬n % 8 = 0) : n - 1 + 1 = n := by omega

theorem sum13 : ∀ n h, Rd (S := S1x512) (φ := .f32) (outsAt0 m c n h).2.2.1 (fun _ d _ _ => A.dlg (512 * (n + 1)) d) :=
  points (fun t e => out13 m c t fun h => absurd e h) fun t e _ ih => out13 m c t fun _ => by
    rw [step_pred e] at ih; exact ih

theorem sum14 : ∀ n h, Rd (S := S1x512) (φ := .f32) (outsAt0 m c n h).2.2.2.1 (fun _ d _ _ => A.dlb (512 * (n + 1)) d) :=
  points (fun t e => out14 m c t fun h => absurd e h) fun t e _ ih => out14 m c t fun _ => by
    rw [step_pred e] at ih; exact ih

theorem sum15 : ∀ n h, ¬n % 8 = 7 → Rd (S := S4x128x128) (φ := .f32) (outsAt0 m c n h).2.2.2.2.1
    (fun h i j _ => A.dws (4 * (n + 1)) h i j) :=
  points (fun t e e1 => out15 m c t e1 fun h => absurd e h) fun t e _ ih e1 => out15 m c t e1 fun _ => by
    rw [step_pred e] at ih; exact ih (by have : t.val < 8 := t.isLt; omega)

theorem sum17 : ∀ n h, Rd (S := S1x512) (φ := .f32) (outsAt0 m c n h).2.2.2.2.2.2.1
    (fun _ d _ _ => A.dcb (512 * (n + 1)) d) :=
  points (fun t e => out17 m c t fun h => absurd e h) fun t e _ ih => out17 m c t fun _ => by
    rw [step_pred e] at ih; exact ih

theorem sum18 : ∀ n h, Rd (S := S1x512) (φ := .f32) (outsAt0 m c n h).2.2.2.2.2.2.2.1
    (fun _ d _ _ => A.dclg (512 * (n + 1)) d) :=
  points (fun t e => out18 m c t fun h => absurd e h) fun t e _ ih => out18 m c t fun _ => by
    rw [step_pred e] at ih; exact ih

theorem sum19 : ∀ n h, Rd (S := S1x512) (φ := .f32) (outsAt0 m c n h).2.2.2.2.2.2.2.2.1
    (fun _ d _ _ => A.dclb (512 * (n + 1)) d) :=
  points (fun t e => out19 m c t fun h => absurd e h) fun t e _ ih => out19 m c t fun _ => by
    rw [step_pred e] at ih; exact ih

theorem sum20 : ∀ n h, Rd (S := S1x1024x1024) (φ := .f32) (outsAt0 m c n h).2.2.2.2.2.2.2.2.2.1
    (fun _ i j _ => A.dwo (512 * (n + 1)) i j) :=
  points (fun t e => out20 m c t fun h => absurd e h) fun t e _ ih => out20 m c t fun _ => by
    rw [step_pred e] at ih; exact ih

theorem sum22 : ∀ n h, Rd (S := S128x512) (φ := .f32) (outsAt0 m c n h).2.2.2.2.2.2.2.2.2.2.2
    (fun i d _ _ => A.dbt (4 * (n + 1)) i d) :=
  points (fun t e => out22 m c t fun h => absurd e h) fun t e _ ih => out22 m c t fun _ => by
    rw [step_pred e] at ih; exact ih

/-- The row blocks of the two tiled results. -/
theorem idx11 : ∀ t : Fin cfg0.N, win0_11.index t = ![t.val, 0] ∧ win0_12.index t = ![t.val, 0] :=
  (by decide +kernel : ∀ t : Fin grid0.N, _)

instance fin11 : Rd (S := S4096x1024) (φ := .bf16) ((dats m 0 c).arrAt 11 cfg0.N) (fun n d _ _ => A.dpa n d) := by
  refine ⟨fun i => congrFun ((dats m 0 c).arrAt_eq_of_covers 11
    (fun i : S4096x1024.Idx => ((A.dpa (i 0).val (i 1).val : ℝ) : EReal)) (by decide +kernel) fun t hf y => ?_) i⟩
  blk_simp [idx11 t]
  rw [after0_11]
  refine ((out11 m c t).at_ y).trans ?_
  show ((A.dpa (512 * t.val + (y 0).val) (y 1).val : ℝ) : EReal) = _
  congr 2 <;> simp [mul_comm]

instance fin12 : Rd (S := S4096x512) (φ := .f32) ((dats m 0 c).arrAt 12 cfg0.N) (fun n d _ _ => A.dc n d) := by
  refine ⟨fun i => congrFun ((dats m 0 c).arrAt_eq_of_covers 12
    (fun i : S4096x512.Idx => ((A.dc (i 0).val (i 1).val : ℝ) : EReal)) (by decide +kernel) fun t hf y => ?_) i⟩
  blk_simp [idx11 t]
  rw [after0_12]
  refine ((out12 m c t).at_ y).trans ?_
  show ((A.dc (512 * t.val + (y 0).val) (y 1).val : ℝ) : EReal) = _
  congr 2 <;> simp [mul_comm]

instance fin13 : Rd (S := S1x512) (φ := .f32) ((dats m 0 c).arrAt 13 cfg0.N) (fun _ d _ _ => A.dlg 4096 d) := by
  have e : (dats m 0 c).arrAt 13 cfg0.N = (outsAt0 m c t0_7.val t0_7.isLt).2.2.1 := by
    refine (dats m 0 c).arrAt_eq_of_after_last 13 t0_7 (by decide +kernel) _ fun j => ?_
    blk_simp
    rw [after0_13]
  rw [e]
  exact sum13 m c 7 _

instance fin14 : Rd (S := S1x512) (φ := .f32) ((dats m 0 c).arrAt 14 cfg0.N) (fun _ d _ _ => A.dlb 4096 d) := by
  have e : (dats m 0 c).arrAt 14 cfg0.N = (outsAt0 m c t0_7.val t0_7.isLt).2.2.2.1 := by
    refine (dats m 0 c).arrAt_eq_of_after_last 14 t0_7 (by decide +kernel) _ fun j => ?_
    blk_simp
    rw [after0_14]
  rw [e]
  exact sum14 m c 7 _

instance fin15 : Rd (S := S4x128x128) (φ := .f32) ((dats m 0 c).arrAt 15 cfg0.N) (fun h i j _ => A.dwm 32 h i j) := by
  have e : (dats m 0 c).arrAt 15 cfg0.N = (outsAt0 m c t0_7.val t0_7.isLt).2.2.2.2.1 := by
    refine (dats m 0 c).arrAt_eq_of_after_last 15 t0_7 (by decide +kernel) _ fun j => ?_
    blk_simp
    rw [after0_15]
  rw [e]
  exact out15_last m c t0_7 (by decide) (by decide) (sum15 m c 6 _ (by decide))

instance fin16 : Rd (S := S4x128) (φ := .f32) ((dats m 0 c).arrAt 16 cfg0.N) (fun h i _ _ => A.dbs 32 h i) := by
  have e : (dats m 0 c).arrAt 16 cfg0.N = (outsAt0 m c t0_7.val t0_7.isLt).2.2.2.2.2.1 := by
    refine (dats m 0 c).arrAt_eq_of_after_last 16 t0_7 (by decide +kernel) _ fun j => ?_
    blk_simp
    rw [after0_16]
  rw [e]
  exact out16 m c t0_7 (by decide) (by decide) (sum22 m c 6 _)

instance fin17 : Rd (S := S1x512) (φ := .f32) ((dats m 0 c).arrAt 17 cfg0.N) (fun _ d _ _ => A.dcb 4096 d) := by
  have e : (dats m 0 c).arrAt 17 cfg0.N = (outsAt0 m c t0_7.val t0_7.isLt).2.2.2.2.2.2.1 := by
    refine (dats m 0 c).arrAt_eq_of_after_last 17 t0_7 (by decide +kernel) _ fun j => ?_
    blk_simp
    rw [after0_17]
  rw [e]
  exact sum17 m c 7 _

instance fin18 : Rd (S := S1x512) (φ := .f32) ((dats m 0 c).arrAt 18 cfg0.N) (fun _ d _ _ => A.dclg 4096 d) := by
  have e : (dats m 0 c).arrAt 18 cfg0.N = (outsAt0 m c t0_7.val t0_7.isLt).2.2.2.2.2.2.2.1 := by
    refine (dats m 0 c).arrAt_eq_of_after_last 18 t0_7 (by decide +kernel) _ fun j => ?_
    blk_simp
    rw [after0_18]
  rw [e]
  exact sum18 m c 7 _

instance fin19 : Rd (S := S1x512) (φ := .f32) ((dats m 0 c).arrAt 19 cfg0.N) (fun _ d _ _ => A.dclb 4096 d) := by
  have e : (dats m 0 c).arrAt 19 cfg0.N = (outsAt0 m c t0_7.val t0_7.isLt).2.2.2.2.2.2.2.2.1 := by
    refine (dats m 0 c).arrAt_eq_of_after_last 19 t0_7 (by decide +kernel) _ fun j => ?_
    blk_simp
    rw [after0_19]
  rw [e]
  exact sum19 m c 7 _

instance fin20 : Rd (S := S1x1024x1024) (φ := .f32) ((dats m 0 c).arrAt 20 cfg0.N) (fun _ i j _ => A.dwo 4096 i j) := by
  have e : (dats m 0 c).arrAt 20 cfg0.N = (outsAt0 m c t0_7.val t0_7.isLt).2.2.2.2.2.2.2.2.2.1 := by
    refine (dats m 0 c).arrAt_eq_of_after_last 20 t0_7 (by decide +kernel) _ fun j => ?_
    blk_simp
    rw [after0_20]
  rw [e]
  exact sum20 m c 7 _

instance fin21 : Rd (S := S1x1024x1024) (φ := .bf16) ((dats m 0 c).arrAt 21 cfg0.N) (fun _ i j _ => A.dwo 4096 i j) := by
  have e : (dats m 0 c).arrAt 21 cfg0.N = (outsAt0 m c t0_7.val t0_7.isLt).2.2.2.2.2.2.2.2.2.2.1 := by
    refine (dats m 0 c).arrAt_eq_of_after_last 21 t0_7 (by decide +kernel) _ fun j => ?_
    blk_simp
    rw [after0_21]
  rw [e]
  exact out21 m c t0_7 (by decide) (by decide) (sum20 m c 6 _)

end Cert.KernelIdeal.Gen
-- ==== Proof.HostOps.lean ====
module

public import proofs.«01_k».proof.Proof.Spec
public import proofs.«01_k».proof.Proof.Gen.ReferenceIdeal.Read
public import Idealize.ShloMosaic.Lib.TwoAxisContraction

@[expose] public section

set_option maxRecDepth 16384

noncomputable section

/-! The reference's operations in real numbers: each keeps the description of its operands. -/

namespace Cert.ReferenceIdeal.Ref

open Idealize.ShloMosaic Cert.ReferenceIdeal Cert.ReferenceIdeal.Gen Calc

variable {S : Shape} {φ ψ : FTy} {f g : ℕ → ℕ → ℕ → ℕ → ℝ}

section Elem
variable (x y : FVec Ideal S φ) [hx : Rd x f] [hy : Rd y g]

instance Rd.hnegf : Rd (Host.negf x) (fun a b c d => -f a b c d) := Calc.hnegf x
instance Rd.hexp : Rd (Host.exp x) (fun a b c d => Real.exp (f a b c d)) :=
  ⟨fun i => by show Ideal.exp (x i) = _; rw [hx.at_ i, Ideal.exp_coe]⟩
instance Rd.herfc : Rd (Host.erfc x) (fun a b c d => 1 - erfR (f a b c d)) :=
  ⟨fun i => by
    show (1 : EReal) - Ideal.erf (x i) = _
    rw [hx.at_ i, Ideal.erf_coe, ← EReal.coe_one, ← EReal.coe_sub]; rfl⟩
instance Rd.hatan : Rd (Host.atan x) (fun a b c d => Real.arctan (f a b c d)) :=
  ⟨fun i => by show Ideal.atan (x i) = _; rw [hx.at_ i]; rfl⟩
theorem Rd.hrsqrt (hp : ∀ a b c d, 0 < f a b c d) :
    Rd (Host.rsqrt x) (fun a b c d => (Real.sqrt (f a b c d))⁻¹) :=
  ⟨fun i => by
    show Ideal.rsqrt (x i) = _
    rw [hx.at_ i, Ideal.rsqrt_coe, if_neg (not_lt.2 (hp _ _ _ _).le), if_neg (hp _ _ _ _).ne']⟩
theorem Rd.hdivf (hp : ∀ a b c d, g a b c d ≠ 0) :
    Rd (Host.divf x y) (fun a b c d => f a b c d / g a b c d) :=
  ⟨fun i => by
    show Ideal.div (x i) (y i) = _
    rw [hx.at_ i, hy.at_ i, Ideal.div_coe (hp _ _ _ _), ← EReal.coe_mul, mul_one_div]⟩
end Elem

/-- A sum that starts from a zero scalar. -/
theorem zsum {z : FVec Ideal S_ .f32} [hz : Rd z (fun _ _ _ _ => 0)] (h : 0 < S_.numel) {e : EReal} {r : ℝ} (he : e = (r : EReal)) :
    z (Shape.Idx.first h) + e = (r : EReal) := by
  rw [he, hz.at_, ← EReal.coe_add, zero_add]

instance bcScalar {T : Shape} (dims : Fin S_.rank → Fin T.rank) (x : FVec Ideal S_ φ) [hx : Rd x f] (h : S_.BroadcastsInDim T dims) :
    Rd (φ := φ) (broadcastInDim T dims h x) (fun _ _ _ _ => f 0 0 0 0) :=
  ⟨fun i => by unfold broadcastInDim; rw [hx.at_]; rfl⟩

theorem sge_word (i j : Fin 128) :
    IntOp.cmpi CmpIPredicate.sge (BitVec.ofNat 32 i.val) (BitVec.ofNat 32 j.val) = if j.val ≤ i.val then 1#1 else 0#1 := by
  revert i j; decide +kernel

section Layout
instance (x : FVec Ideal S4096 φ) [h : Rd x f] hh :
    Rd (φ := φ) (broadcastInDim S4096x1 ![0] hh x) (fun a b _ _ => f a 0 0 0) :=
  Rd.of2 fun a b => by pointwise; exact h.one _
instance (x : FVec Ideal S4096 φ) [h : Rd x f] hh :
    Rd (φ := φ) (broadcastInDim S4096x512 ![0] hh x) (fun a b _ _ => f a 0 0 0) :=
  Rd.of2 fun a b => by pointwise; exact h.one _
instance (x : FVec Ideal S4096x1 φ) [h : Rd x f] hh :
    Rd (φ := φ) (broadcastInDim S4096x512 ![0, 1] hh x) (fun a b _ _ => f a 0 0 0) :=
  Rd.of2 fun a b => by pointwise; exact h.two _ _
instance (x : FVec Ideal S512 φ) [h : Rd x f] hh :
    Rd (φ := φ) (broadcastInDim S1x512 ![1] hh x) (fun a b _ _ => f b 0 0 0) :=
  Rd.of2 fun a b => by pointwise; exact h.one _
instance (x : FVec Ideal S1x512 φ) [h : Rd x f] hh :
    Rd (φ := φ) (broadcastInDim S4096x512 ![0, 1] hh x) (fun a b _ _ => f 0 b 0 0) :=
  Rd.of2 fun a b => by pointwise; exact h.two _ _
instance (x : FVec Ideal S128x128 φ) [h : Rd x f] hh :
    Rd (φ := φ) (broadcastInDim S1x128x128 ![1, 2] hh x) (fun a b c _ => f b c 0 0) :=
  Rd.of3 fun a b c => by pointwise; exact h.two _ _
instance (x : FVec Ideal S1x128x128 φ) [h : Rd x f] hh :
    Rd (φ := φ) (broadcastInDim S4x128x128 ![0, 1, 2] hh x) (fun a b c _ => f 0 b c 0) :=
  Rd.of3 fun a b c => by pointwise; exact h.three _ _ _
instance (x : FVec Ideal S128x4 φ) [h : Rd x f] hh :
    Rd (φ := φ) (broadcastInDim S1x128x4x1 ![1, 2] hh x) (fun a b c d => f b c 0 0) :=
  Rd.of4 fun a b c d => by pointwise; exact h.two _ _
instance (x : FVec Ideal S1x128x4x1 φ) [h : Rd x f] hh :
    Rd (φ := φ) (broadcastInDim S32x128x4x128 ![0, 1, 2, 3] hh x) (fun a b c d => f 0 b c 0) :=
  Rd.of4 fun a b c d => by pointwise; exact h.four _ _ _ _
instance (x : FVec Ideal S4096x4 φ) [h : Rd x f] hh :
    Rd (φ := φ) (broadcastInDim S4096x4x1 ![0, 1] hh x) (fun a b c _ => f a b 0 0) :=
  Rd.of3 fun a b c => by pointwise; exact h.two _ _
instance (x : FVec Ideal S4096x4x1 φ) [h : Rd x f] hh :
    Rd (φ := φ) (broadcastInDim S4096x4x128 ![0, 1, 2] hh x) (fun a b c _ => f a b 0 0) :=
  Rd.of3 fun a b c => by pointwise; exact h.three _ _ _
instance (x : FVec Ideal S4096x4 φ) [h : Rd x f] hh :
    Rd (φ := φ) (broadcastInDim S4096x4x128 ![0, 1] hh x) (fun a b c _ => f a b 0 0) :=
  Rd.of3 fun a b c => by pointwise; exact h.two _ _
instance (x : FVec Ideal S4x128 φ) [h : Rd x f] hh :
    Rd (φ := φ) (broadcastInDim S1x4x128 ![1, 2] hh x) (fun a b c _ => f b c 0 0) :=
  Rd.of3 fun a b c => by pointwise; exact h.two _ _
instance (x : FVec Ideal S1x4x128 φ) [h : Rd x f] hh :
    Rd (φ := φ) (broadcastInDim S4096x4x128 ![0, 1, 2] hh x) (fun a b c _ => f 0 b c 0) :=
  Rd.of3 fun a b c => by pointwise; exact h.three _ _ _
instance (x : FVec Ideal S4x32x128x128 φ) [h : Rd x f] hh :
    Rd (φ := φ) (transpose S32x128x4x128 [1, 3, 0, 2] x hh) (fun a b c d => f c a d b) :=
  Rd.of4 fun a b c d => by pointwise; exact h.four _ _ _ _
instance (x : FVec Ideal S4x128 φ) [h : Rd x f] hh :
    Rd (φ := φ) (transpose S128x4 [1, 0] x hh) (fun a b _ _ => f b a 0 0) :=
  Rd.of2 fun a b => by pointwise; exact h.two _ _
instance (x : FVec Ideal S128x4 φ) [h : Rd x f] hh :
    Rd (φ := φ) (transpose S4x128 [1, 0] x hh) (fun a b _ _ => f b a 0 0) :=
  Rd.of2 fun a b => by pointwise; exact h.two _ _
instance (x : FVec Ideal S1024x1024 φ) [h : Rd x f] hh :
    Rd (φ := φ) (transpose S1024x1024 [1, 0] x hh) (fun a b _ _ => f b a 0 0) :=
  Rd.of2 fun a b => by pointwise; exact h.two _ _
instance (x : FVec Ideal S32x128x4x128 φ) [h : Rd x f] hh :
    Rd (φ := φ) (transpose S4x32x128x128 [2, 0, 3, 1] x hh) (fun a b c d => f b d a c) :=
  Rd.of4 fun a b c d => by pointwise; exact h.four _ _ _ _
instance (x : FVec Ideal S4096x512 φ) [h : Rd x f] hh :
    Rd (φ := φ) (shapeCast S32x128x4x128 x hh) (fun a b c d => f (a * 128 + b) (c * 128 + d) 0 0) :=
  Rd.of4 fun a b c d => by pointwise; exact h.two _ _
instance (x : FVec Ideal S32x128x4x128 φ) [h : Rd x f] hh :
    Rd (φ := φ) (shapeCast S4096x512 x hh) (fun a b _ _ => f (a / 128) (a % 128) (b / 128) (b % 128)) :=
  Rd.of2 fun a b => by pointwise; exact h.four _ _ _ _
instance (x : FVec Ideal S4096x512 φ) [h : Rd x f] hh :
    Rd (φ := φ) (shapeCast S4096x4x128 x hh) (fun a b c _ => f a (b * 128 + c) 0 0) :=
  Rd.of3 fun a b c => by pointwise; exact h.two _ _
instance (x : FVec Ideal S4096x4x128 φ) [h : Rd x f] hh :
    Rd (φ := φ) (shapeCast S4096x512 x hh) (fun a b _ _ => f a (b / 128) (b % 128) 0) :=
  Rd.of2 fun a b => by pointwise; exact h.three _ _ _
instance (x : FVec Ideal S512 φ) [h : Rd x f] hh :
    Rd (φ := φ) (shapeCast S4x128 x hh) (fun a b _ _ => f (a * 128 + b) 0 0 0) :=
  Rd.of2 fun a b => by pointwise; exact h.one _
instance (x : FVec Ideal S4x128 φ) [h : Rd x f] hh :
    Rd (φ := φ) (shapeCast S512 x hh) (fun a _ _ _ => f (a / 128) (a % 128) 0 0) :=
  Rd.of1 fun a => by pointwise; exact h.two _ _
instance (x : FVec Ideal S4x128 φ) [h : Rd x f] hh :
    Rd (φ := φ) (shapeCast S1x4x128 x hh) (fun a b c _ => f b c 0 0) :=
  Rd.of3 fun a b c => by pointwise; exact h.two _ _
instance (x : FVec Ideal S4096x4 φ) [h : Rd x f] hh :
    Rd (φ := φ) (shapeCast S4096x4x1 x hh) (fun a b c _ => f a b 0 0) :=
  Rd.of3 fun a b c => by pointwise; exact h.two _ _
instance (x : FVec Ideal S512 φ) [h : Rd x f] hh :
    Rd (φ := φ) (shapeCast S1x512 x hh) (fun a b _ _ => f b 0 0 0) :=
  Rd.of2 fun a b => by pointwise; exact h.one _
instance (x : FVec Ideal S128x4 φ) [h : Rd x f] hh :
    Rd (φ := φ) (shapeCast S1x128x4x1 x hh) (fun a b c d => f b c 0 0) :=
  Rd.of4 fun a b c d => by pointwise; exact h.two _ _
instance (x : FVec Ideal S4096 φ) [h : Rd x f] hh :
    Rd (φ := φ) (shapeCast S4096x1 x hh) (fun a b _ _ => f a 0 0 0) :=
  Rd.of2 fun a b => by pointwise; exact h.one _
instance (x : FVec Ideal S1024x1024 φ) [h : Rd x f] hh :
    Rd (φ := φ) (shapeCast S1x1024x1024 x hh) (fun a b c _ => f b c 0 0) :=
  Rd.of3 fun a b c => by pointwise; exact h.two _ _
end Layout

section Sums
instance (x : FVec Ideal S4096x512 .f32) (z : FVec Ideal S_ .f32) [h : Rd x f] [hz : Rd z (fun _ _ _ _ => 0)] :
    Rd (φ := .f32) (Host.reduceAdd x z reducesTo_S4096x512_S4096_d1 h_S_) (fun a _ _ _ => ∑ k ∈ Finset.range 512, f a k 0 0) :=
  Rd.of1 fun a => by
    pointwise
    exact zsum _ (coe_sum_range _ _ (fun k => f a.val k 0 0) fun k => h.two _ _)
instance (x : FVec Ideal S4096x512 .f32) (z : FVec Ideal S_ .f32) [h : Rd x f] [hz : Rd z (fun _ _ _ _ => 0)] :
    Rd (φ := .f32) (Host.reduceAdd x z reducesTo_S4096x512_S512_d0 h_S_) (fun a _ _ _ => ∑ k ∈ Finset.range 4096, f k a 0 0) :=
  Rd.of1 fun a => by
    pointwise
    exact zsum _ (coe_sum_range _ _ (fun k => f k a.val 0 0) fun k => h.two _ _)
instance (x : FVec Ideal S4096x1 .f32) (z : FVec Ideal S_ .f32) [h : Rd x f] [hz : Rd z (fun _ _ _ _ => 0)] :
    Rd (φ := .f32) (Host.reduceAdd x z reducesTo_S4096x1_S4096_d1 h_S_) (fun a _ _ _ => ∑ k ∈ Finset.range 1, f a k 0 0) :=
  Rd.of1 fun a => by
    pointwise
    exact zsum _ (coe_sum_range _ _ (fun k => f a.val k 0 0) fun k => h.two _ _)
instance (x : FVec Ideal S1x512 .f32) (z : FVec Ideal S_ .f32) [h : Rd x f] [hz : Rd z (fun _ _ _ _ => 0)] :
    Rd (φ := .f32) (Host.reduceAdd x z reducesTo_S1x512_S512_d0 h_S_) (fun a _ _ _ => ∑ k ∈ Finset.range 1, f k a 0 0) :=
  Rd.of1 fun a => by
    pointwise
    exact zsum _ (coe_sum_range _ _ (fun k => f k a.val 0 0) fun k => h.two _ _)
instance (x : FVec Ideal S4096x4x128 .f32) (z : FVec Ideal S_ .f32) [h : Rd x f] [hz : Rd z (fun _ _ _ _ => 0)] :
    Rd (φ := .f32) (Host.reduceAdd x z reducesTo_S4096x4x128_S4096x4_d2 h_S_) (fun a b _ _ => ∑ k ∈ Finset.range 128, f a b k 0) :=
  Rd.of2 fun a b => by
    pointwise
    exact zsum _ (coe_sum_range _ _ (fun k => f a.val b.val k 0) fun k => h.three _ _ _)
instance (x : FVec Ideal S4096x4x128 .f32) (z : FVec Ideal S_ .f32) [h : Rd x f] [hz : Rd z (fun _ _ _ _ => 0)] :
    Rd (φ := .f32) (Host.reduceAdd x z reducesTo_S4096x4x128_S4x128_d0 h_S_) (fun a b _ _ => ∑ k ∈ Finset.range 4096, f k a b 0) :=
  Rd.of2 fun a b => by
    pointwise
    exact zsum _ (coe_sum_range _ _ (fun k => f k a.val b.val 0) fun k => h.three _ _ _)
instance (x : FVec Ideal S1x4x128 .f32) (z : FVec Ideal S_ .f32) [h : Rd x f] [hz : Rd z (fun _ _ _ _ => 0)] :
    Rd (φ := .f32) (Host.reduceAdd x z reducesTo_S1x4x128_S4x128_d0 h_S_) (fun a b _ _ => ∑ k ∈ Finset.range 1, f k a b 0) :=
  Rd.of2 fun a b => by
    pointwise
    exact zsum _ (coe_sum_range _ _ (fun k => f k a.val b.val 0) fun k => h.three _ _ _)
instance (x : FVec Ideal S4096x4x1 .f32) (z : FVec Ideal S_ .f32) [h : Rd x f] [hz : Rd z (fun _ _ _ _ => 0)] :
    Rd (φ := .f32) (Host.reduceAdd x z reducesTo_S4096x4x1_S4096x4_d2 h_S_) (fun a b _ _ => ∑ k ∈ Finset.range 1, f a b k 0) :=
  Rd.of2 fun a b => by
    pointwise
    exact zsum _ (coe_sum_range _ _ (fun k => f a.val b.val k 0) fun k => h.three _ _ _)
end Sums

section Contractions
instance (x : FVec Ideal S32x128x4x128 .f32) (y : FVec Ideal S4x128x128 .f32) [h : Rd x f] [h2 : Rd y g] :
    Rd (Host.dotGeneral dot_S32x128x4x128_S4x128x128_S4x32x128x128_1_2_03_1_2_0 none x y)
      (fun a b c d => ∑ k ∈ Finset.range 128, f b k a c * g a d k 0) :=
  Rd.of4 fun a b c d => by
    pointwise
    exact coe_sum_range _ _ (fun k => f b.val k a.val c.val * g a.val d.val k 0) fun k => by rw [h.four, h2.three, EReal.coe_mul]
instance (x : FVec Ideal S4096x1024 .f32) (y : FVec Ideal S4096x1024 .f32) [h : Rd x f] [h2 : Rd y g] :
    Rd (Host.dotGeneral dot_S4096x1024_S4096x1024_S1024x1024_0_0_1_1_n_n none x y)
      (fun a b _ _ => ∑ k ∈ Finset.range 4096, f k a 0 0 * g k b 0 0) :=
  Rd.of2 fun a b => by
    pointwise
    exact coe_sum_range _ _ (fun k => f k a.val 0 0 * g k b.val 0 0) fun k => by rw [h.two, h2.two, EReal.coe_mul]
instance (x : FVec Ideal S4096x1024 .f32) (y : FVec Ideal S1024x1024 .f32) [h : Rd x f] [h2 : Rd y g] :
    Rd (Host.dotGeneral dot_S4096x1024_S1024x1024_S4096x1024_1_1_0_0_n_n none x y)
      (fun a b _ _ => ∑ k ∈ Finset.range 1024, f a k 0 0 * g b k 0 0) :=
  Rd.of2 fun a b => by
    pointwise
    exact coe_sum_range _ _ (fun k => f a.val k 0 0 * g b.val k 0 0) fun k => by rw [h.two, h2.two, EReal.coe_mul]
instance (x : FVec Ideal S4x32x128x128 .f32) (y : FVec Ideal S4x128x128 .f32) [h : Rd x f] [h2 : Rd y g] :
    Rd (Host.dotGeneral dot_S4x32x128x128_S4x128x128_S4x32x128x128_3_1_12_2_0_0 none x y)
      (fun a b c d => ∑ k ∈ Finset.range 128, f a b c k * g a k d 0) :=
  Rd.of4 fun a b c d => by
    pointwise
    exact coe_sum_range _ _ (fun k => f a.val b.val c.val k * g a.val k d.val 0) fun k => by rw [h.four, h2.three, EReal.coe_mul]

instance (x : FVec Ideal S4x32x128x128 .f32) (y : FVec Ideal S32x128x4x128 .f32) [h : Rd x f] [h2 : Rd y g] :
    Rd (Host.dotGeneral dot_S4x32x128x128_S32x128x4x128_S4x128x128_12_03_3_1_0_2 none x y)
      (fun a b c _ => ∑ i ∈ Finset.range 32, ∑ k ∈ Finset.range 128, f a i k b * g i c a k) :=
  Rd.of3 fun a b c => by
    pointwise
    exact coe_sum_range _ _ (fun i => ∑ k ∈ Finset.range 128, f a.val i k b.val * g i c.val a.val k) fun i =>
      coe_sum_range _ _ (fun k => f a.val i.val k b.val * g i.val c.val a.val k) fun k => by
        rw [h.four, h2.four, EReal.coe_mul]
end Contractions

section TwoAxes
variable {n0 n1 n2 n3 : ℕ}

/-- The sum over the first and the last of four axes. -/
theorem hostSum03 (x : FVec Ideal ⟨4, ![n0, n1, n2, n3]⟩ .f32) (h : (⟨4, ![n0, n1, n2, n3]⟩ : Shape).ReducesTo [0, 3] ⟨2, ![n1, n2]⟩)
    (hd : ∀ a b c d, h.drop (ix4 a b c d) = ix2 b c) (b : Fin n1) (c : Fin n2) :
    Ideal.hostReduceAdd h x 0 (ix2 b c) = ∑ a, ∑ d, (x (ix4 a b c d) : EReal) := by
  unfold Ideal.hostReduceAdd
  rw [zero_add, Finset.sum_filter, sum_idx4]
  refine Finset.sum_congr rfl fun a _ => ?_
  rw [Finset.sum_eq_single b, Finset.sum_eq_single c]
  · exact Finset.sum_congr rfl fun d _ => if_pos (hd _ _ _ _)
  · intro c' _ hc
    refine Finset.sum_eq_zero fun d _ => if_neg fun e => hc ?_
    rw [hd] at e
    exact congrFun e 1
  · intro hc; exact absurd (Finset.mem_univ _) hc
  · intro b' _ hb
    refine Finset.sum_eq_zero fun c' _ => Finset.sum_eq_zero fun d _ => if_neg fun e => hb ?_
    rw [hd] at e
    exact congrFun e 0
  · intro hb; exact absurd (Finset.mem_univ _) hb

instance (x : FVec Ideal S32x128x4x128 .f32) (z : FVec Ideal S_ .f32) [h : Rd x f] [hz : Rd z (fun _ _ _ _ => 0)] :
    Rd (φ := .f32) (Host.reduceAdd x z reducesTo_S32x128x4x128_S128x4_d0_3 h_S_)
      (fun b c _ _ => ∑ a ∈ Finset.range 32, ∑ d ∈ Finset.range 128, f a b c d) :=
  Rd.of2 fun b c => by
    pointwise
    rw [hz.at_, EReal.coe_zero]
    refine (hostSum03 x _ (fun a b c d => ?_) b c).trans ?_
    · funext k
      match k with
      | ⟨0, _⟩ => rfl
      | ⟨1, _⟩ => rfl
    · exact coe_sum_range _ _ (fun i => ∑ d ∈ Finset.range 128, f i b.val c.val d) fun i =>
        coe_sum_range _ _ (fun d => f i.val b.val c.val d) fun d => h.four _ _ _ _

instance (x : FVec Ideal S1x128x4x1 .f32) (z : FVec Ideal S_ .f32) [h : Rd x f] [hz : Rd z (fun _ _ _ _ => 0)] :
    Rd (φ := .f32) (Host.reduceAdd x z reducesTo_S1x128x4x1_S128x4_d0_3 h_S_)
      (fun b c _ _ => ∑ a ∈ Finset.range 1, ∑ d ∈ Finset.range 1, f a b c d) :=
  Rd.of2 fun b c => by
    pointwise
    rw [hz.at_, EReal.coe_zero]
    refine (hostSum03 x _ (fun a b c d => ?_) b c).trans ?_
    · funext k
      match k with
      | ⟨0, _⟩ => rfl
      | ⟨1, _⟩ => rfl
    · exact coe_sum_range _ _ (fun i => ∑ d ∈ Finset.range 1, f i b.val c.val d) fun i =>
        coe_sum_range _ _ (fun d => f i.val b.val c.val d) fun d => h.four _ _ _ _
end TwoAxes

/-- Two blocks of columns side by side. -/
theorem Rd.hcat (x y : FVec Ideal S4096x512 .f32) [hx : Rd x f] [hy : Rd y g] hh :
    Rd (φ := .f32) (concatenate S4096x1024 1 [⟨S4096x512, x⟩, ⟨S4096x512, y⟩] hh)
      (fun a b _ _ => if b < 512 then f a b 0 0 else g a (b - 512) 0 0) :=
  Rd.of2 fun a b => by
    pointwise
    by_cases hb : b.val < 512
    · rw [dif_pos hb, if_pos hb]; exact hx.two _ _
    · rw [dif_neg hb, if_neg hb]; exact hy.two _ _

end Cert.ReferenceIdeal.Ref
-- ==== Proof.Ref.lean ====
module

public import proofs.«01_k».proof.Proof.HostOps
public import proofs.«01_k».proof.Proof.RefMath

@[expose] public section

set_option maxRecDepth 16384

noncomputable section

/-! The stages of the reference in real numbers. -/

namespace Cert.ReferenceIdeal.Ref

open Idealize.ShloMosaic Cert.ReferenceIdeal Cert.ReferenceIdeal.Gen Cert.ReferenceIdeal.Read Calc

/-- The arguments that are meant. -/
class Given (A : outParam Args) : Prop where
  /-- Nothing more is said. -/
  ok : True

variable {A : Args} [hA : Given A]
variable (x0 : FVec Ideal S4096x1024 .f32) [h0 : Rd x0 (fun n j _ _ => A.dx n j)]
variable (x1 : FVec Ideal S1024x1024 .f32) [h1 : Rd x1 (fun k j _ _ => A.wo k j)]
variable (x2 : FVec Ideal S4096x2048 .f32) [h2 : Rd x2 (fun n j _ _ => A.pr n j)]
variable (x3 : FVec Ideal S4096x512 .f32) [h3 : Rd x3 (fun n d _ _ => A.c0 n d)]
variable (x4 : FVec Ideal S512 .f32) [h4 : Rd x4 (fun d _ _ _ => A.lg d)]
variable (x5 : FVec Ideal S512 .f32) [h5 : Rd x5 (fun d _ _ _ => A.lb d)]
variable (x6 : FVec Ideal S4x128x128 .f32) [h6 : Rd x6 (fun h t s _ => A.w h t s)]
variable (x7 : FVec Ideal S4x128 .f32) [h7 : Rd x7 (fun h t _ _ => A.b h t)]
variable (x8 : FVec Ideal S512 .f32) [h8 : Rd x8 (fun d _ _ _ => A.cb d)]
variable (x9 : FVec Ideal S512 .f32) [h9 : Rd x9 (fun d _ _ _ => A.clg d)]
variable (x10 : FVec Ideal S512 .f32) [h10 : Rd x10 (fun d _ _ _ => A.clb d)]

instance rv0 : Rd (S := S4096x512) (φ := .f32) (val_main_v0 (F := Ideal) x2)
    (fun n d _ _ => A.pr n d) := by
  refine Rd.congr (by
    unfold val_main_v0
    exact inferInstance) fun a b c d => by simp only [Nat.zero_add]

instance rv1 : Rd (S := S4096x512) (φ := .f32) (val_main_v1 (F := Ideal) x2)
    (fun n d _ _ => A.pr n (512 + d)) := by
  refine Rd.congr (by
    unfold val_main_v1
    exact inferInstance) fun a b c d => by simp only [Nat.zero_add]

instance rv5 : Rd (S := S_) (φ := .f32) (val_main_v5 (F := Ideal))
    (fun _ _ _ _ => (Real.sqrt 2)⁻¹) := by
  unfold val_main_v5 val_main_cst_0
  exact Rd.hrsqrt _ fun _ _ _ _ => by norm_num

instance rv22 : Rd (S := S_) (φ := .f32) (val_main_v22 (F := Ideal))
    (fun _ _ _ _ => (Real.sqrt 2)⁻¹) := by
  unfold val_main_v22 val_main_cst_5
  exact Rd.hrsqrt _ fun _ _ _ _ => by norm_num

instance rv11 : Rd (S := S_) (φ := .f32) (val_main_v11 (F := Ideal))
    (fun _ _ _ _ => (Real.sqrt (4 * Real.arctan 1))⁻¹) := by
  unfold val_main_v11 val_main_v9 val_main_cst_2 val_main_v8 val_main_cst_1
  exact Rd.hrsqrt _ fun _ _ _ _ => four_arctan_pos

instance rv28 : Rd (S := S_) (φ := .f32) (val_main_v28 (F := Ideal))
    (fun _ _ _ _ => (Real.sqrt (4 * Real.arctan 1))⁻¹) := by
  unfold val_main_v28 val_main_v26 val_main_cst_7 val_main_v25 val_main_cst_6
  exact Rd.hrsqrt _ fun _ _ _ _ => four_arctan_pos

instance rv10 : Rd (S := S4096x512) (φ := .f32) (val_main_v10 (F := Ideal) x2)
    (fun n d _ _ => 1 - erfR (-A.pr n d * (Real.sqrt 2)⁻¹)) := by
  refine Rd.congr (by
    unfold val_main_v10 val_main_v7 val_main_v4 val_main_v6
    exact inferInstance) fun a b c d => rfl

instance rv27 : Rd (S := S4096x512) (φ := .f32) (val_main_v27 (F := Ideal) x2)
    (fun n d _ _ => 1 - erfR (-A.pr n (512 + d) * (Real.sqrt 2)⁻¹)) := by
  refine Rd.congr (by
    unfold val_main_v27 val_main_v24 val_main_v21 val_main_v23
    exact inferInstance) fun a b c d => rfl

instance rv17 : Rd (S := S4096x512) (φ := .f32) (val_main_v17 (F := Ideal) x2)
    (fun n d _ _ => dexpR (A.pr n d)) := by
  refine Rd.congr (by
    unfold val_main_v17 val_main_v16 val_main_v12 val_main_cst_3 val_main_v15 val_main_v14 val_main_v13 val_main_v7
      val_main_v4 val_main_v6
    exact inferInstance) fun a b c d => rfl

instance rv34 : Rd (S := S4096x512) (φ := .f32) (val_main_v34 (F := Ideal) x2)
    (fun n d _ _ => dexpR (A.pr n (512 + d))) := by
  refine Rd.congr (by
    unfold val_main_v34 val_main_v33 val_main_v29 val_main_cst_8 val_main_v32 val_main_v31 val_main_v30 val_main_v24
      val_main_v21 val_main_v23
    exact inferInstance) fun a b c d => rfl

instance rv18 : Rd (S := S4096x512) (φ := .f32) (val_main_v18 (F := Ideal) x2)
    (fun n d _ _ => A.u n d) := by
  refine Rd.congr (by
    unfold val_main_v18 val_main_v3 val_main_v2 val_main_cst
    exact inferInstance) fun a b c d => gelu_eq _

instance rv35 : Rd (S := S4096x512) (φ := .f32) (val_main_v35 (F := Ideal) x2)
    (fun n d _ _ => A.vg n d) := by
  refine Rd.congr (by
    unfold val_main_v35 val_main_v20 val_main_v19 val_main_cst_4
    exact inferInstance) fun a b c d => gelu_eq _

instance rv39 : Rd (S := S4096x1) (φ := .f32) (val_main_v39 (F := Ideal) x2)
    (fun n _ _ _ => meanR 512 (A.vg n)) := by
  unfold val_main_v39 val_main_v37 val_main_v36 val_main_cst_9 val_main_v38 val_main_cst_10
  exact (Rd.hdivf _ _ fun _ _ _ _ => by norm_num).congr fun _ _ _ _ => by simp [meanR]

instance rv41 : Rd (S := S4096x512) (φ := .f32) (val_main_v41 (F := Ideal) x2)
    (fun n d _ _ => cenR 512 (A.vg n) d) := by
  refine Rd.congr (by
    unfold val_main_v41 val_main_v40
    exact inferInstance) fun a b c d => rfl

instance rv44 : Rd (S := S4096x512) (φ := .f32) (val_main_v44 (F := Ideal) x2)
    (fun n d _ _ => 2 * cenR 512 (A.vg n) d) := by
  refine Rd.congr (by
    unfold val_main_v44 val_main_v43 val_main_cst_11
    exact inferInstance) fun a b c d => rfl

instance rv48 : Rd (S := S4096x1) (φ := .f32) (val_main_v48 (F := Ideal) x2)
    (fun n _ _ _ => meanR 512 (fun k => cenR 512 (A.vg n) k * cenR 512 (A.vg n) k)) := by
  unfold val_main_v48 val_main_v46 val_main_v45 val_main_v42 val_main_cst_12 val_main_v47 val_main_cst_13
  exact (Rd.hdivf _ _ fun _ _ _ _ => by norm_num).congr fun _ _ _ _ => by simp [meanR]

instance rv50 : Rd (S := S4096x512) (φ := .f32) (val_main_v50 (F := Ideal) x2)
    (fun n d _ _ => cenR 512 (A.vg n) d) := by
  refine Rd.congr (by
    unfold val_main_v50 val_main_v49
    exact inferInstance) fun a b c d => rfl

instance rv52 : Rd (S := S4096x1) (φ := .f32) (val_main_v52 (F := Ideal) x2)
    (fun n _ _ _ => varR 512 (A.vg n)) := by
  refine Rd.congr (by
    unfold val_main_v52 val_main_v51 val_main_cst_14
    exact inferInstance) fun a b c d => rfl

instance rv53 : Rd (S := S4096x1) (φ := .f32) (val_main_v53 (F := Ideal) x2)
    (fun n _ _ _ => A.rsv n) := by
  unfold val_main_v53
  exact (Rd.hrsqrt _ fun _ _ _ _ => varR_pos 512 _).congr fun _ _ _ _ => rfl

instance rv54 : Rd (S := S4096x1) (φ := .f32) (val_main_v54 (F := Ideal) x2)
    (fun n _ _ _ => A.rsv n / varR 512 (A.vg n)) := by
  unfold val_main_v54
  exact Rd.hdivf _ _ fun _ _ _ _ => (varR_pos 512 _).ne'

instance rv58 : Rd (S := S4096x512) (φ := .f32) (val_main_v58 (F := Ideal) x2)
    (fun n d _ _ => A.xh n d) := by
  refine Rd.congr (by
    unfold val_main_v58 val_main_v57
    exact inferInstance) fun a b c d => rfl

instance rv64 : Rd (S := S4096x512) (φ := .f32) (val_main_v64 (F := Ideal) x2 x4 x5)
    (fun n d _ _ => A.v n d) := by
  refine Rd.congr (by
    unfold val_main_v64 val_main_v61 val_main_v60 val_main_v59 val_main_v63 val_main_v62
    exact inferInstance) fun a b c d => rfl

instance rv65 : Rd (S := S32x128x4x128) (φ := .f32) (val_main_v65 (F := Ideal) x2 x4 x5)
    (fun c s h e => A.v (c * 128 + s) (h * 128 + e)) := by
  refine Rd.congr (by
    unfold val_main_v65
    exact inferInstance) fun a b c d => rfl

instance rv67 : Rd (S := S128x128) (φ := .f32) (val_main_v67 (F := Ideal))
    (fun t s _ _ => if s ≤ t then 1 else 0) :=
  Rd.of2 fun i j => by
    rw [val_main_v67_apply, val_main_call0_v4_apply, val_main_call0_v2_apply, val_main_call0_v0_apply,
      val_main_call0_v1_apply, val_main_call0_c_apply, val_main_call0_v3_apply]
    rw [show IntOp.addi (BitVec.ofNat 32 ((ix2 i j : S128x128.Idx) 0).val) 0#32 = BitVec.ofNat 32 i.val from BitVec.add_zero _]
    rw [show ((ix2 i j : S128x128.Idx) 1).val = j.val from rfl, sge_word]
    have h1 : Rd (S := S128x128) (φ := .f32) (val_main_v66 (F := Ideal)) (fun _ _ _ _ => 1) := by
      unfold val_main_v66 val_main_cst_16; exact inferInstance
    have h0 : Rd (S := S128x128) (φ := .f32) (val_main_call0_v5 (F := Ideal)) (fun _ _ _ _ => 0) := by
      unfold val_main_call0_v5 val_main_call0_cst; exact inferInstance
    by_cases h : j.val ≤ i.val
    · rw [if_pos h, if_pos h]; exact h1.two i j
    · rw [if_neg h, if_neg h]; exact h0.two i j

instance rv70 : Rd (S := S4x128x128) (φ := .f32) (val_main_v70 (F := Ideal) x6)
    (fun h t s _ => A.wm h t s) := by
  refine Rd.congr (by
    unfold val_main_v70 val_main_v69 val_main_v68
    exact inferInstance) fun a b c d => by simp only [Args.wm, mul_ite, mul_one, mul_zero]

instance rv76 : Rd (S := S32x128x4x128) (φ := .f32) (val_main_v76 (F := Ideal) x2 x4 x5 x6 x7)
    (fun c t h e => A.mixed (c * 128 + t) (h * 128 + e)) := by
  refine Rd.congr4 (by
    unfold val_main_v76 val_main_v72 val_main_v71 val_main_v75 val_main_v74 val_main_v73
    exact inferInstance) fun c t h e _ hc _ he => by
    simp only [Args.mixed, div_blk hc, div_blk he, mod_blk hc, mul_comm]

instance rv77 : Rd (S := S4096x512) (φ := .f32) (val_main_v77 (F := Ideal) x2 x4 x5 x6 x7)
    (fun n d _ _ => A.mixed n d) := by
  refine Rd.congr (by
    unfold val_main_v77
    exact inferInstance) fun a b c d => by rw [Nat.div_add_mod', Nat.div_add_mod']

instance rv82 : Rd (S := S4096x4x128) (φ := .f32) (val_main_v82 (F := Ideal) x3 x8)
    (fun n q e _ => A.cc n (q * 128 + e)) := by
  refine Rd.congr (by
    unfold val_main_v82 val_main_v81 val_main_v80 val_main_v79
    exact inferInstance) fun a b c d => rfl

instance rv88 : Rd (S := S4096x4x1) (φ := .f32) (val_main_v88 (F := Ideal) x3 x8)
    (fun n q _ _ => meanR 128 (fun e => A.cc n (q * 128 + e))) := by
  unfold val_main_v88 val_main_v86 val_main_v85 val_main_cst_17 val_main_v87 val_main_cst_18
  exact (Rd.hdivf _ _ fun _ _ _ _ => by norm_num).congr fun _ _ _ _ => by simp [meanR]

instance rv90 : Rd (S := S4096x4x128) (φ := .f32) (val_main_v90 (F := Ideal) x3 x8)
    (fun n q e _ => cenR 128 (fun e => A.cc n (q * 128 + e)) e) := by
  refine Rd.congr (by
    unfold val_main_v90 val_main_v89
    exact inferInstance) fun a b c d => rfl

instance rv93 : Rd (S := S4096x4x128) (φ := .f32) (val_main_v93 (F := Ideal) x3 x8)
    (fun n q e _ => 2 * cenR 128 (fun e => A.cc n (q * 128 + e)) e) := by
  refine Rd.congr (by
    unfold val_main_v93 val_main_v92 val_main_cst_19
    exact inferInstance) fun a b c d => rfl

instance rv97 : Rd (S := S4096x4x1) (φ := .f32) (val_main_v97 (F := Ideal) x3 x8)
    (fun n q _ _ => meanR 128 (fun k => cenR 128 (fun e => A.cc n (q * 128 + e)) k * cenR 128 (fun e => A.cc n (q * 128 + e)) k)) := by
  unfold val_main_v97 val_main_v95 val_main_v94 val_main_v91 val_main_cst_20 val_main_v96 val_main_cst_21
  exact (Rd.hdivf _ _ fun _ _ _ _ => by norm_num).congr fun _ _ _ _ => by simp [meanR]

instance rv99 : Rd (S := S4096x4x128) (φ := .f32) (val_main_v99 (F := Ideal) x3 x8)
    (fun n q e _ => cenR 128 (fun e => A.cc n (q * 128 + e)) e) := by
  refine Rd.congr (by
    unfold val_main_v99 val_main_v98
    exact inferInstance) fun a b c d => rfl

instance rv101 : Rd (S := S4096x4x1) (φ := .f32) (val_main_v101 (F := Ideal) x3 x8)
    (fun n q _ _ => varR 128 (fun e => A.cc n (q * 128 + e))) := by
  refine Rd.congr (by
    unfold val_main_v101 val_main_v100 val_main_cst_22
    exact inferInstance) fun a b c d => rfl

instance rv102 : Rd (S := S4096x4x1) (φ := .f32) (val_main_v102 (F := Ideal) x3 x8)
    (fun n q _ _ => A.crs n q) := by
  unfold val_main_v102
  exact (Rd.hrsqrt _ fun _ _ _ _ => varR_pos 128 _).congr fun _ _ _ _ => rfl

instance rv103 : Rd (S := S4096x4x1) (φ := .f32) (val_main_v103 (F := Ideal) x3 x8)
    (fun n q _ _ => A.crs n q / varR 128 (fun e => A.cc n (q * 128 + e))) := by
  unfold val_main_v103
  exact Rd.hdivf _ _ fun _ _ _ _ => (varR_pos 128 _).ne'

instance rv107 : Rd (S := S4096x4x128) (φ := .f32) (val_main_v107 (F := Ideal) x3 x8)
    (fun n q e _ => A.chat n (q * 128 + e)) := by
  refine Rd.congr3 (by
    unfold val_main_v107 val_main_v106
    exact inferInstance) fun n q e _ _ he => by
    simp only [Args.chat, div_blk he, mod_blk he]; rfl

instance rv113 : Rd (S := S4096x4x128) (φ := .f32) (val_main_v113 (F := Ideal) x3 x8 x9 x10)
    (fun n q e _ => A.z n (q * 128 + e)) := by
  refine Rd.congr (by
    unfold val_main_v113 val_main_v110 val_main_v109 val_main_v108 val_main_v83 val_main_v112 val_main_v111
      val_main_v84
    exact inferInstance) fun a b c d => rfl

instance rv114_2 : Rd (S := S4096x4x128) (φ := .f32) (val_main_v114_2 (F := Ideal) x3 x8 x9 x10)
    (fun n q e _ => A.sg n (q * 128 + e)) := by
  unfold val_main_v114_2 val_main_call1_v4 val_main_call1_cst_0 val_main_call1_v3 val_main_call1_v2
      val_main_call1_cst val_main_call1_v1 val_main_call1_v0
  exact (Rd.hdivf _ _ fun _ _ _ _ => by positivity).congr fun _ _ _ _ => rfl

instance rv115 : Rd (S := S4096x512) (φ := .f32) (val_main_v115 (F := Ideal) x3 x8 x9 x10)
    (fun n d _ _ => A.z n d * A.sg n d) := by
  refine Rd.congr (by
    unfold val_main_v115 val_main_v114_0
    exact inferInstance) fun a b c d => by rw [Nat.div_add_mod']

instance rv116 : Rd (S := S4096x1024) (φ := .f32) (val_main_v116 (F := Ideal) x2 x3 x4 x5 x6 x7 x8 x9 x10)
    (fun n k _ _ => A.mix n k) := by
  unfold val_main_v116 val_main_v78
  exact (Rd.hcat _ _ _).congr fun _ _ _ _ => rfl

instance rv119 : Rd (S := S1024x1024) (φ := .f32) (val_main_v119 (F := Ideal) x0 x2 x3 x4 x5 x6 x7 x8 x9 x10)
    (fun i j _ _ => A.dwo 4096 i j) := by
  refine Rd.congr (by
    unfold val_main_v119 val_main_v118
    exact inferInstance) fun a b c d => by simp only [Args.dwo, mul_comm]

instance rv120 : Rd (S := S4096x1024) (φ := .f32) (val_main_v120 (F := Ideal) x0 x1)
    (fun n k _ _ => A.dmix n k) := by
  refine Rd.congr (by
    unfold val_main_v120
    exact inferInstance) fun a b c d => rfl

instance rv121 : Rd (S := S4096x512) (φ := .f32) (val_main_v121 (F := Ideal) x0 x1)
    (fun n d _ _ => A.dmix n d) := by
  refine Rd.congr (by
    unfold val_main_v121
    exact inferInstance) fun a b c d => by simp only [Nat.zero_add]

instance rv123 : Rd (S := S4096x4x128) (φ := .f32) (val_main_v123 (F := Ideal) x0 x1)
    (fun n q e _ => A.dmix n (512 + (q * 128 + e))) := by
  refine Rd.congr (by
    unfold val_main_v123 val_main_v122
    exact inferInstance) fun a b c d => by simp only [Nat.zero_add]

instance rv124 : Rd (S := S4096x4x128) (φ := .f32) (val_main_v124 (F := Ideal) x0 x1 x3 x8 x9 x10)
    (fun n q e _ => A.dz n (q * 128 + e)) := by
  refine Rd.congr (by
    unfold val_main_v124 val_main_call2_v1 val_main_call2_v2 val_main_call2_v0 val_main_v114_1 val_main_call1_v7
      val_main_call1_v6 val_main_call1_cst_1
    exact inferInstance) fun a b c d => by rw [Args.dz]; ring

instance rv125 : Rd (S := S4x128) (φ := .f32) (val_main_v125 (F := Ideal) x0 x1 x3 x8 x9 x10)
    (fun q e _ _ => A.dclb 4096 (q * 128 + e)) := by
  refine Rd.congr (by
    unfold val_main_v125 val_main_cst_24
    exact inferInstance) fun a b c d => rfl

instance rv127 : Rd (S := S4x128) (φ := .f32) (val_main_v127 (F := Ideal) x0 x1 x3 x8 x9 x10)
    (fun q e _ _ => A.dclb 4096 (q * 128 + e)) := by
  refine Rd.congr (by
    unfold val_main_v127 val_main_v126 val_main_cst_25
    exact inferInstance) fun a b c d => by simp only [Finset.sum_range_one, Nat.div_add_mod']

instance rv158 : Rd (S := S512) (φ := .f32) (val_main_v158 (F := Ideal) x0 x1 x3 x8 x9 x10)
    (fun d _ _ _ => A.dclb 4096 d) := by
  refine Rd.congr (by
    unfold val_main_v158
    exact inferInstance) fun a b c d => by rw [Nat.div_add_mod']

instance rv235 : Rd (S := S1x512) (φ := .f32) (val_main_v235 (F := Ideal) x0 x1 x3 x8 x9 x10)
    (fun _ d _ _ => A.dclb 4096 d) := by
  refine Rd.congr (by
    unfold val_main_v235
    exact inferInstance) fun a b c d => rfl

instance rv129 : Rd (S := S4x128) (φ := .f32) (val_main_v129 (F := Ideal) x0 x1 x3 x8 x9 x10)
    (fun q e _ _ => A.dclg 4096 (q * 128 + e)) := by
  refine Rd.congr (by
    unfold val_main_v129 val_main_v128 val_main_cst_26
    exact inferInstance) fun a b c d => by simp only [Args.dclg, mul_comm]

instance rv133 : Rd (S := S4x128) (φ := .f32) (val_main_v133 (F := Ideal) x0 x1 x3 x8 x9 x10)
    (fun q e _ _ => A.dclg 4096 (q * 128 + e)) := by
  refine Rd.congr (by
    unfold val_main_v133 val_main_v130 val_main_cst_27
    exact inferInstance) fun a b c d => by simp only [Finset.sum_range_one, Nat.div_add_mod']

instance rv159 : Rd (S := S512) (φ := .f32) (val_main_v159 (F := Ideal) x0 x1 x3 x8 x9 x10)
    (fun d _ _ _ => A.dclg 4096 d) := by
  refine Rd.congr (by
    unfold val_main_v159
    exact inferInstance) fun a b c d => by rw [Nat.div_add_mod']

instance rv234 : Rd (S := S1x512) (φ := .f32) (val_main_v234 (F := Ideal) x0 x1 x3 x8 x9 x10)
    (fun _ d _ _ => A.dclg 4096 d) := by
  refine Rd.congr (by
    unfold val_main_v234
    exact inferInstance) fun a b c d => rfl

instance rv132 : Rd (S := S4096x4x128) (φ := .f32) (val_main_v132 (F := Ideal) x0 x1 x3 x8 x9 x10)
    (fun n q e _ => A.dz n (q * 128 + e) * A.clg (q * 128 + e)) := by
  refine Rd.congr (by
    unfold val_main_v132 val_main_v131 val_main_v108 val_main_v83
    exact inferInstance) fun a b c d => rfl

instance rv144 : Rd (S := S4096x4x1) (φ := .f32) (val_main_v144 (F := Ideal) x0 x1 x3 x8 x9 x10)
    (fun n q _ _ => (∑ j ∈ Finset.range 128, cenR 128 (fun e => A.cc n (q * 128 + e)) j * (A.dz n (q * 128 + j) * A.clg (q * 128 + j))) *
      (-(1 / 2) * (A.crs n q / varR 128 (fun e => A.cc n (q * 128 + e)))) / (128 : ℕ)) := by
  unfold val_main_v144 val_main_v139 val_main_v136 val_main_v135 val_main_v134 val_main_cst_28 val_main_v105
      val_main_v104 val_main_cst_23 val_main_v143 val_main_cst_30
  exact (Rd.hdivf _ _ fun _ _ _ _ => by norm_num).congr fun _ _ _ _ => by norm_num

instance rv138 : Rd (S := S4096x4x128) (φ := .f32) (val_main_v138 (F := Ideal) x0 x1 x3 x8 x9 x10)
    (fun n q e _ => A.dz n (q * 128 + e) * A.clg (q * 128 + e) * A.crs n q) := by
  refine Rd.congr (by
    unfold val_main_v138 val_main_v137
    exact inferInstance) fun a b c d => rfl

instance rv147 : Rd (S := S4096x4x128) (φ := .f32) (val_main_v147 (F := Ideal) x0 x1 x3 x8 x9 x10)
    (fun n q e _ => (∑ j ∈ Finset.range 128, cenR 128 (fun e => A.cc n (q * 128 + e)) j * (A.dz n (q * 128 + j) * A.clg (q * 128 + j))) *
      (-(1 / 2) * (A.crs n q / varR 128 (fun e => A.cc n (q * 128 + e)))) / (128 : ℕ) * (2 * cenR 128 (fun e => A.cc n (q * 128 + e)) e)) := by
  refine Rd.congr (by
    unfold val_main_v147 val_main_v146 val_main_v145 val_main_cst_31
    exact inferInstance) fun a b c d => by simp only [Finset.sum_range_one]

instance rv154 : Rd (S := S4096x4x1) (φ := .f32) (val_main_v154 (F := Ideal) x0 x1 x3 x8 x9 x10)
    (fun n q _ _ => (∑ j ∈ Finset.range 128, -(A.dz n (q * 128 + j) * A.clg (q * 128 + j) * A.crs n q) +
      ∑ j ∈ Finset.range 128, -((∑ j ∈ Finset.range 128, cenR 128 (fun e => A.cc n (q * 128 + e)) j * (A.dz n (q * 128 + j) * A.clg (q * 128 + j))) *
      (-(1 / 2) * (A.crs n q / varR 128 (fun e => A.cc n (q * 128 + e)))) / (128 : ℕ) * (2 * cenR 128 (fun e => A.cc n (q * 128 + e)) j))) / (128 : ℕ)) := by
  unfold val_main_v154 val_main_v152 val_main_v142 val_main_v141 val_main_v140 val_main_cst_29 val_main_v150
      val_main_v149 val_main_v148 val_main_cst_32 val_main_v153 val_main_cst_33
  exact (Rd.hdivf _ _ fun _ _ _ _ => by norm_num).congr fun _ _ _ _ => by norm_num

instance rv157 : Rd (S := S4096x4x128) (φ := .f32) (val_main_v157 (F := Ideal) x0 x1 x3 x8 x9 x10)
    (fun n q e _ => A.dc n (q * 128 + e)) := by
  refine Rd.congr3 (by
    unfold val_main_v157 val_main_v151 val_main_v156 val_main_v155 val_main_cst_34
    exact inferInstance) fun n q e _ _ he => by
    simp only [Finset.sum_range_one, Args.dc, div_blk he, mod_blk he]
    refine (lnb_eq (by norm_num) (fun e => A.cc n (q * 128 + e)) (fun e => A.dz n (q * 128 + e) * A.clg (q * 128 + e)) e).trans ?_
    refine lnb_congr he fun j hj => ?_
    simp only [Args.chat, div_blk hj, mod_blk hj]

instance rv160 : Rd (S := S4096x512) (φ := .f32) (val_main_v160 (F := Ideal) x0 x1 x3 x8 x9 x10)
    (fun n d _ _ => A.dc n d) := by
  refine Rd.congr (by
    unfold val_main_v160
    exact inferInstance) fun a b c d => by rw [Nat.div_add_mod']

instance rv163 : Rd (S := S512) (φ := .f32) (val_main_v163 (F := Ideal) x0 x1 x3 x8 x9 x10)
    (fun d _ _ _ => A.dcb 4096 d) := by
  refine Rd.congr (by
    unfold val_main_v163 val_main_v162 val_main_v161 val_main_cst_35 val_main_cst_36
    exact inferInstance) fun a b c d => by simp only [Finset.sum_range_one, Args.dcb]

instance rv233 : Rd (S := S1x512) (φ := .f32) (val_main_v233 (F := Ideal) x0 x1 x3 x8 x9 x10)
    (fun _ d _ _ => A.dcb 4096 d) := by
  refine Rd.congr (by
    unfold val_main_v233
    exact inferInstance) fun a b c d => rfl

instance rv164 : Rd (S := S4096x512) (φ := .f32) (val_main_v164 (F := Ideal) x0 x1 x2)
    (fun n d _ _ => A.dmixed n d) := by
  refine Rd.congr (by
    unfold val_main_v164
    exact inferInstance) fun a b c d => mul_comm _ _

instance rv165 : Rd (S := S4096x512) (φ := .f32) (val_main_v165 (F := Ideal) x0 x1 x2 x4 x5 x6 x7)
    (fun n d _ _ => A.dmix n d * A.mixed n d) := by
  refine Rd.congr (by
    unfold val_main_v165
    exact inferInstance) fun a b c d => rfl

instance rv166 : Rd (S := S32x128x4x128) (φ := .f32) (val_main_v166 (F := Ideal) x0 x1 x2)
    (fun c t h e => A.dmixed (c * 128 + t) (h * 128 + e)) := by
  refine Rd.congr (by
    unfold val_main_v166
    exact inferInstance) fun a b c d => rfl

instance rv167 : Rd (S := S128x4) (φ := .f32) (val_main_v167 (F := Ideal) x0 x1 x2)
    (fun t h _ _ => A.dbs 32 h t) := by
  refine Rd.congr (by
    unfold val_main_v167 val_main_cst_37
    exact inferInstance) fun a b c d => Finset.sum_comm

instance rv169 : Rd (S := S128x4) (φ := .f32) (val_main_v169 (F := Ideal) x0 x1 x2)
    (fun t h _ _ => A.dbs 32 h t) := by
  refine Rd.congr (by
    unfold val_main_v169 val_main_v168 val_main_cst_38
    exact inferInstance) fun a b c d => by simp only [Finset.sum_range_one]

instance rv170 : Rd (S := S4x128) (φ := .f32) (val_main_v170 (F := Ideal) x0 x1 x2)
    (fun h t _ _ => A.dbs 32 h t) := by
  refine Rd.congr (by
    unfold val_main_v170
    exact inferInstance) fun a b c d => rfl

instance rv172 : Rd (S := S4x128x128) (φ := .f32) (val_main_v172 (F := Ideal) x0 x1 x2 x4 x5)
    (fun h t s _ => A.dws 32 h t s) := by
  refine Rd.congr (by
    unfold val_main_v172 val_main_v171
    exact inferInstance) fun a b c d => rfl

instance rv176 : Rd (S := S4x128x128) (φ := .f32) (val_main_v176 (F := Ideal) x0 x1 x2 x4 x5)
    (fun h t s _ => A.dwm 32 h t s) := by
  refine Rd.congr (by
    unfold val_main_v176 val_main_v175 val_main_v68
    exact inferInstance) fun a b c d => by simp only [Args.dwm, mul_ite, mul_one, mul_zero]

instance rv174 : Rd (S := S32x128x4x128) (φ := .f32) (val_main_v174 (F := Ideal) x0 x1 x2 x6)
    (fun c s h e => A.dv (c * 128 + s) (h * 128 + e)) := by
  refine Rd.congr4 (by
    unfold val_main_v174 val_main_v173 val_main_v171
    exact inferInstance) fun c s h e _ hs _ he => by
    simp only [Args.dv, div_blk hs, div_blk he, mod_blk hs, mul_comm]

instance rv177 : Rd (S := S4096x512) (φ := .f32) (val_main_v177 (F := Ideal) x0 x1 x2 x6)
    (fun n d _ _ => A.dv n d) := by
  refine Rd.congr (by
    unfold val_main_v177
    exact inferInstance) fun a b c d => by rw [Nat.div_add_mod', Nat.div_add_mod']

instance rv180 : Rd (S := S512) (φ := .f32) (val_main_v180 (F := Ideal) x0 x1 x2 x6)
    (fun d _ _ _ => A.dlb 4096 d) := by
  refine Rd.congr (by
    unfold val_main_v180 val_main_v179 val_main_v178 val_main_cst_39 val_main_cst_40
    exact inferInstance) fun a b c d => by simp only [Finset.sum_range_one, Args.dlb]

instance rv232 : Rd (S := S1x512) (φ := .f32) (val_main_v232 (F := Ideal) x0 x1 x2 x6)
    (fun _ d _ _ => A.dlb 4096 d) := by
  refine Rd.congr (by
    unfold val_main_v232
    exact inferInstance) fun a b c d => rfl

instance rv186 : Rd (S := S512) (φ := .f32) (val_main_v186 (F := Ideal) x0 x1 x2 x6)
    (fun d _ _ _ => A.dlg 4096 d) := by
  refine Rd.congr (by
    unfold val_main_v186 val_main_v183 val_main_v182 val_main_v181 val_main_cst_41 val_main_cst_42
    exact inferInstance) fun a b c d => by simp only [Finset.sum_range_one, Args.dlg, mul_comm]

instance rv231 : Rd (S := S1x512) (φ := .f32) (val_main_v231 (F := Ideal) x0 x1 x2 x6)
    (fun _ d _ _ => A.dlg 4096 d) := by
  refine Rd.congr (by
    unfold val_main_v231
    exact inferInstance) fun a b c d => rfl

instance rv185 : Rd (S := S4096x512) (φ := .f32) (val_main_v185 (F := Ideal) x0 x1 x2 x4 x6)
    (fun n d _ _ => A.dv n d * A.lg d) := by
  refine Rd.congr (by
    unfold val_main_v185 val_main_v184 val_main_v59
    exact inferInstance) fun a b c d => rfl

instance rv197 : Rd (S := S4096x1) (φ := .f32) (val_main_v197 (F := Ideal) x0 x1 x2 x4 x6)
    (fun n _ _ _ => (∑ j ∈ Finset.range 512, cenR 512 (A.vg n) j * (A.dv n j * A.lg j)) *
      (-(1 / 2) * (A.rsv n / varR 512 (A.vg n))) / (512 : ℕ)) := by
  unfold val_main_v197 val_main_v192 val_main_v189 val_main_v188 val_main_v187 val_main_cst_43 val_main_v56
      val_main_v55 val_main_cst_15 val_main_v196 val_main_cst_45
  exact (Rd.hdivf _ _ fun _ _ _ _ => by norm_num).congr fun _ _ _ _ => by norm_num

instance rv191 : Rd (S := S4096x512) (φ := .f32) (val_main_v191 (F := Ideal) x0 x1 x2 x4 x6)
    (fun n d _ _ => A.dv n d * A.lg d * A.rsv n) := by
  refine Rd.congr (by
    unfold val_main_v191 val_main_v190
    exact inferInstance) fun a b c d => rfl

instance rv200 : Rd (S := S4096x512) (φ := .f32) (val_main_v200 (F := Ideal) x0 x1 x2 x4 x6)
    (fun n d _ _ => (∑ j ∈ Finset.range 512, cenR 512 (A.vg n) j * (A.dv n j * A.lg j)) *
      (-(1 / 2) * (A.rsv n / varR 512 (A.vg n))) / (512 : ℕ) * (2 * cenR 512 (A.vg n) d)) := by
  refine Rd.congr (by
    unfold val_main_v200 val_main_v199 val_main_v198 val_main_cst_46
    exact inferInstance) fun a b c d => by simp only [Finset.sum_range_one]

instance rv207 : Rd (S := S4096x1) (φ := .f32) (val_main_v207 (F := Ideal) x0 x1 x2 x4 x6)
    (fun n _ _ _ => (∑ j ∈ Finset.range 512, -(A.dv n j * A.lg j * A.rsv n) +
      ∑ j ∈ Finset.range 512, -((∑ j ∈ Finset.range 512, cenR 512 (A.vg n) j * (A.dv n j * A.lg j)) *
      (-(1 / 2) * (A.rsv n / varR 512 (A.vg n))) / (512 : ℕ) * (2 * cenR 512 (A.vg n) j))) / (512 : ℕ)) := by
  unfold val_main_v207 val_main_v205 val_main_v195 val_main_v194 val_main_v193 val_main_cst_44 val_main_v203
      val_main_v202 val_main_v201 val_main_cst_47 val_main_v206 val_main_cst_48
  exact (Rd.hdivf _ _ fun _ _ _ _ => by norm_num).congr fun _ _ _ _ => by norm_num

instance rv210 : Rd (S := S4096x512) (φ := .f32) (val_main_v210 (F := Ideal) x0 x1 x2 x4 x6)
    (fun n d _ _ => A.dvg n d) := by
  refine Rd.congr (by
    unfold val_main_v210 val_main_v204 val_main_v209 val_main_v208 val_main_cst_49
    exact inferInstance) fun a b c d => by
    simp only [Finset.sum_range_one]
    exact lnb_eq (by norm_num) (A.vg a) (fun d => A.dv a d * A.lg d) b

instance rv219 : Rd (S := S4096x512) (φ := .f32) (val_main_v219 (F := Ideal) x0 x1 x2 x4 x6)
    (fun n d _ _ => A.dvg n d * dgeluR (A.pr n (512 + d))) := by
  refine Rd.congr (by
    unfold val_main_v219 val_main_v216 val_main_v215 val_main_v213 val_main_v211 val_main_v20 val_main_v19
      val_main_cst_4 val_main_v214 val_main_v218 val_main_v217 val_main_cst_50 val_main_v212
    exact inferInstance) fun a b c d => dgelu_eq _ _

instance rv228 : Rd (S := S4096x512) (φ := .f32) (val_main_v228 (F := Ideal) x0 x1 x2 x4 x5 x6 x7)
    (fun n d _ _ => A.dmix n d * A.mixed n d * dgeluR (A.pr n d)) := by
  refine Rd.congr (by
    unfold val_main_v228 val_main_v225 val_main_v224 val_main_v222 val_main_v220 val_main_v3 val_main_v2
      val_main_cst val_main_v223 val_main_v227 val_main_v226 val_main_cst_51 val_main_v221
    exact inferInstance) fun a b c d => dgelu_eq _ _

instance rv230 : Rd (S := S4096x1024) (φ := .bf16) (val_main_v230 (F := Ideal) x0 x1 x2 x4 x5 x6 x7)
    (fun n d _ _ => A.dpa n d) := by
  unfold val_main_v230 val_main_v229
  have := Rd.hcat (val_main_v228 (F := Ideal) x0 x1 x2 x4 x5 x6 x7) (val_main_v219 (F := Ideal) x0 x1 x2 x4 x6) concatenates_S4096x512_S4096x512_S4096x1024_d1
  refine Rd.congr inferInstance fun n d _ _ => ?_
  by_cases h : d < 512
  · simp only [Args.dpa, if_pos h]
  · simp only [Args.dpa, if_neg h]
    rw [Nat.add_sub_cancel' (not_lt.1 h)]

instance rv236 : Rd (S := S1x1024x1024) (φ := .f32) (val_main_v236 (F := Ideal) x0 x2 x3 x4 x5 x6 x7 x8 x9 x10)
    (fun _ i j _ => A.dwo 4096 i j) := by
  refine Rd.congr (by
    unfold val_main_v236
    exact inferInstance) fun a b c d => rfl

instance rv238 : Rd (S := S1x1024x1024) (φ := .bf16) (val_main_v238 (F := Ideal) x0 x2 x3 x4 x5 x6 x7 x8 x9 x10)
    (fun _ i j _ => A.dwo 4096 i j) := by
  refine Rd.congr (by
    unfold val_main_v238 val_main_v237
    exact inferInstance) fun a b c d => rfl

end Cert.ReferenceIdeal.Ref
-- ==== Proof.KEntry.lean ====
module

public import proofs.«01_k».proof.Proof.KBase
public import proofs.«01_k».proof.Proof.Ref
public import proofs.«01_k».proof.Proof.Gen.KernelIdeal.Frame
public import Idealize.ShloMosaic.Lib.Claim

@[expose] public section

set_option maxRecDepth 16384

noncomputable section

/-! What the kernel's inputs hold when it starts. -/

namespace Cert.KernelIdeal.Gen

open Idealize.ShloMosaic Calc Tile Idealize.SL.Sem Idealize.ShloMosaic.TcCoe

variable (m : (ℓ : Loc nD τ sig) → Buf (Elt Ideal) ℓ) (c : Dev nD)

set_option maxHeartbeats 1600000 in
theorem ev90 : V m c main_v90 = (truncf (F := Ideal) .bf16 ((m ((c : Thread nD τ).loc main_arg0)) : FVec Ideal S4096x1024 .f32) bitsLt_bf16_f32) := by
  simp only [V, hostOps0, hostOps0_1, hostOps0_2, hostOps0_3, hostOps0_4, List.flatten_cons, List.flatten_nil,
    List.append_nil, List.cons_append, List.nil_append, StableHlo.after_cons, StableHlo.after_nil]
  after_results_simp

set_option maxHeartbeats 1600000 in
theorem ev89 : V m c main_v89 = (truncf (F := Ideal) .bf16 ((m ((c : Thread nD τ).loc main_arg1)) : FVec Ideal S1024x1024 .f32) bitsLt_bf16_f32) := by
  simp only [V, hostOps0, hostOps0_1, hostOps0_2, hostOps0_3, hostOps0_4, List.flatten_cons, List.flatten_nil,
    List.append_nil, List.cons_append, List.nil_append, StableHlo.after_cons, StableHlo.after_nil]
  after_results_simp

set_option maxHeartbeats 1600000 in
theorem ev93 : V m c main_v93 = (addf (F := Ideal) (φ := .f32) ((m ((c : Thread nD τ).loc main_arg3)) : FVec Ideal S4096x512 .f32) (broadcastInDim S4096x512 ![0, 1] bcast_S1x512_S4096x512_0_1 (broadcastInDim S1x512 ![1] bcast_S512_S1x512_1 ((m ((c : Thread nD τ).loc main_arg8)) : FVec Ideal S512 .f32)))) := by
  simp only [V, hostOps0, hostOps0_1, hostOps0_2, hostOps0_3, hostOps0_4, List.flatten_cons, List.flatten_nil,
    List.append_nil, List.cons_append, List.nil_append, StableHlo.after_cons, StableHlo.after_nil]
  after_results_simp

set_option maxHeartbeats 1600000 in
theorem ev94 : V m c main_v94 = (shapeCast S1x512 ((m ((c : Thread nD τ).loc main_arg4)) : FVec Ideal S512 .f32) shapeCasts_S512_S1x512) := by
  simp only [V, hostOps0, hostOps0_1, hostOps0_2, hostOps0_3, hostOps0_4, List.flatten_cons, List.flatten_nil,
    List.append_nil, List.cons_append, List.nil_append, StableHlo.after_cons, StableHlo.after_nil]
  after_results_simp
  rfl

set_option maxHeartbeats 1600000 in
theorem ev95 : V m c main_v95 = (shapeCast S1x512 ((m ((c : Thread nD τ).loc main_arg5)) : FVec Ideal S512 .f32) shapeCasts_S512_S1x512) := by
  simp only [V, hostOps0, hostOps0_1, hostOps0_2, hostOps0_3, hostOps0_4, List.flatten_cons, List.flatten_nil,
    List.append_nil, List.cons_append, List.nil_append, StableHlo.after_cons, StableHlo.after_nil]
  after_results_simp
  rfl

set_option maxHeartbeats 1600000 in
theorem ev97 : V m c main_v97 = (shapeCast S1x512 ((m ((c : Thread nD τ).loc main_arg9)) : FVec Ideal S512 .f32) shapeCasts_S512_S1x512) := by
  simp only [V, hostOps0, hostOps0_1, hostOps0_2, hostOps0_3, hostOps0_4, List.flatten_cons, List.flatten_nil,
    List.append_nil, List.cons_append, List.nil_append, StableHlo.after_cons, StableHlo.after_nil]
  after_results_simp
  rfl

set_option maxHeartbeats 1600000 in
theorem ev98 : V m c main_v98 = (shapeCast S1x512 ((m ((c : Thread nD τ).loc main_arg10)) : FVec Ideal S512 .f32) shapeCasts_S512_S1x512) := by
  simp only [V, hostOps0, hostOps0_1, hostOps0_2, hostOps0_3, hostOps0_4, List.flatten_cons, List.flatten_nil,
    List.append_nil, List.cons_append, List.nil_append, StableHlo.after_cons, StableHlo.after_nil]
  after_results_simp
  rfl

set_option maxHeartbeats 1600000 in
theorem ev96 : V m c main_v96 = (transpose S128x4 [1, 0] ((m ((c : Thread nD τ).loc main_arg7)) : FVec Ideal S4x128 .f32) transposes_S4x128_S128x4_1_0) := by
  simp only [V, hostOps0, hostOps0_1, hostOps0_2, hostOps0_3, hostOps0_4, List.flatten_cons, List.flatten_nil,
    List.append_nil, List.cons_append, List.nil_append, StableHlo.after_cons, StableHlo.after_nil]
  after_results_simp

set_option maxHeartbeats 1600000 in
theorem ev99 : V m c main_v99 = (truncf (F := Ideal) .bf16 (Cert.ReferenceIdeal.Read.val_main_v116 (F := Ideal) (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))) bitsLt_bf16_f32) := by
  simp only [V, hostOps0, hostOps0_1, hostOps0_2, hostOps0_3, hostOps0_4, List.flatten_cons, List.flatten_nil,
    List.append_nil, List.cons_append, List.nil_append, StableHlo.after_cons, StableHlo.after_nil]
  after_results_simp
  after_results_loop
  rfl

variable {A : Args} [hg : Cert.ReferenceIdeal.Ref.Given A]
variable [h0 : Rd (S := S4096x1024) (φ := .f32) (m ((c : Thread nD τ).loc main_arg0)) (fun n j _ _ => A.dx n j)]
variable [h1 : Rd (S := S1024x1024) (φ := .f32) (m ((c : Thread nD τ).loc main_arg1)) (fun k j _ _ => A.wo k j)]
variable [h2 : Rd (S := S4096x2048) (φ := .f32) (m ((c : Thread nD τ).loc main_arg2)) (fun n j _ _ => A.pr n j)]
variable [h3 : Rd (S := S4096x512) (φ := .f32) (m ((c : Thread nD τ).loc main_arg3)) (fun n d _ _ => A.c0 n d)]
variable [h4 : Rd (S := S512) (φ := .f32) (m ((c : Thread nD τ).loc main_arg4)) (fun d _ _ _ => A.lg d)]
variable [h5 : Rd (S := S512) (φ := .f32) (m ((c : Thread nD τ).loc main_arg5)) (fun d _ _ _ => A.lb d)]
variable [h6 : Rd (S := S4x128x128) (φ := .f32) (m ((c : Thread nD τ).loc main_arg6)) (fun h t s _ => A.w h t s)]
variable [h7 : Rd (S := S4x128) (φ := .f32) (m ((c : Thread nD τ).loc main_arg7)) (fun h t _ _ => A.b h t)]
variable [h8 : Rd (S := S512) (φ := .f32) (m ((c : Thread nD τ).loc main_arg8)) (fun d _ _ _ => A.cb d)]
variable [h9 : Rd (S := S512) (φ := .f32) (m ((c : Thread nD τ).loc main_arg9)) (fun d _ _ _ => A.clg d)]
variable [h10 : Rd (S := S512) (φ := .f32) (m ((c : Thread nD τ).loc main_arg10)) (fun d _ _ _ => A.clb d)]

/-- The row blocks of the tiled inputs. -/
theorem idxIn : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![0, 0] ∧ win0_6.index t = ![0, 0, 0] ∧
    win0_7.index t = ![0, 0] ∧ win0_8.index t = ![0, 0] ∧ win0_9.index t = ![0, 0] ∧ win0_10.index t = ![t.val, 0] :=
  (by decide +kernel : ∀ t : Fin grid0.N, _)

instance rd_v90 : Rd (S := S4096x1024) (φ := .bf16) (V m c main_v90) (fun n j _ _ => A.dx n j) := by
  rw [ev90]
  exact inferInstance

instance rd_v89 : Rd (S := S1024x1024) (φ := .bf16) (V m c main_v89) (fun k j _ _ => A.wo k j) := by
  rw [ev89]
  exact inferInstance

instance rd_arg2 : Rd (S := S4096x2048) (φ := .f32) (V m c main_arg2) (fun n j _ _ => A.pr n j) := by
  rw [V_main_arg2]
  exact inferInstance

instance rd_v93 : Rd (S := S4096x512) (φ := .f32) (V m c main_v93) (fun n d _ _ => A.c0 n d + A.cb d) := by
  rw [ev93]
  exact inferInstance

instance rd_v94 : Rd (S := S1x512) (φ := .f32) (V m c main_v94) (fun _ d _ _ => A.lg d) := by
  rw [ev94]
  exact Rd.castRow (a := 512) (φ := .f32) (m ((c : Thread nD τ).loc main_arg4)) _

instance rd_v95 : Rd (S := S1x512) (φ := .f32) (V m c main_v95) (fun _ d _ _ => A.lb d) := by
  rw [ev95]
  exact Rd.castRow (a := 512) (φ := .f32) (m ((c : Thread nD τ).loc main_arg5)) _

instance rd_arg6 : Rd (S := S4x128x128) (φ := .f32) (V m c main_arg6) (fun h i j _ => A.w h i j) := by
  rw [V_main_arg6]
  exact inferInstance

instance rd_v96 : Rd (S := S128x4) (φ := .f32) (V m c main_v96) (fun i h _ _ => A.b h i) := by
  rw [ev96]
  exact Rd.tr2 (a := 4) (b := 128) (φ := .f32) (m ((c : Thread nD τ).loc main_arg7)) _

instance rd_v97 : Rd (S := S1x512) (φ := .f32) (V m c main_v97) (fun _ d _ _ => A.clg d) := by
  rw [ev97]
  exact Rd.castRow (a := 512) (φ := .f32) (m ((c : Thread nD τ).loc main_arg9)) _

instance rd_v98 : Rd (S := S1x512) (φ := .f32) (V m c main_v98) (fun _ d _ _ => A.clb d) := by
  rw [ev98]
  exact Rd.castRow (a := 512) (φ := .f32) (m ((c : Thread nD τ).loc main_arg10)) _

instance rd_v99 : Rd (S := S4096x1024) (φ := .bf16) (V m c main_v99) (fun n j _ _ => A.mix n j) := by
  rw [ev99]
  exact inferInstance

theorem in0 (t : Fin cfg0.N) : Rd (S := S512x1024) (φ := .bf16) (iblk m c 0 t) (fun r j k _ => A.dx (512 * t.val + r) j) := by
  refine ⟨fun i => ?_⟩
  have c0 : co ((win0_0.blk t).view.emb i) 0 = 512 * t.val + (i 0).val := by
    show (((win0_0.blk t).view.emb i 0 : Fin _) : ℕ) = _
    blk_simp [idxIn t]
    simp [mul_comm]
  have c1 : co ((win0_0.blk t).view.emb i) 1 = (i 1).val := by
    show (((win0_0.blk t).view.emb i 1 : Fin _) : ℕ) = _
    blk_simp [idxIn t]
  have e := (rd_v90 (A := A) m c).at_ ((win0_0.blk t).view.emb i)
  simp only [c0, c1] at e
  exact e

theorem in1 (t : Fin cfg0.N) : Rd (S := S1024x1024) (φ := .bf16) (iblk m c 1 t) (fun r j k _ => A.wo r j) := by
  refine ⟨fun i => ?_⟩
  have c0 : co ((win0_1.blk t).view.emb i) 0 = (i 0).val := by
    show (((win0_1.blk t).view.emb i 0 : Fin _) : ℕ) = _
    blk_simp [idxIn t]
  have c1 : co ((win0_1.blk t).view.emb i) 1 = (i 1).val := by
    show (((win0_1.blk t).view.emb i 1 : Fin _) : ℕ) = _
    blk_simp [idxIn t]
  have e := (rd_v89 (A := A) m c).at_ ((win0_1.blk t).view.emb i)
  simp only [c0, c1] at e
  exact e

theorem in2 (t : Fin cfg0.N) : Rd (S := S512x2048) (φ := .f32) (iblk m c 2 t) (fun r j k _ => A.pr (512 * t.val + r) j) := by
  refine ⟨fun i => ?_⟩
  have c0 : co ((win0_2.blk t).view.emb i) 0 = 512 * t.val + (i 0).val := by
    show (((win0_2.blk t).view.emb i 0 : Fin _) : ℕ) = _
    blk_simp [idxIn t]
    simp [mul_comm]
  have c1 : co ((win0_2.blk t).view.emb i) 1 = (i 1).val := by
    show (((win0_2.blk t).view.emb i 1 : Fin _) : ℕ) = _
    blk_simp [idxIn t]
  have e := (rd_arg2 (A := A) m c).at_ ((win0_2.blk t).view.emb i)
  simp only [c0, c1] at e
  exact e

theorem in3 (t : Fin cfg0.N) : Rd (S := S512x512) (φ := .f32) (iblk m c 3 t) (fun r j k _ => A.c0 (512 * t.val + r) j + A.cb j) := by
  refine ⟨fun i => ?_⟩
  have c0 : co ((win0_3.blk t).view.emb i) 0 = 512 * t.val + (i 0).val := by
    show (((win0_3.blk t).view.emb i 0 : Fin _) : ℕ) = _
    blk_simp [idxIn t]
    simp [mul_comm]
  have c1 : co ((win0_3.blk t).view.emb i) 1 = (i 1).val := by
    show (((win0_3.blk t).view.emb i 1 : Fin _) : ℕ) = _
    blk_simp [idxIn t]
  have e := (rd_v93 (A := A) m c).at_ ((win0_3.blk t).view.emb i)
  simp only [c0, c1] at e
  exact e

theorem in4 (t : Fin cfg0.N) : Rd (S := S1x512) (φ := .f32) (iblk m c 4 t) (fun r j k _ => A.lg j) := by
  refine ⟨fun i => ?_⟩
  have c0 : co ((win0_4.blk t).view.emb i) 0 = (i 0).val := by
    show (((win0_4.blk t).view.emb i 0 : Fin _) : ℕ) = _
    blk_simp [idxIn t]
  have c1 : co ((win0_4.blk t).view.emb i) 1 = (i 1).val := by
    show (((win0_4.blk t).view.emb i 1 : Fin _) : ℕ) = _
    blk_simp [idxIn t]
  have e := (rd_v94 (A := A) m c).at_ ((win0_4.blk t).view.emb i)
  simp only [c0, c1] at e
  exact e

theorem in5 (t : Fin cfg0.N) : Rd (S := S1x512) (φ := .f32) (iblk m c 5 t) (fun r j k _ => A.lb j) := by
  refine ⟨fun i => ?_⟩
  have c0 : co ((win0_5.blk t).view.emb i) 0 = (i 0).val := by
    show (((win0_5.blk t).view.emb i 0 : Fin _) : ℕ) = _
    blk_simp [idxIn t]
  have c1 : co ((win0_5.blk t).view.emb i) 1 = (i 1).val := by
    show (((win0_5.blk t).view.emb i 1 : Fin _) : ℕ) = _
    blk_simp [idxIn t]
  have e := (rd_v95 (A := A) m c).at_ ((win0_5.blk t).view.emb i)
  simp only [c0, c1] at e
  exact e

theorem in6 (t : Fin cfg0.N) : Rd (S := S4x128x128) (φ := .f32) (iblk m c 6 t) (fun r j k _ => A.w r j k) := by
  refine ⟨fun i => ?_⟩
  have c0 : co ((win0_6.blk t).view.emb i) 0 = (i 0).val := by
    show (((win0_6.blk t).view.emb i 0 : Fin _) : ℕ) = _
    blk_simp [idxIn t]
  have c1 : co ((win0_6.blk t).view.emb i) 1 = (i 1).val := by
    show (((win0_6.blk t).view.emb i 1 : Fin _) : ℕ) = _
    blk_simp [idxIn t]
  have c2 : co ((win0_6.blk t).view.emb i) 2 = (i 2).val := by
    show (((win0_6.blk t).view.emb i 2 : Fin _) : ℕ) = _
    blk_simp [idxIn t]
  have e := (rd_arg6 (A := A) m c).at_ ((win0_6.blk t).view.emb i)
  simp only [c0, c1, c2] at e
  exact e

theorem in7 (t : Fin cfg0.N) : Rd (S := S128x4) (φ := .f32) (iblk m c 7 t) (fun r j k _ => A.b j r) := by
  refine ⟨fun i => ?_⟩
  have c0 : co ((win0_7.blk t).view.emb i) 0 = (i 0).val := by
    show (((win0_7.blk t).view.emb i 0 : Fin _) : ℕ) = _
    blk_simp [idxIn t]
  have c1 : co ((win0_7.blk t).view.emb i) 1 = (i 1).val := by
    show (((win0_7.blk t).view.emb i 1 : Fin _) : ℕ) = _
    blk_simp [idxIn t]
  have e := (rd_v96 (A := A) m c).at_ ((win0_7.blk t).view.emb i)
  simp only [c0, c1] at e
  exact e

theorem in8 (t : Fin cfg0.N) : Rd (S := S1x512) (φ := .f32) (iblk m c 8 t) (fun r j k _ => A.clg j) := by
  refine ⟨fun i => ?_⟩
  have c0 : co ((win0_8.blk t).view.emb i) 0 = (i 0).val := by
    show (((win0_8.blk t).view.emb i 0 : Fin _) : ℕ) = _
    blk_simp [idxIn t]
  have c1 : co ((win0_8.blk t).view.emb i) 1 = (i 1).val := by
    show (((win0_8.blk t).view.emb i 1 : Fin _) : ℕ) = _
    blk_simp [idxIn t]
  have e := (rd_v97 (A := A) m c).at_ ((win0_8.blk t).view.emb i)
  simp only [c0, c1] at e
  exact e

theorem in9 (t : Fin cfg0.N) : Rd (S := S1x512) (φ := .f32) (iblk m c 9 t) (fun r j k _ => A.clb j) := by
  refine ⟨fun i => ?_⟩
  have c0 : co ((win0_9.blk t).view.emb i) 0 = (i 0).val := by
    show (((win0_9.blk t).view.emb i 0 : Fin _) : ℕ) = _
    blk_simp [idxIn t]
  have c1 : co ((win0_9.blk t).view.emb i) 1 = (i 1).val := by
    show (((win0_9.blk t).view.emb i 1 : Fin _) : ℕ) = _
    blk_simp [idxIn t]
  have e := (rd_v98 (A := A) m c).at_ ((win0_9.blk t).view.emb i)
  simp only [c0, c1] at e
  exact e

theorem in10 (t : Fin cfg0.N) : Rd (S := S512x1024) (φ := .bf16) (iblk m c 10 t) (fun r j k _ => A.mix (512 * t.val + r) j) := by
  refine ⟨fun i => ?_⟩
  have c0 : co ((win0_10.blk t).view.emb i) 0 = 512 * t.val + (i 0).val := by
    show (((win0_10.blk t).view.emb i 0 : Fin _) : ℕ) = _
    blk_simp [idxIn t]
    simp [mul_comm]
  have c1 : co ((win0_10.blk t).view.emb i) 1 = (i 1).val := by
    show (((win0_10.blk t).view.emb i 1 : Fin _) : ℕ) = _
    blk_simp [idxIn t]
  have e := (rd_v99 (A := A) m c).at_ ((win0_10.blk t).view.emb i)
  simp only [c0, c1] at e
  exact e

instance given : In m c A where
  i0 := in0 m c
  i1 := in1 m c
  i2 := in2 m c
  i3 := in3 m c
  i4 := in4 m c
  i5 := in5 m c
  i6 := in6 m c
  i7 := in7 m c
  i8 := in8 m c
  i9 := in9 m c
  i10 := in10 m c

end Cert.KernelIdeal.Gen
-- ==== Proof.Claims.lean ====
module

public import proofs.«01_k».proof.Defs
public import proofs.«01_k».proof.Proof.Finite
public import proofs.«01_k».proof.Proof.KFinal
public import proofs.«01_k».proof.Proof.KEntry
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

@[expose] public section

set_option maxRecDepth 16384

noncomputable section

/-! The two value claims: the named constants, and that kernel and reference leave the same arrays. -/

namespace Cert.Proof.Claims

open Idealize.ShloMosaic Idealize.ShloMosaic.StableHlo Calc

theorem preserves : Cert.preserves_Kernel_KernelIdeal :=
  ⟨IdealRules.named_const.statement Cert.KernelIdeal.κ "sqrt_half" .f32 0x3F3504F3#32 _ rfl,
    IdealRules.named_const.statement Cert.KernelIdeal.κ "inv_sqrt_2pi" .f32 0x3ECC422A#32 _ rfl⟩

variable (m : (ℓ : Loc Cert.KernelIdeal.nD Cert.KernelIdeal.τ Cert.KernelIdeal.sig) → Buf (Elt Ideal) ℓ)
  (c : Dev Cert.KernelIdeal.nD)

/-- The numbers the arguments hold. -/
def args : Args where
  dx := num2 (a := 4096) (b := 1024) (m ((c.tc : Thread Cert.KernelIdeal.nD Cert.KernelIdeal.τ).loc Cert.KernelIdeal.main_arg0))
  wo := num2 (a := 1024) (b := 1024) (m ((c.tc : Thread Cert.KernelIdeal.nD Cert.KernelIdeal.τ).loc Cert.KernelIdeal.main_arg1))
  pr := num2 (a := 4096) (b := 2048) (m ((c.tc : Thread Cert.KernelIdeal.nD Cert.KernelIdeal.τ).loc Cert.KernelIdeal.main_arg2))
  c0 := num2 (a := 4096) (b := 512) (m ((c.tc : Thread Cert.KernelIdeal.nD Cert.KernelIdeal.τ).loc Cert.KernelIdeal.main_arg3))
  lg := num1 (a := 512) (m ((c.tc : Thread Cert.KernelIdeal.nD Cert.KernelIdeal.τ).loc Cert.KernelIdeal.main_arg4))
  lb := num1 (a := 512) (m ((c.tc : Thread Cert.KernelIdeal.nD Cert.KernelIdeal.τ).loc Cert.KernelIdeal.main_arg5))
  w := num3 (a := 4) (b := 128) (c := 128) (m ((c.tc : Thread Cert.KernelIdeal.nD Cert.KernelIdeal.τ).loc Cert.KernelIdeal.main_arg6))
  b := num2 (a := 4) (b := 128) (m ((c.tc : Thread Cert.KernelIdeal.nD Cert.KernelIdeal.τ).loc Cert.KernelIdeal.main_arg7))
  cb := num1 (a := 512) (m ((c.tc : Thread Cert.KernelIdeal.nD Cert.KernelIdeal.τ).loc Cert.KernelIdeal.main_arg8))
  clg := num1 (a := 512) (m ((c.tc : Thread Cert.KernelIdeal.nD Cert.KernelIdeal.τ).loc Cert.KernelIdeal.main_arg9))
  clb := num1 (a := 512) (m ((c.tc : Thread Cert.KernelIdeal.nD Cert.KernelIdeal.τ).loc Cert.KernelIdeal.main_arg10))

/-- Every argument is an array of real numbers. -/
structure Real : Prop where
  h0 : Rd (S := Cert.KernelIdeal.S4096x1024) (φ := .f32) (m ((c.tc : Thread Cert.KernelIdeal.nD Cert.KernelIdeal.τ).loc Cert.KernelIdeal.main_arg0)) (fun i j _ _ => (args m c).dx i j)
  h1 : Rd (S := Cert.KernelIdeal.S1024x1024) (φ := .f32) (m ((c.tc : Thread Cert.KernelIdeal.nD Cert.KernelIdeal.τ).loc Cert.KernelIdeal.main_arg1)) (fun i j _ _ => (args m c).wo i j)
  h2 : Rd (S := Cert.KernelIdeal.S4096x2048) (φ := .f32) (m ((c.tc : Thread Cert.KernelIdeal.nD Cert.KernelIdeal.τ).loc Cert.KernelIdeal.main_arg2)) (fun i j _ _ => (args m c).pr i j)
  h3 : Rd (S := Cert.KernelIdeal.S4096x512) (φ := .f32) (m ((c.tc : Thread Cert.KernelIdeal.nD Cert.KernelIdeal.τ).loc Cert.KernelIdeal.main_arg3)) (fun i j _ _ => (args m c).c0 i j)
  h4 : Rd (S := Cert.KernelIdeal.S512) (φ := .f32) (m ((c.tc : Thread Cert.KernelIdeal.nD Cert.KernelIdeal.τ).loc Cert.KernelIdeal.main_arg4)) (fun i _ _ _ => (args m c).lg i)
  h5 : Rd (S := Cert.KernelIdeal.S512) (φ := .f32) (m ((c.tc : Thread Cert.KernelIdeal.nD Cert.KernelIdeal.τ).loc Cert.KernelIdeal.main_arg5)) (fun i _ _ _ => (args m c).lb i)
  h6 : Rd (S := Cert.KernelIdeal.S4x128x128) (φ := .f32) (m ((c.tc : Thread Cert.KernelIdeal.nD Cert.KernelIdeal.τ).loc Cert.KernelIdeal.main_arg6)) (fun i j k _ => (args m c).w i j k)
  h7 : Rd (S := Cert.KernelIdeal.S4x128) (φ := .f32) (m ((c.tc : Thread Cert.KernelIdeal.nD Cert.KernelIdeal.τ).loc Cert.KernelIdeal.main_arg7)) (fun i j _ _ => (args m c).b i j)
  h8 : Rd (S := Cert.KernelIdeal.S512) (φ := .f32) (m ((c.tc : Thread Cert.KernelIdeal.nD Cert.KernelIdeal.τ).loc Cert.KernelIdeal.main_arg8)) (fun i _ _ _ => (args m c).cb i)
  h9 : Rd (S := Cert.KernelIdeal.S512) (φ := .f32) (m ((c.tc : Thread Cert.KernelIdeal.nD Cert.KernelIdeal.τ).loc Cert.KernelIdeal.main_arg9)) (fun i _ _ _ => (args m c).clg i)
  h10 : Rd (S := Cert.KernelIdeal.S512) (φ := .f32) (m ((c.tc : Thread Cert.KernelIdeal.nD Cert.KernelIdeal.τ).loc Cert.KernelIdeal.main_arg10)) (fun i _ _ _ => (args m c).clb i)

theorem real (h : Cert.Pre_KernelIdeal_finite (hPre_finite := finiteFacts) m) : Real m c := by
  obtain ⟨h0, h1, h2, h3, h4, h5, h6, h7, h8, h9, h10⟩ := h c
  exact {
    h0 := Rd.num2 h0
    h1 := Rd.num2 h1
    h2 := Rd.num2 h2
    h3 := Rd.num2 h3
    h4 := Rd.num1 h4
    h5 := Rd.num1 h5
    h6 := Rd.num3 h6
    h7 := Rd.num2 h7
    h8 := Rd.num1 h8
    h9 := Rd.num1 h9
    h10 := Rd.num1 h10
  }

/-- The reference's memory at launch holds the same numbers. -/
structure Same (m' : (ℓ : Loc Cert.ReferenceIdeal.nD Cert.ReferenceIdeal.τ Cert.ReferenceIdeal.sig) → Buf (Elt Ideal) ℓ) : Prop where
  h0 : Rd (S := Cert.ReferenceIdeal.S4096x1024) (φ := .f32) (launchContents m' c (Proc.devRef .tc Cert.ReferenceIdeal.main_arg0)) (fun i j _ _ => (args m c).dx i j)
  h1 : Rd (S := Cert.ReferenceIdeal.S1024x1024) (φ := .f32) (launchContents m' c (Proc.devRef .tc Cert.ReferenceIdeal.main_arg1)) (fun i j _ _ => (args m c).wo i j)
  h2 : Rd (S := Cert.ReferenceIdeal.S4096x2048) (φ := .f32) (launchContents m' c (Proc.devRef .tc Cert.ReferenceIdeal.main_arg2)) (fun i j _ _ => (args m c).pr i j)
  h3 : Rd (S := Cert.ReferenceIdeal.S4096x512) (φ := .f32) (launchContents m' c (Proc.devRef .tc Cert.ReferenceIdeal.main_arg3)) (fun i j _ _ => (args m c).c0 i j)
  h4 : Rd (S := Cert.ReferenceIdeal.S512) (φ := .f32) (launchContents m' c (Proc.devRef .tc Cert.ReferenceIdeal.main_arg4)) (fun i _ _ _ => (args m c).lg i)
  h5 : Rd (S := Cert.ReferenceIdeal.S512) (φ := .f32) (launchContents m' c (Proc.devRef .tc Cert.ReferenceIdeal.main_arg5)) (fun i _ _ _ => (args m c).lb i)
  h6 : Rd (S := Cert.ReferenceIdeal.S4x128x128) (φ := .f32) (launchContents m' c (Proc.devRef .tc Cert.ReferenceIdeal.main_arg6)) (fun i j k _ => (args m c).w i j k)
  h7 : Rd (S := Cert.ReferenceIdeal.S4x128) (φ := .f32) (launchContents m' c (Proc.devRef .tc Cert.ReferenceIdeal.main_arg7)) (fun i j _ _ => (args m c).b i j)
  h8 : Rd (S := Cert.ReferenceIdeal.S512) (φ := .f32) (launchContents m' c (Proc.devRef .tc Cert.ReferenceIdeal.main_arg8)) (fun i _ _ _ => (args m c).cb i)
  h9 : Rd (S := Cert.ReferenceIdeal.S512) (φ := .f32) (launchContents m' c (Proc.devRef .tc Cert.ReferenceIdeal.main_arg9)) (fun i _ _ _ => (args m c).clg i)
  h10 : Rd (S := Cert.ReferenceIdeal.S512) (φ := .f32) (launchContents m' c (Proc.devRef .tc Cert.ReferenceIdeal.main_arg10)) (fun i _ _ _ => (args m c).clb i)

theorem same {m' : (ℓ : Loc Cert.ReferenceIdeal.nD Cert.ReferenceIdeal.τ Cert.ReferenceIdeal.sig) → Buf (Elt Ideal) ℓ} (h : Real m c)
    (e : m' ((c.tc : Thread Cert.KernelIdeal.nD Cert.KernelIdeal.τ).loc Cert.ReferenceIdeal.main_arg0) = m ((c.tc : Thread Cert.KernelIdeal.nD Cert.KernelIdeal.τ).loc Cert.KernelIdeal.main_arg0) ∧ m' ((c.tc : Thread Cert.KernelIdeal.nD Cert.KernelIdeal.τ).loc Cert.ReferenceIdeal.main_arg1) = m ((c.tc : Thread Cert.KernelIdeal.nD Cert.KernelIdeal.τ).loc Cert.KernelIdeal.main_arg1) ∧ m' ((c.tc : Thread Cert.KernelIdeal.nD Cert.KernelIdeal.τ).loc Cert.ReferenceIdeal.main_arg2) = m ((c.tc : Thread Cert.KernelIdeal.nD Cert.KernelIdeal.τ).loc Cert.KernelIdeal.main_arg2) ∧ m' ((c.tc : Thread Cert.KernelIdeal.nD Cert.KernelIdeal.τ).loc Cert.ReferenceIdeal.main_arg3) = m ((c.tc : Thread Cert.KernelIdeal.nD Cert.KernelIdeal.τ).loc Cert.KernelIdeal.main_arg3) ∧ m' ((c.tc : Thread Cert.KernelIdeal.nD Cert.KernelIdeal.τ).loc Cert.ReferenceIdeal.main_arg4) = m ((c.tc : Thread Cert.KernelIdeal.nD Cert.KernelIdeal.τ).loc Cert.KernelIdeal.main_arg4) ∧ m' ((c.tc : Thread Cert.KernelIdeal.nD Cert.KernelIdeal.τ).loc Cert.ReferenceIdeal.main_arg5) = m ((c.tc : Thread Cert.KernelIdeal.nD Cert.KernelIdeal.τ).loc Cert.KernelIdeal.main_arg5) ∧ m' ((c.tc : Thread Cert.KernelIdeal.nD Cert.KernelIdeal.τ).loc Cert.ReferenceIdeal.main_arg6) = m ((c.tc : Thread Cert.KernelIdeal.nD Cert.KernelIdeal.τ).loc Cert.KernelIdeal.main_arg6) ∧ m' ((c.tc : Thread Cert.KernelIdeal.nD Cert.KernelIdeal.τ).loc Cert.ReferenceIdeal.main_arg7) = m ((c.tc : Thread Cert.KernelIdeal.nD Cert.KernelIdeal.τ).loc Cert.KernelIdeal.main_arg7) ∧ m' ((c.tc : Thread Cert.KernelIdeal.nD Cert.KernelIdeal.τ).loc Cert.ReferenceIdeal.main_arg8) = m ((c.tc : Thread Cert.KernelIdeal.nD Cert.KernelIdeal.τ).loc Cert.KernelIdeal.main_arg8) ∧ m' ((c.tc : Thread Cert.KernelIdeal.nD Cert.KernelIdeal.τ).loc Cert.ReferenceIdeal.main_arg9) = m ((c.tc : Thread Cert.KernelIdeal.nD Cert.KernelIdeal.τ).loc Cert.KernelIdeal.main_arg9) ∧ m' ((c.tc : Thread Cert.KernelIdeal.nD Cert.KernelIdeal.τ).loc Cert.ReferenceIdeal.main_arg10) = m ((c.tc : Thread Cert.KernelIdeal.nD Cert.KernelIdeal.τ).loc Cert.KernelIdeal.main_arg10)) :
    Same m c m' := by
  obtain ⟨e0, e1, e2, e3, e4, e5, e6, e7, e8, e9, e10⟩ := e
  exact {
    h0 := by rw [launchContents_devRef]; exact e0 ▸ h.h0
    h1 := by rw [launchContents_devRef]; exact e1 ▸ h.h1
    h2 := by rw [launchContents_devRef]; exact e2 ▸ h.h2
    h3 := by rw [launchContents_devRef]; exact e3 ▸ h.h3
    h4 := by rw [launchContents_devRef]; exact e4 ▸ h.h4
    h5 := by rw [launchContents_devRef]; exact e5 ▸ h.h5
    h6 := by rw [launchContents_devRef]; exact e6 ▸ h.h6
    h7 := by rw [launchContents_devRef]; exact e7 ▸ h.h7
    h8 := by rw [launchContents_devRef]; exact e8 ▸ h.h8
    h9 := by rw [launchContents_devRef]; exact e9 ▸ h.h9
    h10 := by rw [launchContents_devRef]; exact e10 ▸ h.h10
  }

set_option maxHeartbeats 1600000 in
/-- On finite arguments the kernel and the reference leave the same eleven arrays. -/
theorem algebraic : Cert.algebraic_KernelIdeal_ReferenceIdeal_pre_finite (hKernelIdeal := Cert.KernelIdeal.Gen.facts)
    (hReferenceIdeal := Cert.ReferenceIdeal.Gen.facts) (hPre_finite := finiteFacts) := by
  pair_intro
  · run_from Cert.KernelIdeal.Value.run_blocks m g
  · run_from Cert.ReferenceIdeal.Value.run m' g'
    all_goals have R := real m c hpre
    all_goals have T := same m c R (hagree c)
    all_goals have := R.h0; have := R.h1; have := R.h2; have := R.h3; have := R.h4; have := R.h5
    all_goals have := R.h6; have := R.h7; have := R.h8; have := R.h9; have := R.h10
    all_goals have := T.h0; have := T.h1; have := T.h2; have := T.h3; have := T.h4; have := T.h5
    all_goals have := T.h6; have := T.h7; have := T.h8; have := T.h9; have := T.h10
    all_goals have : Cert.ReferenceIdeal.Ref.Given (args m c) := ⟨trivial⟩
    · exact (Cert.ReferenceIdeal.Read.val_main_v230_eq (launchContents m' c)).trans
        (Rd.same (Cert.ReferenceIdeal.Ref.rv230 ..) (Cert.KernelIdeal.Gen.fin11 m c) rfl)
    · exact (Cert.ReferenceIdeal.Read.val_main_v160_eq (launchContents m' c)).trans
        (Rd.same (Cert.ReferenceIdeal.Ref.rv160 ..) (Cert.KernelIdeal.Gen.fin12 m c) rfl)
    · exact (Cert.ReferenceIdeal.Read.val_main_v231_eq (launchContents m' c)).trans
        (Rd.same (Cert.ReferenceIdeal.Ref.rv231 ..) (Cert.KernelIdeal.Gen.fin13 m c) rfl)
    · exact (Cert.ReferenceIdeal.Read.val_main_v232_eq (launchContents m' c)).trans
        (Rd.same (Cert.ReferenceIdeal.Ref.rv232 ..) (Cert.KernelIdeal.Gen.fin14 m c) rfl)
    · exact (Cert.ReferenceIdeal.Read.val_main_v176_eq (launchContents m' c)).trans
        (Rd.same (Cert.ReferenceIdeal.Ref.rv176 ..) (Cert.KernelIdeal.Gen.fin15 m c) rfl)
    · exact (Cert.ReferenceIdeal.Read.val_main_v170_eq (launchContents m' c)).trans
        (Rd.same (Cert.ReferenceIdeal.Ref.rv170 ..) (Cert.KernelIdeal.Gen.fin16 m c) rfl)
    · exact (Cert.ReferenceIdeal.Read.val_main_v233_eq (launchContents m' c)).trans
        (Rd.same (Cert.ReferenceIdeal.Ref.rv233 ..) (Cert.KernelIdeal.Gen.fin17 m c) rfl)
    · exact (Cert.ReferenceIdeal.Read.val_main_v234_eq (launchContents m' c)).trans
        (Rd.same (Cert.ReferenceIdeal.Ref.rv234 ..) (Cert.KernelIdeal.Gen.fin18 m c) rfl)
    · exact (Cert.ReferenceIdeal.Read.val_main_v235_eq (launchContents m' c)).trans
        (Rd.same (Cert.ReferenceIdeal.Ref.rv235 ..) (Cert.KernelIdeal.Gen.fin19 m c) rfl)
    · exact (Cert.ReferenceIdeal.Read.val_main_v236_eq (launchContents m' c)).trans
        (Rd.same (Cert.ReferenceIdeal.Ref.rv236 ..) (Cert.KernelIdeal.Gen.fin20 m c) rfl)
    · exact (Cert.ReferenceIdeal.Read.val_main_v238_eq (launchContents m' c)).trans
        (Rd.same (Cert.ReferenceIdeal.Ref.rv238 ..) (Cert.KernelIdeal.Gen.fin21 m c) rfl)

end Cert.Proof.Claims
-- ==== Proof.Ext.lean ====
module

public import proofs.«01_k».proof.Proof.Calc
public import Idealize.ShloMosaic.Lib.Pipeline.ValueKit
public import Idealize.ShloMosaic.Lib.Pipeline.ReadBack
public import Idealize.ShloMosaic.Lib.Claim

@[expose] public section

set_option maxRecDepth 16384

noncomputable section

/-! Arrays of any values, infinities included. `Ex x f` says that the array `x` holds at every index the value that `f`
gives at the coordinates of that index (the coordinates past the last axis are zero). -/

namespace Calc

open Idealize.ShloMosaic

/-- The array holds the values `f` at the coordinates. -/
class Ex {S : Shape} {φ : FTy} (x : FVec Ideal S φ) (f : outParam (ℕ → ℕ → ℕ → ℕ → EReal)) : Prop where
  /-- The element at an index. -/
  at_ : ∀ i : S.Idx, (x i : EReal) = f (co i 0) (co i 1) (co i 2) (co i 3)

variable {S : Shape} {φ ψ : FTy} {f g : ℕ → ℕ → ℕ → ℕ → EReal}

theorem Ex.val (x : FVec Ideal S φ) [h : Ex x f] (i : S.Idx) : (x i : EReal) = f (co i 0) (co i 1) (co i 2) (co i 3) := h.at_ i
theorem Ex.one {a : ℕ} {x : FVec Ideal ⟨1, ![a]⟩ φ} (h : Ex x f) (i : Fin a) : (x (ix1 i) : EReal) = f i.val 0 0 0 := h.at_ _
theorem Ex.two {a b : ℕ} {x : FVec Ideal ⟨2, ![a, b]⟩ φ} (h : Ex x f) (i : Fin a) (j : Fin b) :
    (x (ix2 i j) : EReal) = f i.val j.val 0 0 := h.at_ _
theorem Ex.three {a b c : ℕ} {x : FVec Ideal ⟨3, ![a, b, c]⟩ φ} (h : Ex x f) (i : Fin a) (j : Fin b) (k : Fin c) :
    (x (ix3 i j k) : EReal) = f i.val j.val k.val 0 := h.at_ _

theorem Ex.of1 {a : ℕ} {x : FVec Ideal ⟨1, ![a]⟩ φ} (h : ∀ i : Fin a, (x (ix1 i) : EReal) = f i.val 0 0 0) : Ex x f :=
  ⟨fun i => by rw [eq_ix1 i]; exact h _⟩
theorem Ex.of2 {a b : ℕ} {x : FVec Ideal ⟨2, ![a, b]⟩ φ} (h : ∀ (i : Fin a) (j : Fin b), (x (ix2 i j) : EReal) = f i.val j.val 0 0) :
    Ex x f := ⟨fun i => by rw [eq_ix2 i]; exact h _ _⟩
theorem Ex.of3 {a b c : ℕ} {x : FVec Ideal ⟨3, ![a, b, c]⟩ φ}
    (h : ∀ (i : Fin a) (j : Fin b) (k : Fin c), (x (ix3 i j k) : EReal) = f i.val j.val k.val 0) :
    Ex x f := ⟨fun i => by rw [eq_ix3 i]; exact h _ _ _⟩

theorem Ex.same {x y : FVec Ideal S φ} (hx : Ex x f) (hy : Ex y g) (h : f = g) : x = y :=
  funext fun i => (hx.at_ i).trans ((by rw [h]) : _ = _) |>.trans (hy.at_ i).symm

/-- An array with two axes holds what it has been shown to hold, restated. -/
theorem Ex.to2 {a b : ℕ} {x : FVec Ideal ⟨2, ![a, b]⟩ φ} [hx : Ex x g] (h : ∀ i j, g i j 0 0 = f i j 0 0) : Ex x f :=
  Ex.of2 fun i j => (hx.two i j).trans (h _ _)

/-- Equal at the coordinates the array has. -/
theorem Ex.same2 {a b : ℕ} {x y : FVec Ideal ⟨2, ![a, b]⟩ φ} (hx : Ex x f) (hy : Ex y g)
    (h : ∀ i j, i < a → j < b → f i j 0 0 = g i j 0 0) : x = y :=
  funext fun i => by
    rw [eq_ix2 i]; exact (hx.two _ _).trans ((h _ _ (Fin.isLt _) (Fin.isLt _)).trans (hy.two _ _).symm)
theorem Ex.same3 {a b c : ℕ} {x y : FVec Ideal ⟨3, ![a, b, c]⟩ φ} (hx : Ex x f) (hy : Ex y g)
    (h : ∀ i j k, i < a → j < b → k < c → f i j k 0 = g i j k 0) : x = y :=
  funext fun i => by
    rw [eq_ix3 i]
    exact (hx.three _ _ _).trans ((h _ _ _ (Fin.isLt _) (Fin.isLt _) (Fin.isLt _)).trans (hy.three _ _ _).symm)

/-- The values of an array with one axis. -/
def val1 {a : ℕ} (x : FVec Ideal ⟨1, ![a]⟩ .f32) (i : ℕ) : EReal := if h : i < a then x (ix1 ⟨i, h⟩) else 0
/-- The values of an array with two axes. -/
def val2 {a b : ℕ} (x : FVec Ideal ⟨2, ![a, b]⟩ .f32) (i j : ℕ) : EReal :=
  if h : i < a ∧ j < b then x (ix2 ⟨i, h.1⟩ ⟨j, h.2⟩) else 0

theorem Ex.val1 {a : ℕ} (x : FVec Ideal ⟨1, ![a]⟩ .f32) : Ex x (fun i _ _ _ => val1 x i) :=
  Ex.of1 fun i => by unfold Calc.val1; rw [dif_pos i.isLt]
theorem Ex.val2 {a b : ℕ} (x : FVec Ideal ⟨2, ![a, b]⟩ .f32) : Ex x (fun i j _ _ => val2 x i j) :=
  Ex.of2 fun i j => by unfold Calc.val2; rw [dif_pos ⟨i.isLt, j.isLt⟩]

/-! ### Elementwise operations -/

section Elem
variable (x y : FVec Ideal S φ) [hx : Ex x f] [hy : Ex y g]

instance Ex.addf : Ex (addf x y) (fun a b c d => f a b c d + g a b c d) :=
  ⟨fun i => by show (x i : EReal) + y i = _; rw [hx.at_ i, hy.at_ i]⟩
instance Ex.subf : Ex (subf x y) (fun a b c d => f a b c d - g a b c d) :=
  ⟨fun i => by show (x i : EReal) - y i = _; rw [hx.at_ i, hy.at_ i]⟩
instance Ex.mulf : Ex (mulf x y) (fun a b c d => f a b c d * g a b c d) :=
  ⟨fun i => by show (x i : EReal) * y i = _; rw [hx.at_ i, hy.at_ i]⟩
instance Ex.maximumf : Ex (maximumf x y) (fun a b c d => max (f a b c d) (g a b c d)) :=
  ⟨fun i => by show max (x i : EReal) (y i) = _; rw [hx.at_ i, hy.at_ i]⟩
instance Ex.divf : Ex (divf x y) (fun a b c d => Ideal.div (f a b c d) (g a b c d)) :=
  ⟨fun i => by show Ideal.div (x i) (y i) = _; rw [hx.at_ i, hy.at_ i]⟩
instance Ex.hdivf : Ex (Host.divf x y) (fun a b c d => Ideal.div (f a b c d) (g a b c d)) :=
  ⟨fun i => by show Ideal.div (x i) (y i) = _; rw [hx.at_ i, hy.at_ i]⟩
instance Ex.rsqrt : Ex (rsqrt x) (fun a b c d => Ideal.rsqrt (f a b c d)) :=
  ⟨fun i => by show Ideal.rsqrt (x i) = _; rw [hx.at_ i]⟩
instance Ex.hrsqrt : Ex (Host.rsqrt x) (fun a b c d => Ideal.rsqrt (f a b c d)) :=
  ⟨fun i => by show Ideal.rsqrt (x i) = _; rw [hx.at_ i]⟩
instance Ex.truncf (h : ψ.bits < φ.bits) : Ex (truncf ψ x h) f := ⟨fun i => hx.at_ i⟩
instance Ex.extf (h : φ.bits < ψ.bits) : Ex (extf ψ x h) f := ⟨fun i => hx.at_ i⟩
end Elem

/-- Choosing by whether a value is positive. -/
instance Ex.selectPos {f g h k : ℕ → ℕ → ℕ → ℕ → EReal} (x z p q : FVec Ideal S φ) [hx : Ex x f] [hz : Ex z g] [hp : Ex p h] [hq : Ex q k] :
    Ex (φ := φ) (select (cmpf .ogt x z) p q) (fun a b c d => if g a b c d < f a b c d then h a b c d else k a b c d) :=
  ⟨fun i => by
    have e : cmpf (F := Ideal) .ogt x z i = BitVec.ofBool (decide ((z i : EReal) < x i)) := rfl
    have s : select (cmpf (F := Ideal) .ogt x z) p q i = Scalar.select (cmpf (F := Ideal) .ogt x z i) (p i) (q i) := rfl
    rw [s, e, hx.at_ i, hz.at_ i]
    by_cases hl : g (co i 0) (co i 1) (co i 2) (co i 3) < f (co i 0) (co i 1) (co i 2) (co i 3)
    · rw [decide_eq_true hl, if_pos hl]; exact hp.at_ i
    · rw [decide_eq_false hl, if_neg hl]; exact hq.at_ i⟩

instance Ex.bc {r : ℝ} (c : Ideal φ) [h : Cst c r] : Ex (broadcast S c : FVec Ideal S φ) (fun _ _ _ _ => (r : EReal)) :=
  ⟨fun i => h.eq⟩
instance Ex.constant {r : ℝ} (w : BitVec 32) [h : Lit w r] : Ex (constant (F := Ideal) S .f32 w) (fun _ _ _ _ => (r : EReal)) :=
  ⟨fun i => h.eq⟩
instance : Lit 0x44800000#32 1024 := ⟨by simp [Ideal.ofBits, Ideal.ieee]; norm_cast; norm_num⟩

/-! ### Layout operations -/

instance Ex.bcScalar {T : Shape} (dims : Fin (⟨0, ![]⟩ : Shape).rank → Fin T.rank) (x : FVec Ideal ⟨0, ![]⟩ φ) [hx : Ex x f]
    (h : (⟨0, ![]⟩ : Shape).BroadcastsInDim T dims) :
    Ex (φ := φ) (broadcastInDim T dims h x) (fun _ _ _ _ => f 0 0 0 0) :=
  ⟨fun i => by unfold broadcastInDim; rw [hx.at_]; rfl⟩

instance Ex.bcol {a b : ℕ} (x : FVec Ideal ⟨2, ![a, 1]⟩ φ) [hx : Ex x f]
    (h : (⟨2, ![a, 1]⟩ : Shape).Broadcasts ⟨2, ![a, b]⟩) :
    Ex (φ := φ) (broadcastTo ⟨2, ![a, b]⟩ x h) (fun i _ _ _ => f i 0 0 0) :=
  Ex.of2 fun i j => by
    unfold broadcastTo
    rw [hx.at_]
    have := i.isLt
    by_cases ha : a = 1
    · subst ha
      have : i.val = 0 := by omega
      simp [co, this]
    · simp [co, ha]

instance Ex.brow {a b : ℕ} (x : FVec Ideal ⟨2, ![1, b]⟩ φ) [hx : Ex x f]
    (h : (⟨2, ![1, b]⟩ : Shape).Broadcasts ⟨2, ![a, b]⟩) :
    Ex (φ := φ) (broadcastTo ⟨2, ![a, b]⟩ x h) (fun _ j _ _ => f 0 j 0 0) :=
  Ex.of2 fun i j => by
    unfold broadcastTo
    rw [hx.at_]
    have := j.isLt
    by_cases ha : b = 1
    · subst ha
      have : j.val = 0 := by omega
      simp [co, this]
    · simp [co, ha]

instance Ex.hcol {a : ℕ} (x : FVec Ideal ⟨1, ![a]⟩ φ) [hx : Ex x f] (h : (⟨1, ![a]⟩ : Shape).BroadcastsInDim ⟨2, ![a, 1]⟩ ![0]) :
    Ex (φ := φ) (broadcastInDim ⟨2, ![a, 1]⟩ ![0] h x) (fun i _ _ _ => f i 0 0 0) :=
  Ex.of2 fun i j => by
    unfold broadcastInDim
    rw [hx.at_]
    have := i.isLt
    by_cases ha : a = 1
    · subst ha
      have : i.val = 0 := by omega
      simp [co, this]
    · simp [co, ha]

instance Ex.hrow {b : ℕ} (x : FVec Ideal ⟨1, ![b]⟩ φ) [hx : Ex x f] (h : (⟨1, ![b]⟩ : Shape).BroadcastsInDim ⟨2, ![1, b]⟩ ![1]) :
    Ex (φ := φ) (broadcastInDim ⟨2, ![1, b]⟩ ![1] h x) (fun _ j _ _ => f j 0 0 0) :=
  Ex.of2 fun i j => by
    unfold broadcastInDim
    rw [hx.at_]
    have := j.isLt
    by_cases ha : b = 1
    · subst ha
      have : j.val = 0 := by omega
      simp [co, this]
    · simp [co, ha]

instance Ex.hcols {a b : ℕ} (x : FVec Ideal ⟨2, ![a, 1]⟩ φ) [hx : Ex x f] (h : (⟨2, ![a, 1]⟩ : Shape).BroadcastsInDim ⟨2, ![a, b]⟩ ![0, 1]) :
    Ex (φ := φ) (broadcastInDim ⟨2, ![a, b]⟩ ![0, 1] h x) (fun i _ _ _ => f i 0 0 0) :=
  Ex.of2 fun i j => by
    unfold broadcastInDim
    rw [hx.at_]
    have := i.isLt
    by_cases ha : a = 1
    · subst ha
      have : i.val = 0 := by omega
      simp [co, this]
    · simp [co, ha]

instance Ex.hrows {a b : ℕ} (x : FVec Ideal ⟨2, ![1, b]⟩ φ) [hx : Ex x f] (h : (⟨2, ![1, b]⟩ : Shape).BroadcastsInDim ⟨2, ![a, b]⟩ ![0, 1]) :
    Ex (φ := φ) (broadcastInDim ⟨2, ![a, b]⟩ ![0, 1] h x) (fun _ j _ _ => f 0 j 0 0) :=
  Ex.of2 fun i j => by
    unfold broadcastInDim
    rw [hx.at_]
    have := j.isLt
    by_cases ha : b = 1
    · subst ha
      have : j.val = 0 := by omega
      simp [co, this]
    · simp [co, ha]

/-! Reads of a part of a block. -/

instance Ex.ld2 {a b o p s u : ℕ} (x : Vec Ideal ⟨2, ![a, b]⟩ .f32) [hx : Ex (φ := .f32) x f]
    (h : ∀ c, (![o, p] : Fin 2 → ℕ) c + (![s, u] : Fin 2 → ℕ) c ≤ (⟨2, ![a, b]⟩ : Shape).size c) :
    Ex (S := ⟨2, ![s, u]⟩) (φ := .f32)
      (View.ld (Val := Elt Ideal) (e' := .f32) x (Rect.unit (s := ⟨2, ![a, b]⟩) ![o, p] ![s, u] h))
      (fun i j k l => f (o + i) (p + j) k l) :=
  Ex.of2 fun i j => by
    show x _ = _
    rw [hx.at_]
    simp [co]
instance Ex.ld3 {a b c o p q s u w : ℕ} (x : Vec Ideal ⟨3, ![a, b, c]⟩ .f32) [hx : Ex (φ := .f32) x f]
    (h : ∀ d, (![o, p, q] : Fin 3 → ℕ) d + (![s, u, w] : Fin 3 → ℕ) d ≤ (⟨3, ![a, b, c]⟩ : Shape).size d) :
    Ex (S := ⟨3, ![s, u, w]⟩) (φ := .f32)
      (View.ld (Val := Elt Ideal) (e' := .f32) x (Rect.unit (s := ⟨3, ![a, b, c]⟩) ![o, p, q] ![s, u, w] h))
      (fun i j k l => f (o + i) (p + j) (q + k) l) :=
  Ex.of3 fun i j k => by
    show x _ = _
    rw [hx.at_]
    simp [co]
instance Ex.ld2b {a b o p s u : ℕ} (x : Vec Ideal ⟨2, ![a, b]⟩ .bf16) [hx : Ex (φ := .bf16) x f]
    (h : ∀ c, (![o, p] : Fin 2 → ℕ) c + (![s, u] : Fin 2 → ℕ) c ≤ (⟨2, ![a, b]⟩ : Shape).size c) :
    Ex (S := ⟨2, ![s, u]⟩) (φ := .bf16)
      (View.ld (Val := Elt Ideal) (e' := .bf16) x (Rect.unit (s := ⟨2, ![a, b]⟩) ![o, p] ![s, u] h))
      (fun i j k l => f (o + i) (p + j) k l) :=
  Ex.of2 fun i j => by
    show x _ = _
    rw [hx.at_]
    simp [co]
instance Ex.ld3b {a b c o p q s u w : ℕ} (x : Vec Ideal ⟨3, ![a, b, c]⟩ .bf16) [hx : Ex (φ := .bf16) x f]
    (h : ∀ d, (![o, p, q] : Fin 3 → ℕ) d + (![s, u, w] : Fin 3 → ℕ) d ≤ (⟨3, ![a, b, c]⟩ : Shape).size d) :
    Ex (S := ⟨3, ![s, u, w]⟩) (φ := .bf16)
      (View.ld (Val := Elt Ideal) (e' := .bf16) x (Rect.unit (s := ⟨3, ![a, b, c]⟩) ![o, p, q] ![s, u, w] h))
      (fun i j k l => f (o + i) (p + j) (q + k) l) :=
  Ex.of3 fun i j k => by
    show x _ = _
    rw [hx.at_]
    simp [co]

instance Ex.castId {S : Shape} (x : FVec Ideal S φ) [hx : Ex x f] (h : S.ShapeCasts S) :
    Ex (φ := φ) (shapeCast S x h) f := by
  rw [shapeCast_self]; exact hx

instance Ex.castCol {a : ℕ} (x : FVec Ideal ⟨1, ![a]⟩ φ) [hx : Ex x f]
    (h : (⟨1, ![a]⟩ : Shape).ShapeCasts ⟨2, ![a, 1]⟩) :
    Ex (φ := φ) (shapeCast ⟨2, ![a, 1]⟩ x h) (fun i _ _ _ => f i 0 0 0) :=
  Ex.of2 fun i j => by
    rw [shapeCast_apply x h (ix2 i j) (ix1 i) (by
      rw [Shape.rowMajor_val_one, Shape.rowMajor_val_two]
      have := j.isLt
      show i.val = i.val * 1 + j.val
      omega)]
    exact hx.one _

instance Ex.castRow {a : ℕ} (x : FVec Ideal ⟨1, ![a]⟩ φ) [hx : Ex x f]
    (h : (⟨1, ![a]⟩ : Shape).ShapeCasts ⟨2, ![1, a]⟩) :
    Ex (φ := φ) (shapeCast ⟨2, ![1, a]⟩ x h) (fun _ j _ _ => f j 0 0 0) :=
  Ex.of2 fun i j => by
    rw [shapeCast_apply x h (ix2 i j) (ix1 j) (by
      rw [Shape.rowMajor_val_one, Shape.rowMajor_val_two]
      have hi : i.val = 0 := by omega
      show j.val = i.val * a + j.val
      rw [hi]; omega)]
    exact hx.one _

instance Ex.castDrop {a b : ℕ} (x : FVec Ideal ⟨3, ![1, a, b]⟩ φ) [hx : Ex x f]
    (h : (⟨3, ![1, a, b]⟩ : Shape).ShapeCasts ⟨2, ![a, b]⟩) :
    Ex (φ := φ) (shapeCast ⟨2, ![a, b]⟩ x h) (fun i j _ _ => f 0 i j 0) :=
  Ex.of2 fun i j => by
    rw [shapeCast_apply x h (ix2 i j) (ix3 0 i j) (by
      rw [Shape.rowMajor_val_three, Shape.rowMajor_val_two]
      show (0 * a + i.val) * b + j.val = i.val * b + j.val
      rw [Nat.zero_mul, Nat.zero_add])]
    exact hx.three _ _ _

instance Ex.castAdd {a b : ℕ} (x : FVec Ideal ⟨2, ![a, b]⟩ φ) [hx : Ex x f]
    (h : (⟨2, ![a, b]⟩ : Shape).ShapeCasts ⟨3, ![1, a, b]⟩) :
    Ex (φ := φ) (shapeCast ⟨3, ![1, a, b]⟩ x h) (fun _ i j _ => f i j 0 0) :=
  Ex.of3 fun k i j => by
    rw [shapeCast_apply x h (ix3 k i j) (ix2 i j) (by
      rw [Shape.rowMajor_val_three, Shape.rowMajor_val_two]
      have hk : k.val = 0 := by omega
      show i.val * b + j.val = (k.val * a + i.val) * b + j.val
      rw [hk, Nat.zero_mul, Nat.zero_add])]
    exact hx.two _ _

instance Ex.tr2 {a b : ℕ} (x : FVec Ideal ⟨2, ![a, b]⟩ φ) [hx : Ex x f]
    (h : (⟨2, ![a, b]⟩ : Shape).Transposes [1, 0] ⟨2, ![b, a]⟩) :
    Ex (φ := φ) (transpose ⟨2, ![b, a]⟩ [1, 0] x h) (fun i j _ _ => f j i 0 0) :=
  Ex.of2 fun i j => by
    rw [transpose_apply [1, 0] x h (ix2 i j) (ix2 j i) fun b => by
      match b with
      | ⟨0, _⟩ => rfl
      | ⟨1, _⟩ => rfl]
    exact hx.two _ _

/-- Columns in groups of `w`, the groups first. -/
instance Ex.blocks {a n w ab : ℕ} (x : FVec Ideal ⟨2, ![a, ab]⟩ φ) [hx : Ex x f]
    (h : (⟨2, ![a, ab]⟩ : Shape).ShapeCasts ⟨3, ![a, n, w]⟩)
    (h' : (⟨3, ![a, n, w]⟩ : Shape).Transposes [1, 0, 2] ⟨3, ![n, a, w]⟩) :
    Ex (φ := φ) (transpose ⟨3, ![n, a, w]⟩ [1, 0, 2] (shapeCast ⟨3, ![a, n, w]⟩ x h) h') (fun k i j _ => f i (k * w + j) 0 0) :=
  Ex.of3 fun k i j => by
    have hn : a * ab = a * n * w := by
      have e : (⟨3, ![a, n, w]⟩ : Shape).numel = (⟨2, ![a, ab]⟩ : Shape).numel := h
      have e' := e.symm
      simpa [Shape.numel, Fin.prod_univ_succ, mul_assoc] using e'
    have ha : 0 < a := i.pos
    have hab : ab = n * w := by
      rw [mul_assoc] at hn
      exact Nat.eq_of_mul_eq_mul_left ha hn
    subst hab
    have hlt : k.val * w + j.val < n * w := by
      have := k.isLt; have := j.isLt
      calc k.val * w + j.val < k.val * w + w := by omega
        _ = (k.val + 1) * w := by ring
        _ ≤ n * w := Nat.mul_le_mul_right _ k.isLt
    rw [transpose_apply [1, 0, 2] _ h' (ix3 k i j) (ix3 i k j) fun b => by
      match b with
      | ⟨0, _⟩ => rfl
      | ⟨1, _⟩ => rfl
      | ⟨2, _⟩ => rfl]
    rw [shapeCast_apply x h (ix3 i k j) (ix2 i ⟨k.val * w + j.val, hlt⟩) (by
      rw [Shape.rowMajor_val_three, Shape.rowMajor_val_two]
      show i.val * (n * w) + (k.val * w + j.val) = (i.val * n + k.val) * w + j.val
      ring)]
    exact hx.two _ _

/-! ### Sums -/

theorem sum_range (n : ℕ) (u : Fin n → EReal) (v : ℕ → EReal) (h : ∀ k : Fin n, u k = v k.val) :
    ∑ k, u k = ∑ k ∈ Finset.range n, v k := by
  rw [Finset.sum_congr rfl fun k _ => h k, Finset.sum_range]

instance Ex.sum1 {a b : ℕ} (x : FVec Ideal ⟨2, ![a, b]⟩ .f32) [hx : Ex x f] (acc : BitVec 32)
    (h : (⟨2, ![a, b]⟩ : Shape).Reduces [1] ⟨1, ![a]⟩) (h1 h2) :
    Ex (φ := .f32) (multiReduction .add [1] ⟨1, ![a]⟩ x acc h h1 h2) (fun i _ _ _ => ∑ k ∈ Finset.range b, f i k 0 0) :=
  Ex.of1 fun i => by
    pointwise
    exact sum_range _ _ (fun k => f i.val k 0 0) fun k => hx.two _ _

instance Ex.sum0 {a b : ℕ} (x : FVec Ideal ⟨2, ![a, b]⟩ .f32) [hx : Ex x f] (acc : BitVec 32)
    (h : (⟨2, ![a, b]⟩ : Shape).Reduces [0] ⟨1, ![b]⟩) (h1 h2) :
    Ex (φ := .f32) (multiReduction .add [0] ⟨1, ![b]⟩ x acc h h1 h2) (fun j _ _ _ => ∑ k ∈ Finset.range a, f k j 0 0) :=
  Ex.of1 fun i => by
    pointwise
    exact sum_range _ _ (fun k => f k i.val 0 0) fun k => hx.two _ _

instance Ex.hsum1 {a b : ℕ} (x : FVec Ideal ⟨2, ![a, b]⟩ .f32) (z : FVec Ideal ⟨0, ![]⟩ .f32) [hx : Ex x f] [hz : Ex z g]
    (h : (⟨2, ![a, b]⟩ : Shape).ReducesTo [1] ⟨1, ![a]⟩) (h0) :
    Ex (φ := .f32) (Host.reduceAdd x z h h0) (fun i _ _ _ => g 0 0 0 0 + ∑ k ∈ Finset.range b, f i k 0 0) :=
  Ex.of1 fun i => by
    pointwise
    rw [hz.at_]
    exact congrArg₂ _ rfl (sum_range _ _ (fun k => f i.val k 0 0) fun k => hx.two _ _)

instance Ex.hsum0 {a b : ℕ} (x : FVec Ideal ⟨2, ![a, b]⟩ .f32) (z : FVec Ideal ⟨0, ![]⟩ .f32) [hx : Ex x f] [hz : Ex z g]
    (h : (⟨2, ![a, b]⟩ : Shape).ReducesTo [0] ⟨1, ![b]⟩) (h0) :
    Ex (φ := .f32) (Host.reduceAdd x z h h0) (fun j _ _ _ => g 0 0 0 0 + ∑ k ∈ Finset.range a, f k j 0 0) :=
  Ex.of1 fun i => by
    pointwise
    rw [hz.at_]
    exact congrArg₂ _ rfl (sum_range _ _ (fun k => f k i.val 0 0) fun k => hx.two _ _)

/-! ### Stores into a part of an array -/

/-- One more store of a block of `f`, into an array with three axes. -/
theorem Ex.cons3 {a b c o p q u v w : ℕ} {h : ∀ d, (![o, p, q] : Fin 3 → ℕ) d + (![u, v, w] : Fin 3 → ℕ) d ≤ (⟨3, ![a, b, c]⟩ : Shape).size d}
    (x : FVec Ideal ⟨3, ![u, v, w]⟩ .f32) [hx : Ex x g] (e : ∀ i j k, i < u → j < v → k < w → g i j k 0 = f (o + i) (p + j) (q + k) 0)
    (L : List (View.Piece (Elt Ideal) ⟨3, ![a, b, c]⟩ .f32))
    (hL : View.PiecesOf (fun y => f (co y 0) (co y 1) (co y 2) (co y 3)) L) :
    View.PiecesOf (fun y => f (co y 0) (co y 1) (co y 2) (co y 3))
      (⟨Rect.unit (s := ⟨3, ![a, b, c]⟩) ![o, p, q] ![u, v, w] h, x⟩ :: L) := by
  refine ⟨fun y => (hx.at_ y).trans ?_, hL⟩
  have := e (y 0).val (y 1).val (y 2).val (y 0).isLt (y 1).isLt (y 2).isLt
  simpa [co] using this

/-- One more store of a block of `f`, into an array with two axes. -/
theorem Ex.cons2 {a b o p u v : ℕ} {h : ∀ d, (![o, p] : Fin 2 → ℕ) d + (![u, v] : Fin 2 → ℕ) d ≤ (⟨2, ![a, b]⟩ : Shape).size d}
    (x : FVec Ideal ⟨2, ![u, v]⟩ .f32) [hx : Ex x g] (e : ∀ i j, i < u → j < v → g i j 0 0 = f (o + i) (p + j) 0 0)
    (L : List (View.Piece (Elt Ideal) ⟨2, ![a, b]⟩ .f32))
    (hL : View.PiecesOf (fun y => f (co y 0) (co y 1) (co y 2) (co y 3)) L) :
    View.PiecesOf (fun y => f (co y 0) (co y 1) (co y 2) (co y 3))
      (⟨Rect.unit (s := ⟨2, ![a, b]⟩) ![o, p] ![u, v] h, x⟩ :: L) := by
  refine ⟨fun y => (hx.at_ y).trans ?_, hL⟩
  have := e (y 0).val (y 1).val (y 0).isLt (y 1).isLt
  simpa [co] using this

/-- Stores of blocks of `f` that cover the array leave `f`, over any earlier stores. -/
theorem Ex.stored {S : Shape} (L' L : List (View.Piece (Elt Ideal) S .f32)) (hL : View.PiecesOf (fun y => f (co y 0) (co y 1) (co y 2) (co y 3)) L)
    (hc : ∀ y, ∃ p ∈ L, y ∈ p.1.set) : Ex (φ := .f32) (View.canon (Val := Elt Ideal) (L ++ L')) f :=
  ⟨fun y => View.canon_append_of_piecesOf _ L' L hL y (hc y)⟩

/-- One more store of a block of `f`, into an array with two axes of 16-bit numbers. -/
theorem Ex.cons2b {a b o p u v : ℕ} {h : ∀ d, (![o, p] : Fin 2 → ℕ) d + (![u, v] : Fin 2 → ℕ) d ≤ (⟨2, ![a, b]⟩ : Shape).size d}
    (x : FVec Ideal ⟨2, ![u, v]⟩ .bf16) [hx : Ex x g] (e : ∀ i j, i < u → j < v → g i j 0 0 = f (o + i) (p + j) 0 0)
    (L : List (View.Piece (Elt Ideal) ⟨2, ![a, b]⟩ .bf16))
    (hL : View.PiecesOf (fun y => f (co y 0) (co y 1) (co y 2) (co y 3)) L) :
    View.PiecesOf (fun y => f (co y 0) (co y 1) (co y 2) (co y 3))
      (⟨Rect.unit (s := ⟨2, ![a, b]⟩) ![o, p] ![u, v] h, x⟩ :: L) := by
  refine ⟨fun y => (hx.at_ y).trans ?_, hL⟩
  have := e (y 0).val (y 1).val (y 0).isLt (y 1).isLt
  simpa [co] using this

/-- Stores of blocks of `f` that cover the array leave `f` in 16-bit numbers, over any earlier stores. -/
theorem Ex.storedb {S : Shape} (L' L : List (View.Piece (Elt Ideal) S .bf16)) (hL : View.PiecesOf (fun y => f (co y 0) (co y 1) (co y 2) (co y 3)) L)
    (hc : ∀ y, ∃ p ∈ L, y ∈ p.1.set) : Ex (φ := .bf16) (View.canon (Val := Elt Ideal) (L ++ L')) f :=
  ⟨fun y => View.canon_append_of_piecesOf _ L' L hL y (hc y)⟩

/-- Stores of blocks of `f` that cover the array leave `f`. -/
theorem Ex.all {S : Shape} (L : List (View.Piece (Elt Ideal) S .f32)) (hL : View.PiecesOf (fun y => f (co y 0) (co y 1) (co y 2) (co y 3)) L)
    (hc : ∀ y, ∃ p ∈ L, y ∈ p.1.set) : Ex (φ := .f32) (View.canon (Val := Elt Ideal) L) f := by
  simpa using Ex.stored [] L hL hc

/-- Stores of blocks of `f` that cover the array leave `f` in 16-bit numbers. -/
theorem Ex.allb {S : Shape} (L : List (View.Piece (Elt Ideal) S .bf16)) (hL : View.PiecesOf (fun y => f (co y 0) (co y 1) (co y 2) (co y 3)) L)
    (hc : ∀ y, ∃ p ∈ L, y ∈ p.1.set) : Ex (φ := .bf16) (View.canon (Val := Elt Ideal) L) f := by
  simpa using Ex.storedb [] L hL hc

/-- A load of the whole of an array with three axes reads what the stores left. -/
instance Ex.readBack {a b c : ℕ} {sig : RefSig} {κ : Kind} {sp : Space} (v : View sig κ sp ⟨3, ![a, b, c]⟩ .f32)
    (L : List (View.Piece (Elt Ideal) ⟨3, ![a, b, c]⟩ .f32)) [hx : Ex (φ := .f32) (View.canon (Val := Elt Ideal) L) f]
    (h : ∀ d, (![0, 0, 0] : Fin 3 → ℕ) d + (![a, b, c] : Fin 3 → ℕ) d ≤ (⟨3, ![a, b, c]⟩ : Shape).size d) :
    Ex (S := ⟨3, ![a, b, c]⟩) (φ := .f32)
      (v.readCov (Val := Elt Ideal) L (Rect.unit (s := ⟨3, ![a, b, c]⟩) ![0, 0, 0] ![a, b, c] h).toLoadRect) f := by
  rw [View.readCov_eq_canon']
  refine ⟨fun y => (hx.at_ _).trans ?_⟩
  simp [co]

end Calc
-- ==== Proof.Wg2.lean ====
module

public import proofs.«01_k».proof.Defs
public import proofs.«01_k».proof.Proof.Ext
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

/-! The gradient of the second feed-forward weight. -/

namespace Cert.Kernel2Ideal.Gen

open Idealize.ShloMosaic Calc Idealize.SL.Sem Idealize.ShloMosaic.TcCoe

variable {φ ψ : FTy} {f g : ℕ → ℕ → ℕ → ℕ → EReal}

instance dotK (x : FVec Ideal S4096x1024 φ) (y : FVec Ideal S4096x1024 ψ) [hx : Ex x f] [hy : Ex y g] :
    Ex (matmul dot_S4096x1024_S4096x1024_S1024x1024_0_0_1_1_n_n none x y (constant S1024x1024 .f32 0x00000000#32))
      (fun i j _ _ => ∑ k ∈ Finset.range 4096, f k i 0 0 * g k j 0 0) :=
  Ex.of2 fun i j => by
    pointwise
    exact sum_range _ _ (fun k => f k i.val 0 0 * g k j.val 0 0) fun k => by rw [hx.two, hy.two]

variable (m : (ℓ : Loc nD τ sig) → Buf (Elt Ideal) ℓ) (c : Dev nD)

/-- The activations' values. -/
abbrev r (i j : ℕ) : EReal := val2 (a := 4096) (b := 4096) (m ((c : Thread nD τ).loc main_arg0)) i j
/-- The cotangent's values. -/
abbrev d (i j : ℕ) : EReal := val2 (a := 4096) (b := 1024) (m ((c : Thread nD τ).loc main_arg1)) i j

instance entry0 : Ex (S := S4096x4096) (φ := .bf16) (V m c main_v0) (fun i j _ _ => r m c i j) := by
  have e : V m c main_v0 = truncf (F := Ideal) .bf16 (m ((c : Thread nD τ).loc main_arg0) : FVec Ideal S4096x4096 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 4096) (m ((c : Thread nD τ).loc main_arg0))
  exact Ex.truncf _ _

instance entry1 : Ex (S := S4096x1024) (φ := .bf16) (V m c main_v1) (fun i j _ _ => d m c i j) := by
  have e : V m c main_v1 = truncf (F := Ideal) .bf16 (m ((c : Thread nD τ).loc main_arg1) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg1))
  exact Ex.truncf _ _

theorem idx : ∀ t : Fin cfg0.N, win0_0.index t = ![0, t.val] ∧ win0_1.index t = ![0, 0] ∧ win0_2.index t = ![0, t.val, 0] ∧
    win0_3.index t = ![0, t.val, 0] :=
  (by decide +kernel : ∀ t : Fin grid0.N, _)

instance block0 (t : Fin cfg0.N) : Ex (S := S4096x1024) (φ := .bf16) (iblk m c 0 t) (fun i j _ _ => r m c i (1024 * t.val + j)) := by
  refine ⟨fun i => ?_⟩
  blk_simp [iblk, idx t]
  refine (Ex.val (S := S4096x4096) (φ := .bf16) (V m c main_v0) _).trans ?_
  simp [co, idx t, mul_comm]

instance block1 (t : Fin cfg0.N) : Ex (S := S4096x1024) (φ := .bf16) (iblk m c 1 t) (fun i j _ _ => d m c i j) := by
  refine ⟨fun i => ?_⟩
  blk_simp [iblk, idx t]
  refine (Ex.val (S := S4096x1024) (φ := .bf16) (V m c main_v1) _).trans ?_
  simp [co, idx t, mul_comm]

/-- The gradient. -/
abbrev grad (i j : ℕ) : EReal := ∑ k ∈ Finset.range 4096, r m c k i * r m c k i * d m c k j

instance out2 (t : Fin cfg0.N) : Ex (S := S1x1024x1024) (φ := .f32) (outsAt0 m c t).1 (fun _ i j _ => grad m c (1024 * t.val + i) j) := by
  refine ⟨fun y => ?_⟩
  unfold outsAt0
  frame_out
  simp only [k0_pay1, k0_pay2]
  refine (Ex.val _ _).trans ?_
  exact zero_add _

instance out3 (t : Fin cfg0.N) : Ex (S := S1x1024x1024) (φ := .bf16) (outsAt0 m c t).2 (fun _ i j _ => grad m c (1024 * t.val + i) j) := by
  refine ⟨fun y => ?_⟩
  unfold outsAt0
  frame_out
  simp only [k0_pay1, k0_pay2, k0_pay3]
  refine (Ex.val _ _).trans ?_
  exact zero_add _

instance fin2 : Ex (S := S1x4096x1024) (φ := .f32) ((dats m 0 c).arrAt 2 cfg0.N) (fun _ i j _ => grad m c i j) := by
  refine ⟨fun i => congrFun ((dats m 0 c).arrAt_eq_of_covers 2
    (fun i : S1x4096x1024.Idx => grad m c (i 1).val (i 2).val) (by decide +kernel) fun t hf y => ?_) i⟩
  blk_simp [idx t]
  rw [after0_2]
  refine ((out2 m c t).at_ y).trans ?_
  simp [co, idx t, mul_comm]

instance fin3 : Ex (S := S1x4096x1024) (φ := .bf16) ((dats m 0 c).arrAt 3 cfg0.N) (fun _ i j _ => grad m c i j) := by
  refine ⟨fun i => congrFun ((dats m 0 c).arrAt_eq_of_covers 3
    (fun i : S1x4096x1024.Idx => grad m c (i 1).val (i 2).val) (by decide +kernel) fun t hf y => ?_) i⟩
  blk_simp [idx t]
  rw [after0_3]
  refine ((out3 m c t).at_ y).trans ?_
  simp [co, idx t, mul_comm]

end Cert.Kernel2Ideal.Gen

namespace Cert.Reference2Ideal.Gen

open Idealize.ShloMosaic Calc

variable {φ ψ : FTy} {f g : ℕ → ℕ → ℕ → ℕ → EReal}

instance dotH (x : FVec Ideal S4096x1024 .f32) (y : FVec Ideal S4096x4096 .f32) [hx : Ex x f] [hy : Ex y g] :
    Ex (Host.dotGeneral dot_S4096x1024_S4096x4096_S1024x4096_0_0_1_1_n_n none x y)
      (fun i j _ _ => ∑ k ∈ Finset.range 4096, f k i 0 0 * g k j 0 0) :=
  Ex.of2 fun i j => by
    pointwise
    exact sum_range _ _ (fun k => f k i.val 0 0 * g k j.val 0 0) fun k => by rw [hx.two, hy.two]

theorem ref5 (x0 : FVec Ideal S4096x4096 .f32) (x1 : FVec Ideal S4096x1024 .f32) [hx : Ex x0 f] [hy : Ex x1 g] :
    Ex (S := S1x4096x1024) (φ := .f32) (Read.val_main_v5 (F := Ideal) x0 x1)
      (fun _ i j _ => ∑ k ∈ Finset.range 4096, g k j 0 0 * (f k i 0 0 * f k i 0 0)) := by
  unfold Read.val_main_v5 Read.val_main_v4 Read.val_main_v3 Read.val_main_v1
  exact inferInstance

theorem ref7 (x0 : FVec Ideal S4096x4096 .f32) (x1 : FVec Ideal S4096x1024 .f32) [hx : Ex x0 f] [hy : Ex x1 g] :
    Ex (S := S1x4096x1024) (φ := .bf16) (Read.val_main_v7 (F := Ideal) x0 x1)
      (fun _ i j _ => ∑ k ∈ Finset.range 4096, g k j 0 0 * (f k i 0 0 * f k i 0 0)) := by
  unfold Read.val_main_v7 Read.val_main_v6 Read.val_main_v4 Read.val_main_v3 Read.val_main_v1
  exact inferInstance

end Cert.Reference2Ideal.Gen

namespace Cert.Proof.Claims

open Idealize.ShloMosaic Idealize.ShloMosaic.StableHlo Calc Cert.Kernel2Ideal.Gen

theorem preserves2 : Cert.preserves_Kernel2_Kernel2Ideal := trivial

set_option maxHeartbeats 1600000 in
/-- The kernel and the reference leave the same two arrays, whatever the arguments hold. -/
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    all_goals haveI i0 := Ex.val2 (a := 4096) (b := 4096) (m ((c.tc : Thread Cert.Kernel2Ideal.nD Cert.Kernel2Ideal.τ).loc Cert.Kernel2Ideal.main_arg0))
    all_goals haveI i1 := Ex.val2 (a := 4096) (b := 1024) (m ((c.tc : Thread Cert.Kernel2Ideal.nD Cert.Kernel2Ideal.τ).loc Cert.Kernel2Ideal.main_arg1))
    · exact Ex.same3 (Cert.Reference2Ideal.Gen.ref5 _ _) (fin2 m c) fun _ _ _ _ _ _ => Finset.sum_congr rfl fun _ _ => mul_comm _ _
    · exact Ex.same3 (Cert.Reference2Ideal.Gen.ref7 _ _) (fin3 m c) fun _ _ _ _ _ _ => Finset.sum_congr rfl fun _ _ => mul_comm _ _

end Cert.Proof.Claims
-- ==== Proof.Wg1.lean ====
module

public import proofs.«01_k».proof.Defs
public import proofs.«01_k».proof.Proof.Ext
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

/-! The gradient of the first feed-forward weight. -/

namespace Cert.Kernel3Ideal.Gen

open Idealize.ShloMosaic Calc Idealize.SL.Sem Idealize.ShloMosaic.TcCoe

variable {φ ψ : FTy} {f g : ℕ → ℕ → ℕ → ℕ → EReal}

instance dotK (x : FVec Ideal S4096x1024 φ) (y : FVec Ideal S4096x512 ψ) [hx : Ex x f] [hy : Ex y g] :
    Ex (matmul dot_S4096x1024_S4096x512_S1024x512_0_0_1_1_n_n none x y (constant S1024x512 .f32 0x00000000#32))
      (fun i j _ _ => ∑ k ∈ Finset.range 4096, f k i 0 0 * g k j 0 0) :=
  Ex.of2 fun i j => by
    pointwise
    exact sum_range _ _ (fun k => f k i.val 0 0 * g k j.val 0 0) fun k => by rw [hx.two, hy.two]

variable (m : (ℓ : Loc nD τ sig) → Buf (Elt Ideal) ℓ) (c : Dev nD)

/-- The activations' values. -/
abbrev a (i j : ℕ) : EReal := val2 (a := 4096) (b := 1024) (m ((c : Thread nD τ).loc main_arg0)) i j
/-- The cotangent's values. -/
abbrev d (i j : ℕ) : EReal := val2 (a := 4096) (b := 4096) (m ((c : Thread nD τ).loc main_arg1)) i j
/-- The gradient in blocks of columns. -/
abbrev grad (b i j : ℕ) : EReal := ∑ k ∈ Finset.range 4096, a m c k i * d m c k (512 * b + j)

instance entry0 : Ex (S := S4096x1024) (φ := .bf16) (V m c main_v0) (fun i j _ _ => a m c i j) := by
  have e : V m c main_v0 = truncf (F := Ideal) .bf16 (m ((c : Thread nD τ).loc main_arg0) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg0))
  exact Ex.truncf _ _

instance entry1 : Ex (S := S4096x4096) (φ := .bf16) (V m c main_v1) (fun i j _ _ => d m c i j) := by
  have e : V m c main_v1 = truncf (F := Ideal) .bf16 (m ((c : Thread nD τ).loc main_arg1) : FVec Ideal S4096x4096 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 4096) (m ((c : Thread nD τ).loc main_arg1))
  exact Ex.truncf _ _

theorem idx : ∀ t : Fin cfg0.N, win0_0.index t = ![0, 0] ∧ win0_1.index t = ![0, t.val] ∧ win0_2.index t = ![t.val, 0, 0] ∧
    win0_3.index t = ![t.val, 0, 0] :=
  (by decide +kernel : ∀ t : Fin grid0.N, _)

instance block0 (t : Fin cfg0.N) : Ex (S := S4096x1024) (φ := .bf16) (iblk m c 0 t) (fun i j _ _ => a m c i j) := by
  refine ⟨fun i => ?_⟩
  blk_simp [iblk, idx t]
  refine (Ex.val (S := S4096x1024) (φ := .bf16) (V m c main_v0) _).trans ?_
  simp [co, idx t, mul_comm]

instance block1 (t : Fin cfg0.N) : Ex (S := S4096x1024) (φ := .bf16) (iblk m c 1 t) (fun i j _ _ => d m c i (1024 * t.val + j)) := by
  refine ⟨fun i => ?_⟩
  blk_simp [iblk, idx t]
  refine (Ex.val (S := S4096x4096) (φ := .bf16) (V m c main_v1) _).trans ?_
  simp [co, idx t, mul_comm]

/-- The zeros that the sums start from. -/
abbrev zeros : Vec Ideal S2x1024x512 .f32 := k0_pay1 (F := Ideal)

/-- A step's two blocks of columns. -/
def parts (x y : Vec Ideal S4096x1024 .bf16) : List (View.Piece (Elt Ideal) S2x1024x512 .f32) :=
  [⟨Rect.unit (s := S2x1024x512) ![1, 0, 0] ![1, 1024, 512] inb_S2x1024x512_S1x1024x512_1_0_0,
      k0_pay4 (F := Ideal) x (View.ld zeros (Rect.unit (s := S2x1024x512) ![1, 0, 0] ![1, 1024, 512] inb_S2x1024x512_S1x1024x512_1_0_0))
        (View.ld y (Rect.unit (s := S4096x1024) ![0, 512] ![4096, 512] inb_S4096x1024_S4096x512_0_512))⟩,
    ⟨Rect.unit (s := S2x1024x512) ![0, 0, 0] ![1, 1024, 512] inb_S2x1024x512_S1x1024x512_0_0_0,
      k0_pay3 (F := Ideal) x (View.ld zeros (Rect.unit (s := S2x1024x512) ![0, 0, 0] ![1, 1024, 512] inb_S2x1024x512_S1x1024x512_0_0_0))
        (View.ld y (Rect.unit (s := S4096x1024) ![0, 0] ![4096, 512] inb_S4096x1024_S4096x512_0_0))⟩]

/-- The products in blocks of columns. -/
def sums (f g : ℕ → ℕ → ℕ → ℕ → EReal) (b i j _ : ℕ) : EReal := ∑ k ∈ Finset.range 4096, f k i 0 0 * g k (512 * b + j) 0 0

theorem stored (x y : Vec Ideal S4096x1024 .bf16) [hx : Ex (φ := .bf16) x f] [hy : Ex (φ := .bf16) y g] (L' : List (View.Piece (Elt Ideal) S2x1024x512 .f32)) :
    Ex (φ := .f32) (View.canon (Val := Elt Ideal) (parts x y ++ L')) (sums f g) := by
  refine Ex.stored L' (parts x y) ?_ (View.cover_of_tiledBy _ ![1, 1024, 512] (by sl_kernel_rfl))
  simp only [parts, zeros, k0_pay1, k0_pay2, k0_pay3, k0_pay4]
  refine Ex.cons3 _ ?_ _ (Ex.cons3 _ ?_ [] trivial)
  all_goals
    intro b i j hb hi hj
    obtain rfl : b = 0 := by omega
    refine (zero_add _).trans (Finset.sum_congr rfl fun k _ => ?_)
    congr 2 <;> omega

/-- What a step leaves in its two blocks. -/
theorem step (t : Fin cfg0.N) (L' : List (View.Piece (Elt Ideal) S2x1024x512 .f32)) :
    Ex (φ := .f32) (View.canon (Val := Elt Ideal) (parts (iblk m c 0 t) (iblk m c 1 t) ++ L')) (fun b i j _ => grad m c (2 * t.val + b) i j) := by
  refine ⟨fun y => ((stored _ _ L' (hx := block0 m c t) (hy := block1 m c t)).at_ y).trans (Finset.sum_congr rfl fun k _ => ?_)⟩
  exact congrArg (fun j => a m c k (co y 1) * d m c k j) (by omega)

instance out2 (t : Fin cfg0.N) : Ex (S := S2x1024x512) (φ := .f32) (outsAt0 m c t).1 (fun b i j _ => grad m c (2 * t.val + b) i j) := by
  refine ⟨fun y => ?_⟩
  unfold outsAt0
  frame_out
  simp (disch := decide) only [View.readCov_skip, View.readCov_fill]
  exact (step m c t [_]).at_ y

instance out3 (t : Fin cfg0.N) : Ex (S := S2x1024x512) (φ := .bf16) (outsAt0 m c t).2 (fun b i j _ => grad m c (2 * t.val + b) i j) := by
  refine ⟨fun y => ?_⟩
  unfold outsAt0
  frame_out
  simp (disch := decide) only [View.readCov_skip, View.readCov_fill]
  simp only [k0_pay5]
  haveI := step m c t [⟨Rect.unit (s := S2x1024x512) ![0, 0, 0] ![2, 1024, 512] inb_S2x1024x512_S2x1024x512_0_0_0, zeros⟩]
  exact (Ex.truncf _ _ (hx := Ex.castId _ (hx := Ex.readBack _ _ _ (hx := this)) _)).at_ y

instance fin2 : Ex (S := S8x1024x512) (φ := .f32) ((dats m 0 c).arrAt 2 cfg0.N) (fun b i j _ => grad m c b i j) := by
  refine ⟨fun i => congrFun ((dats m 0 c).arrAt_eq_of_covers 2
    (fun i : S8x1024x512.Idx => grad m c (i 0).val (i 1).val (i 2).val) (by decide +kernel) fun t hf y => ?_) i⟩
  blk_simp [idx t]
  rw [after0_2]
  refine ((out2 m c t).at_ y).trans ?_
  simp [co, idx t, mul_comm]

instance fin3 : Ex (S := S8x1024x512) (φ := .bf16) ((dats m 0 c).arrAt 3 cfg0.N) (fun b i j _ => grad m c b i j) := by
  refine ⟨fun i => congrFun ((dats m 0 c).arrAt_eq_of_covers 3
    (fun i : S8x1024x512.Idx => grad m c (i 0).val (i 1).val (i 2).val) (by decide +kernel) fun t hf y => ?_) i⟩
  blk_simp [idx t]
  rw [after0_3]
  refine ((out3 m c t).at_ y).trans ?_
  simp [co, idx t, mul_comm]

end Cert.Kernel3Ideal.Gen

namespace Cert.Reference3Ideal.Gen

open Idealize.ShloMosaic Calc

variable {φ ψ : FTy} {f g : ℕ → ℕ → ℕ → ℕ → EReal}

instance dotH (x : FVec Ideal S4096x4096 .f32) (y : FVec Ideal S4096x1024 .f32) [hx : Ex x f] [hy : Ex y g] :
    Ex (Host.dotGeneral dot_S4096x4096_S4096x1024_S4096x1024_0_0_1_1_n_n none x y)
      (fun i j _ _ => ∑ k ∈ Finset.range 4096, f k i 0 0 * g k j 0 0) :=
  Ex.of2 fun i j => by
    pointwise
    exact sum_range _ _ (fun k => f k i.val 0 0 * g k j.val 0 0) fun k => by rw [hx.two, hy.two]

theorem ref5 (x0 : FVec Ideal S4096x1024 .f32) (x1 : FVec Ideal S4096x4096 .f32) [hx : Ex x0 f] [hy : Ex x1 g] :
    Ex (S := S8x1024x512) (φ := .f32) (Read.val_main_v5 (F := Ideal) x0 x1)
      (fun b i j _ => ∑ k ∈ Finset.range 4096, g k (b * 512 + j) 0 0 * f k i 0 0) := by
  unfold Read.val_main_v5 Read.val_main_v4 Read.val_main_v3 Read.val_main_v2
  exact inferInstance

theorem ref8 (x0 : FVec Ideal S4096x1024 .f32) (x1 : FVec Ideal S4096x4096 .f32) [hx : Ex x0 f] [hy : Ex x1 g] :
    Ex (S := S8x1024x512) (φ := .bf16) (Read.val_main_v8 (F := Ideal) x0 x1)
      (fun b i j _ => ∑ k ∈ Finset.range 4096, g k (b * 512 + j) 0 0 * f k i 0 0) := by
  unfold Read.val_main_v8 Read.val_main_v7 Read.val_main_v6 Read.val_main_v3 Read.val_main_v2
  exact inferInstance

end Cert.Reference3Ideal.Gen

namespace Cert.Proof.Claims

open Idealize.ShloMosaic Idealize.ShloMosaic.StableHlo Calc Cert.Kernel3Ideal.Gen

theorem preserves3 : Cert.preserves_Kernel3_Kernel3Ideal := trivial

set_option maxHeartbeats 1600000 in
/-- The kernel and the reference leave the same two arrays, whatever the arguments hold. -/
theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    all_goals haveI i0 := Ex.val2 (a := 4096) (b := 1024) (m ((c.tc : Thread Cert.Kernel3Ideal.nD Cert.Kernel3Ideal.τ).loc Cert.Kernel3Ideal.main_arg0))
    all_goals haveI i1 := Ex.val2 (a := 4096) (b := 4096) (m ((c.tc : Thread Cert.Kernel3Ideal.nD Cert.Kernel3Ideal.τ).loc Cert.Kernel3Ideal.main_arg1))
    · exact Ex.same3 (Cert.Reference3Ideal.Gen.ref5 _ _) (fin2 m c) fun _ _ _ _ _ _ => Finset.sum_congr rfl fun _ _ => by rw [mul_comm, mul_comm 512]
    · exact Ex.same3 (Cert.Reference3Ideal.Gen.ref8 _ _) (fin3 m c) fun _ _ _ _ _ _ => Finset.sum_congr rfl fun _ _ => by rw [mul_comm, mul_comm 512]

end Cert.Proof.Claims
-- ==== Proof.Wgi.lean ====
module

public import proofs.«01_k».proof.Defs
public import proofs.«01_k».proof.Proof.Ext
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

/-! The gradient of the mixer projection weight. -/

namespace Cert.Kernel4Ideal.Gen

open Idealize.ShloMosaic Calc Idealize.SL.Sem Idealize.ShloMosaic.TcCoe

variable {φ ψ : FTy} {f g : ℕ → ℕ → ℕ → ℕ → EReal}

instance dotK (x : FVec Ideal S4096x1024 φ) (y : FVec Ideal S4096x256 ψ) [hx : Ex x f] [hy : Ex y g] :
    Ex (matmul dot_S4096x1024_S4096x256_S1024x256_0_0_1_1_n_n none x y (constant S1024x256 .f32 0x00000000#32))
      (fun i j _ _ => ∑ k ∈ Finset.range 4096, f k i 0 0 * g k j 0 0) :=
  Ex.of2 fun i j => by
    pointwise
    exact sum_range _ _ (fun k => f k i.val 0 0 * g k j.val 0 0) fun k => by rw [hx.two, hy.two]

variable (m : (ℓ : Loc nD τ sig) → Buf (Elt Ideal) ℓ) (c : Dev nD)

/-- The activations' values. -/
abbrev a (i j : ℕ) : EReal := val2 (a := 4096) (b := 1024) (m ((c : Thread nD τ).loc main_arg0)) i j
/-- The cotangent's values. -/
abbrev d (i j : ℕ) : EReal := val2 (a := 4096) (b := 2048) (m ((c : Thread nD τ).loc main_arg1)) i j
/-- The gradient in blocks of columns. -/
abbrev grad (b i j : ℕ) : EReal := ∑ k ∈ Finset.range 4096, a m c k i * d m c k (256 * b + j)

instance entry0 : Ex (S := S4096x1024) (φ := .bf16) (V m c main_v0) (fun i j _ _ => a m c i j) := by
  have e : V m c main_v0 = truncf (F := Ideal) .bf16 (m ((c : Thread nD τ).loc main_arg0) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg0))
  exact Ex.truncf _ _

instance entry1 : Ex (S := S4096x2048) (φ := .bf16) (V m c main_v1) (fun i j _ _ => d m c i j) := by
  have e : V m c main_v1 = truncf (F := Ideal) .bf16 (m ((c : Thread nD τ).loc main_arg1) : FVec Ideal S4096x2048 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 2048) (m ((c : Thread nD τ).loc main_arg1))
  exact Ex.truncf _ _

theorem idx : ∀ t : Fin cfg0.N, win0_0.index t = ![0, 0] ∧ win0_1.index t = ![0, t.val] ∧ win0_2.index t = ![t.val, 0, 0] ∧
    win0_3.index t = ![t.val, 0, 0] :=
  (by decide +kernel : ∀ t : Fin grid0.N, _)

instance block0 (t : Fin cfg0.N) : Ex (S := S4096x1024) (φ := .bf16) (iblk m c 0 t) (fun i j _ _ => a m c i j) := by
  refine ⟨fun i => ?_⟩
  blk_simp [iblk, idx t]
  refine (Ex.val (S := S4096x1024) (φ := .bf16) (V m c main_v0) _).trans ?_
  simp [co, idx t, mul_comm]

instance block1 (t : Fin cfg0.N) : Ex (S := S4096x1024) (φ := .bf16) (iblk m c 1 t) (fun i j _ _ => d m c i (1024 * t.val + j)) := by
  refine ⟨fun i => ?_⟩
  blk_simp [iblk, idx t]
  refine (Ex.val (S := S4096x2048) (φ := .bf16) (V m c main_v1) _).trans ?_
  simp [co, idx t, mul_comm]

/-- The zeros that the sums start from. -/
abbrev zeros : Vec Ideal S4x1024x256 .f32 := k0_pay4 (F := Ideal)

/-- A step's four blocks of columns. -/
def parts (x y : Vec Ideal S4096x1024 .bf16) : List (View.Piece (Elt Ideal) S4x1024x256 .f32) :=
  [⟨Rect.unit (s := S4x1024x256) ![3, 0, 0] ![1, 1024, 256] inb_S4x1024x256_S1x1024x256_3_0_0,
      k0_pay2 (F := Ideal) (k0_pay5 x) (View.ld zeros (Rect.unit (s := S4x1024x256) ![3, 0, 0] ![1, 1024, 256] inb_S4x1024x256_S1x1024x256_3_0_0))
        (View.ld y (Rect.unit (s := S4096x1024) ![0, 768] ![4096, 256] inb_S4096x1024_S4096x256_0_768))⟩,
    ⟨Rect.unit (s := S4x1024x256) ![2, 0, 0] ![1, 1024, 256] inb_S4x1024x256_S1x1024x256_2_0_0,
      k0_pay1 (F := Ideal) (k0_pay5 x) (k0_pay8 (View.ld zeros (Rect.unit (s := S4x1024x256) ![2, 0, 0] ![1, 1024, 256] inb_S4x1024x256_S1x1024x256_2_0_0)))
        (k0_pay9 (View.ld y (Rect.unit (s := S4096x1024) ![0, 512] ![4096, 256] inb_S4096x1024_S4096x256_0_512)))⟩,
    ⟨Rect.unit (s := S4x1024x256) ![1, 0, 0] ![1, 1024, 256] inb_S4x1024x256_S1x1024x256_1_0_0,
      k0_pay7 (F := Ideal) x (View.ld zeros (Rect.unit (s := S4x1024x256) ![1, 0, 0] ![1, 1024, 256] inb_S4x1024x256_S1x1024x256_1_0_0))
        (View.ld y (Rect.unit (s := S4096x1024) ![0, 256] ![4096, 256] inb_S4096x1024_S4096x256_0_256))⟩,
    ⟨Rect.unit (s := S4x1024x256) ![0, 0, 0] ![1, 1024, 256] inb_S4x1024x256_S1x1024x256_0_0_0,
      k0_pay6 (F := Ideal) x (View.ld zeros (Rect.unit (s := S4x1024x256) ![0, 0, 0] ![1, 1024, 256] inb_S4x1024x256_S1x1024x256_0_0_0))
        (View.ld y (Rect.unit (s := S4096x1024) ![0, 0] ![4096, 256] inb_S4096x1024_S4096x256_0_0))⟩]

/-- The products in blocks of columns. -/
def sums (f g : ℕ → ℕ → ℕ → ℕ → EReal) (b i j _ : ℕ) : EReal := ∑ k ∈ Finset.range 4096, f k i 0 0 * g k (256 * b + j) 0 0

theorem stored (x y : Vec Ideal S4096x1024 .bf16) [hx : Ex (φ := .bf16) x f] [hy : Ex (φ := .bf16) y g] (L' : List (View.Piece (Elt Ideal) S4x1024x256 .f32)) :
    Ex (φ := .f32) (View.canon (Val := Elt Ideal) (parts x y ++ L')) (sums f g) := by
  refine Ex.stored L' (parts x y) ?_ (View.cover_of_tiledBy _ ![1, 1024, 256] (by sl_kernel_rfl))
  simp only [parts, zeros, k0_pay1, k0_pay2, k0_pay4, k0_pay5, k0_pay6, k0_pay7, k0_pay8, k0_pay9]
  refine Ex.cons3 _ ?_ _ (Ex.cons3 _ ?_ _ (Ex.cons3 _ ?_ _ (Ex.cons3 _ ?_ [] trivial)))
  all_goals
    intro b i j hb hi hj
    obtain rfl : b = 0 := by omega
    refine (zero_add _).trans (Finset.sum_congr rfl fun k _ => ?_)
    congr 2 <;> omega

/-- What a step leaves in its four blocks. -/
theorem step (t : Fin cfg0.N) (L' : List (View.Piece (Elt Ideal) S4x1024x256 .f32)) :
    Ex (φ := .f32) (View.canon (Val := Elt Ideal) (parts (iblk m c 0 t) (iblk m c 1 t) ++ L')) (fun b i j _ => grad m c (4 * t.val + b) i j) := by
  refine ⟨fun y => ((stored _ _ L' (hx := block0 m c t) (hy := block1 m c t)).at_ y).trans (Finset.sum_congr rfl fun k _ => ?_)⟩
  exact congrArg (fun j => a m c k (co y 1) * d m c k j) (by omega)

instance out2 (t : Fin cfg0.N) : Ex (S := S4x1024x256) (φ := .f32) (outsAt0 m c t).1 (fun b i j _ => grad m c (4 * t.val + b) i j) := by
  refine ⟨fun y => ?_⟩
  unfold outsAt0
  frame_out
  simp (disch := decide) only [View.readCov_skip, View.readCov_fill]
  exact (step m c t [_]).at_ y

instance out3 (t : Fin cfg0.N) : Ex (S := S4x1024x256) (φ := .bf16) (outsAt0 m c t).2 (fun b i j _ => grad m c (4 * t.val + b) i j) := by
  refine ⟨fun y => ?_⟩
  unfold outsAt0
  frame_out
  simp (disch := decide) only [View.readCov_skip, View.readCov_fill]
  simp only [k0_pay3]
  haveI := step m c t [⟨Rect.unit (s := S4x1024x256) ![0, 0, 0] ![4, 1024, 256] inb_S4x1024x256_S4x1024x256_0_0_0, zeros⟩]
  exact (Ex.truncf _ _ (hx := Ex.castId _ (hx := Ex.readBack _ _ _ (hx := this)) _)).at_ y

instance fin2 : Ex (S := S8x1024x256) (φ := .f32) ((dats m 0 c).arrAt 2 cfg0.N) (fun b i j _ => grad m c b i j) := by
  refine ⟨fun i => congrFun ((dats m 0 c).arrAt_eq_of_covers 2
    (fun i : S8x1024x256.Idx => grad m c (i 0).val (i 1).val (i 2).val) (by decide +kernel) fun t hf y => ?_) i⟩
  blk_simp [idx t]
  rw [after0_2]
  refine ((out2 m c t).at_ y).trans ?_
  simp [co, idx t, mul_comm]

instance fin3 : Ex (S := S8x1024x256) (φ := .bf16) ((dats m 0 c).arrAt 3 cfg0.N) (fun b i j _ => grad m c b i j) := by
  refine ⟨fun i => congrFun ((dats m 0 c).arrAt_eq_of_covers 3
    (fun i : S8x1024x256.Idx => grad m c (i 0).val (i 1).val (i 2).val) (by decide +kernel) fun t hf y => ?_) i⟩
  blk_simp [idx t]
  rw [after0_3]
  refine ((out3 m c t).at_ y).trans ?_
  simp [co, idx t, mul_comm]

end Cert.Kernel4Ideal.Gen

namespace Cert.Reference4Ideal.Gen

open Idealize.ShloMosaic Calc

variable {φ ψ : FTy} {f g : ℕ → ℕ → ℕ → ℕ → EReal}

instance dotH (x : FVec Ideal S4096x2048 .f32) (y : FVec Ideal S4096x1024 .f32) [hx : Ex x f] [hy : Ex y g] :
    Ex (Host.dotGeneral dot_S4096x2048_S4096x1024_S2048x1024_0_0_1_1_n_n none x y)
      (fun i j _ _ => ∑ k ∈ Finset.range 4096, f k i 0 0 * g k j 0 0) :=
  Ex.of2 fun i j => by
    pointwise
    exact sum_range _ _ (fun k => f k i.val 0 0 * g k j.val 0 0) fun k => by rw [hx.two, hy.two]

theorem ref5 (x0 : FVec Ideal S4096x1024 .f32) (x1 : FVec Ideal S4096x2048 .f32) [hx : Ex x0 f] [hy : Ex x1 g] :
    Ex (S := S8x1024x256) (φ := .f32) (Read.val_main_v5 (F := Ideal) x0 x1)
      (fun b i j _ => ∑ k ∈ Finset.range 4096, g k (b * 256 + j) 0 0 * f k i 0 0) := by
  unfold Read.val_main_v5 Read.val_main_v4 Read.val_main_v3 Read.val_main_v2
  exact inferInstance

theorem ref8 (x0 : FVec Ideal S4096x1024 .f32) (x1 : FVec Ideal S4096x2048 .f32) [hx : Ex x0 f] [hy : Ex x1 g] :
    Ex (S := S8x1024x256) (φ := .bf16) (Read.val_main_v8 (F := Ideal) x0 x1)
      (fun b i j _ => ∑ k ∈ Finset.range 4096, g k (b * 256 + j) 0 0 * f k i 0 0) := by
  unfold Read.val_main_v8 Read.val_main_v7 Read.val_main_v6 Read.val_main_v3 Read.val_main_v2
  exact inferInstance

end Cert.Reference4Ideal.Gen

namespace Cert.Proof.Claims

open Idealize.ShloMosaic Idealize.ShloMosaic.StableHlo Calc Cert.Kernel4Ideal.Gen

theorem preserves4 : Cert.preserves_Kernel4_Kernel4Ideal := trivial

set_option maxHeartbeats 1600000 in
/-- The kernel and the reference leave the same two arrays, whatever the arguments hold. -/
theorem algebraic4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    all_goals haveI i0 := Ex.val2 (a := 4096) (b := 1024) (m ((c.tc : Thread Cert.Kernel4Ideal.nD Cert.Kernel4Ideal.τ).loc Cert.Kernel4Ideal.main_arg0))
    all_goals haveI i1 := Ex.val2 (a := 4096) (b := 2048) (m ((c.tc : Thread Cert.Kernel4Ideal.nD Cert.Kernel4Ideal.τ).loc Cert.Kernel4Ideal.main_arg1))
    · exact Ex.same3 (Cert.Reference4Ideal.Gen.ref5 _ _) (fin2 m c) fun _ _ _ _ _ _ => Finset.sum_congr rfl fun _ _ => by rw [mul_comm, mul_comm 256]
    · exact Ex.same3 (Cert.Reference4Ideal.Gen.ref8 _ _) (fin3 m c) fun _ _ _ _ _ _ => Finset.sum_congr rfl fun _ _ => by rw [mul_comm, mul_comm 256]

end Cert.Proof.Claims
-- ==== Proof.Ff2.lean ====
module

public import proofs.«01_k».proof.Defs
public import proofs.«01_k».proof.Proof.Ext
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

/-! The second feed-forward product of the forward pass. -/

namespace Cert.Kernel5Ideal.Gen

open Idealize.ShloMosaic Calc Idealize.SL.Sem Idealize.ShloMosaic.TcCoe

variable {φ ψ : FTy} {f g : ℕ → ℕ → ℕ → ℕ → EReal}

instance dotK (x : FVec Ideal S1024x4096 φ) (y : FVec Ideal S4096x1024 ψ) [hx : Ex x f] [hy : Ex y g] :
    Ex (matmul dot_S1024x4096_S4096x1024_S1024x1024_1_0_0_1_n_n none x y (constant S1024x1024 .f32 0x00000000#32))
      (fun i j _ _ => ∑ k ∈ Finset.range 4096, f i k 0 0 * g k j 0 0) :=
  Ex.of2 fun i j => by
    pointwise
    exact sum_range _ _ (fun k => f i.val k 0 0 * g k j.val 0 0) fun k => by rw [hx.two, hy.two]

variable (m : (ℓ : Loc nD τ sig) → Buf (Elt Ideal) ℓ) (c : Dev nD)

/-- The activations' values. -/
abbrev r (i j : ℕ) : EReal := val2 (a := 4096) (b := 4096) (m ((c : Thread nD τ).loc main_arg0)) i j
/-- The weight's values. -/
abbrev w (i j : ℕ) : EReal := val2 (a := 4096) (b := 1024) (m ((c : Thread nD τ).loc main_arg1)) i j
/-- The residual's values. -/
abbrev x1 (i j : ℕ) : EReal := val2 (a := 4096) (b := 1024) (m ((c : Thread nD τ).loc main_arg2)) i j
/-- The result. -/
abbrev res (i j : ℕ) : EReal := x1 m c i j + ∑ k ∈ Finset.range 4096, r m c i k * r m c i k * w m c k j

instance entry0 : Ex (S := S4096x4096) (φ := .bf16) (V m c main_v0) (fun i j _ _ => r m c i j) := by
  have e : V m c main_v0 = truncf (F := Ideal) .bf16 (m ((c : Thread nD τ).loc main_arg0) : FVec Ideal S4096x4096 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 4096) (m ((c : Thread nD τ).loc main_arg0))
  exact Ex.truncf _ _

instance entry1 : Ex (S := S4096x1024) (φ := .bf16) (V m c main_v1) (fun i j _ _ => w m c i j) := by
  have e : V m c main_v1 = truncf (F := Ideal) .bf16 (m ((c : Thread nD τ).loc main_arg1) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg1))
  exact Ex.truncf _ _

instance entry2 : Ex (S := S4096x1024) (φ := .f32) (V m c main_arg2) (fun i j _ _ => x1 m c i j) := by
  have e : V m c main_arg2 = (m ((c : Thread nD τ).loc main_arg2) : FVec Ideal S4096x1024 .f32) := by
    simp only [V, hostOps0, List.flatten_cons, List.flatten_nil,
      List.append_nil, List.cons_append, List.nil_append, StableHlo.after_cons, StableHlo.after_nil]
    after_results_simp
  rw [e]
  exact Ex.val2 (a := 4096) (b := 1024) (m ((c : Thread nD τ).loc main_arg2))

theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

instance block0 (t : Fin cfg0.N) : Ex (S := S1024x4096) (φ := .bf16) (iblk m c 0 t) (fun i j _ _ => r m c (1024 * t.val + i) j) := by
  refine ⟨fun i => ?_⟩
  blk_simp [iblk, idx t]
  refine (Ex.val (S := S4096x4096) (φ := .bf16) (V m c main_v0) _).trans ?_
  simp [co, idx t, mul_comm]

instance block1 (t : Fin cfg0.N) : Ex (S := S4096x1024) (φ := .bf16) (iblk m c 1 t) (fun i j _ _ => w m c i j) := by
  refine ⟨fun i => ?_⟩
  blk_simp [iblk, idx t]
  refine (Ex.val (S := S4096x1024) (φ := .bf16) (V m c main_v1) _).trans ?_
  simp [co, idx t, mul_comm]

instance block2 (t : Fin cfg0.N) : Ex (S := S1024x1024) (φ := .f32) (iblk m c 2 t) (fun i j _ _ => x1 m c (1024 * t.val + i) j) := by
  refine ⟨fun i => ?_⟩
  blk_simp [iblk, idx t]
  refine (Ex.val (S := S4096x1024) (φ := .f32) (V m c main_arg2) _).trans ?_
  simp [co, idx t, mul_comm]

theorem out3 (t : Fin cfg0.N) : Ex (S := S1024x1024) (φ := .f32) (out0_3 (iblk m c 0 t) (iblk m c 1 t) (iblk m c 2 t))
    (fun i j _ _ => res m c (1024 * t.val + i) j) := by
  refine ⟨fun y => ?_⟩
  unfold out0_3
  frame_out
  simp only [k0_pay1]
  refine (Ex.val (S := S1024x1024) (φ := .f32) _ y).trans ?_
  rfl

instance fin3 : Ex (S := S4096x1024) (φ := .f32) ((dats m 0 c).arrAt 3 cfg0.N) (fun i j _ _ => res m c i j) := by
  refine ⟨fun i => congrFun ((dats m 0 c).arrAt_eq_of_covers 3
    (fun i : S4096x1024.Idx => res m c (i 0).val (i 1).val) (by decide +kernel) fun t hf y => ?_) i⟩
  blk_simp [idx t]
  rw [after0_3]
  refine ((out3 m c t).at_ y).trans ?_
  simp [co, idx t, mul_comm]

end Cert.Kernel5Ideal.Gen

namespace Cert.Reference5Ideal.Gen

open Idealize.ShloMosaic Calc

variable {φ ψ : FTy} {f g h : ℕ → ℕ → ℕ → ℕ → EReal}

instance dotH (x : FVec Ideal S4096x4096 .f32) (y : FVec Ideal S4096x1024 .f32) [hx : Ex x f] [hy : Ex y g] :
    Ex (Host.dotGeneral dot_S4096x4096_S4096x1024_S4096x1024_1_0_0_1_n_n none x y)
      (fun i j _ _ => ∑ k ∈ Finset.range 4096, f i k 0 0 * g k j 0 0) :=
  Ex.of2 fun i j => by
    pointwise
    exact sum_range _ _ (fun k => f i.val k 0 0 * g k j.val 0 0) fun k => by rw [hx.two, hy.two]

theorem ref2 (x0 : FVec Ideal S4096x4096 .f32) (x1 x2 : FVec Ideal S4096x1024 .f32) [hx : Ex x0 f] [hy : Ex x1 g] [hz : Ex x2 h] :
    Ex (S := S4096x1024) (φ := .f32) (Read.val_main_v2 (F := Ideal) x0 x1 x2)
      (fun i j _ _ => h i j 0 0 + ∑ k ∈ Finset.range 4096, f i k 0 0 * f i k 0 0 * g k j 0 0) := by
  unfold Read.val_main_v2 Read.val_main_v1 Read.val_main_v0
  refine ⟨fun y => (Ex.val _ y).trans ?_⟩
  simp [co]

end Cert.Reference5Ideal.Gen

namespace Cert.Proof.Claims

open Idealize.ShloMosaic Idealize.ShloMosaic.StableHlo Calc Cert.Kernel5Ideal.Gen

theorem preserves5 : Cert.preserves_Kernel5_Kernel5Ideal := trivial

set_option maxHeartbeats 1600000 in
/-- The kernel and the reference leave the same array, whatever the arguments hold. -/
theorem algebraic5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    all_goals haveI i0 := Ex.val2 (a := 4096) (b := 4096) (m ((c.tc : Thread Cert.Kernel5Ideal.nD Cert.Kernel5Ideal.τ).loc Cert.Kernel5Ideal.main_arg0))
    all_goals haveI i1 := Ex.val2 (a := 4096) (b := 1024) (m ((c.tc : Thread Cert.Kernel5Ideal.nD Cert.Kernel5Ideal.τ).loc Cert.Kernel5Ideal.main_arg1))
    all_goals haveI i2 := Ex.val2 (a := 4096) (b := 1024) (m ((c.tc : Thread Cert.Kernel5Ideal.nD Cert.Kernel5Ideal.τ).loc Cert.Kernel5Ideal.main_arg2))
    exact Ex.same2 (Cert.Reference5Ideal.Gen.ref2 _ _ _) (fin3 m c) fun _ _ _ _ => rfl

end Cert.Proof.Claims
-- ==== Proof.Ff1.lean ====
module

public import proofs.«01_k».proof.Defs
public import proofs.«01_k».proof.Proof.Ext
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

/-! The first feed-forward product of the forward pass. -/

namespace Cert.Kernel6Ideal.Gen

open Idealize.ShloMosaic Calc Idealize.SL.Sem Idealize.ShloMosaic.TcCoe

variable {φ ψ : FTy} {f g : ℕ → ℕ → ℕ → ℕ → EReal}

instance dotK (x : FVec Ideal S1024x1024 φ) (y : FVec Ideal S1024x512 ψ) [hx : Ex x f] [hy : Ex y g] :
    Ex (matmul dot_S1024x1024_S1024x512_S1024x512_1_0_0_1_n_n none x y (constant S1024x512 .f32 0x00000000#32))
      (fun i j _ _ => ∑ k ∈ Finset.range 1024, f i k 0 0 * g k j 0 0) :=
  Ex.of2 fun i j => by
    pointwise
    exact sum_range _ _ (fun k => f i.val k 0 0 * g k j.val 0 0) fun k => by rw [hx.two, hy.two]

/-- The positive part of the product with a weight in blocks of columns. -/
def relu (f g : ℕ → ℕ → ℕ → ℕ → EReal) (i j _ _ : ℕ) : EReal :=
  max (∑ k ∈ Finset.range 1024, f i k 0 0 * g (j / 512) k (j % 512) 0) 0

theorem out2 (x : Vec Ideal S1024x1024 .bf16) (y : Vec Ideal S8x1024x512 .bf16) [hx : Ex (φ := .bf16) x f] [hy : Ex (φ := .bf16) y g] :
    Ex (S := S1024x4096) (φ := .bf16) (out0_2 (F := Ideal) x y) (relu f g) := by
  refine ⟨fun i => ?_⟩
  unfold_out out0_2
  frame_out
  refine (Ex.allb (f := relu f g) _ ?_ (View.cover_of_tiledBy _ ![1024, 512] (by sl_kernel_rfl))).at_ i
  simp only [k0_pay1, k0_pay2, k0_pay3, k0_pay4, k0_pay5, k0_pay6, k0_pay7, k0_pay8, k0_pay9, k0_pay10, k0_pay11]
  refine Ex.cons2b _ ?_ _ (Ex.cons2b _ ?_ _ (Ex.cons2b _ ?_ _ (Ex.cons2b _ ?_ _
    (Ex.cons2b _ ?_ _ (Ex.cons2b _ ?_ _ (Ex.cons2b _ ?_ _ (Ex.cons2b _ ?_ [] trivial)))))))
  all_goals
    intro i j hi hj
    refine congrArg₂ max (Finset.sum_congr rfl fun k _ => congrArg₂ (· * ·) (congrArg₂ (fun a b => f a b 0 0) ?_ ?_)
      (congrFun (congr (congr (congrArg g ?_) ?_) ?_) 0)) rfl
  all_goals omega

variable (m : (ℓ : Loc nD τ sig) → Buf (Elt Ideal) ℓ) (c : Dev nD)

/-- The activations' values. -/
abbrev a (i j : ℕ) : EReal := val2 (a := 4096) (b := 1024) (m ((c : Thread nD τ).loc main_arg0)) i j
/-- The weight's values. -/
abbrev w (i j : ℕ) : EReal := val2 (a := 1024) (b := 4096) (m ((c : Thread nD τ).loc main_arg1)) i j
/-- The result. -/
abbrev res (i j : ℕ) : EReal := max (∑ k ∈ Finset.range 1024, a m c i k * w m c k j) 0

instance entry3 : Ex (S := S4096x1024) (φ := .bf16) (V m c main_v3) (fun i j _ _ => a m c i j) := by
  have e : V m c main_v3 = truncf (F := Ideal) .bf16 (m ((c : Thread nD τ).loc main_arg0) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg0))
  exact Ex.truncf _ _

instance entry2 : Ex (S := S8x1024x512) (φ := .bf16) (V m c main_v2) (fun b i j _ => w m c i (b * 512 + j)) := by
  have e : V m c main_v2 = truncf (F := Ideal) .bf16 (transpose S8x1024x512 [1, 0, 2]
      (shapeCast S1024x8x512 (m ((c : Thread nD τ).loc main_arg1) : FVec Ideal S1024x4096 .f32) shapeCasts_S1024x4096_S1024x8x512)
      transposes_S1024x8x512_S8x1024x512_1_0_2) bitsLt_bf16_f32 := by
    simp only [V, hostOps0, List.flatten_cons, List.flatten_nil,
      List.append_nil, List.cons_append, List.nil_append, StableHlo.after_cons, StableHlo.after_nil]
    after_results_simp
    rfl
  rw [e]
  haveI := Ex.val2 (a := 1024) (b := 4096) (m ((c : Thread nD τ).loc main_arg1))
  exact inferInstance

theorem idx : ∀ t : Fin cfg0.N, win0_0.index t = ![t.val, 0] ∧ win0_1.index t = ![0, 0, 0] ∧ win0_2.index t = ![t.val, 0] :=
  (by decide +kernel : ∀ t : Fin grid0.N, _)

instance block0 (t : Fin cfg0.N) : Ex (S := S1024x1024) (φ := .bf16) (iblk m c 0 t) (fun i j _ _ => a m c (1024 * t.val + i) j) := by
  refine ⟨fun i => ?_⟩
  blk_simp [iblk, idx t]
  refine (Ex.val (S := S4096x1024) (φ := .bf16) (V m c main_v3) _).trans ?_
  simp [co, idx t, mul_comm]

instance block1 (t : Fin cfg0.N) : Ex (S := S8x1024x512) (φ := .bf16) (iblk m c 1 t) (fun b i j _ => w m c i (b * 512 + j)) := by
  refine ⟨fun i => ?_⟩
  blk_simp [iblk, idx t]
  refine (Ex.val (S := S8x1024x512) (φ := .bf16) (V m c main_v2) _).trans ?_
  simp [co, idx t]

theorem step (t : Fin cfg0.N) : Ex (S := S1024x4096) (φ := .bf16) (out0_2 (iblk m c 0 t) (iblk m c 1 t))
    (fun i j _ _ => res m c (1024 * t.val + i) j) := by
  refine ⟨fun y => ((out2 _ _ (hx := block0 m c t) (hy := block1 m c t)).at_ y).trans ?_⟩
  refine congrArg₂ max (Finset.sum_congr rfl fun k _ => congrArg (fun j => a m c (1024 * t.val + co y 0) k * w m c k j) ?_) rfl
  omega

theorem fin2 : Ex (S := S4096x4096) (φ := .bf16) ((dats m 0 c).arrAt 2 cfg0.N) (fun i j _ _ => res m c i j) := by
  refine ⟨fun i => congrFun ((dats m 0 c).arrAt_eq_of_covers 2
    (fun i : S4096x4096.Idx => res m c (i 0).val (i 1).val) (by decide +kernel) fun t hf y => ?_) i⟩
  blk_simp [idx t]
  rw [after0_2]
  rw [mul_comm]
  exact (step m c t).at_ y

end Cert.Kernel6Ideal.Gen

namespace Cert.Reference6Ideal.Gen

open Idealize.ShloMosaic Calc

variable {φ ψ : FTy} {f g h : ℕ → ℕ → ℕ → ℕ → EReal}

instance dotH (x : FVec Ideal S4096x1024 .f32) (y : FVec Ideal S1024x4096 .f32) [hx : Ex x f] [hy : Ex y g] :
    Ex (Host.dotGeneral dot_S4096x1024_S1024x4096_S4096x4096_1_0_0_1_n_n none x y)
      (fun i j _ _ => ∑ k ∈ Finset.range 1024, f i k 0 0 * g k j 0 0) :=
  Ex.of2 fun i j => by
    pointwise
    exact sum_range _ _ (fun k => f i.val k 0 0 * g k j.val 0 0) fun k => by rw [hx.two, hy.two]

theorem ref2 (x0 : FVec Ideal S4096x1024 .f32) (x1 : FVec Ideal S1024x4096 .f32) [hx : Ex x0 f] [hy : Ex x1 g] :
    Ex (S := S4096x4096) (φ := .bf16) (Read.val_main_v2 (F := Ideal) x0 x1)
      (fun i j _ _ => max (∑ k ∈ Finset.range 1024, f i k 0 0 * g k j 0 0) ((0 : ℝ) : EReal)) := by
  unfold Read.val_main_v2 Read.val_main_v1 Read.val_main_call0_v0 Read.val_main_call0_cst Read.val_main_v0
  exact inferInstance

end Cert.Reference6Ideal.Gen

namespace Cert.Proof.Claims

open Idealize.ShloMosaic Idealize.ShloMosaic.StableHlo Calc Cert.Kernel6Ideal.Gen

theorem preserves6 : Cert.preserves_Kernel6_Kernel6Ideal := trivial

set_option maxHeartbeats 1600000 in
/-- The kernel and the reference leave the same array, whatever the arguments hold. -/
theorem algebraic6 : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    haveI i0 := Ex.val2 (a := 4096) (b := 1024) (m ((c.tc : Thread Cert.Kernel6Ideal.nD Cert.Kernel6Ideal.τ).loc Cert.Kernel6Ideal.main_arg0))
    haveI i1 := Ex.val2 (a := 1024) (b := 4096) (m ((c.tc : Thread Cert.Kernel6Ideal.nD Cert.Kernel6Ideal.τ).loc Cert.Kernel6Ideal.main_arg1))
    exact Ex.same2 (Cert.Reference6Ideal.Gen.ref2 _ _) (fin2 m c) fun _ _ _ _ => rfl

end Cert.Proof.Claims
-- ==== Proof.FwdIn.lean ====
module

public import proofs.«01_k».proof.Defs
public import proofs.«01_k».proof.Proof.Ext
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

/-! The norm and the input projection of the forward pass. -/

namespace Cert.Kernel7Ideal.Gen

open Idealize.ShloMosaic Calc Idealize.SL.Sem Idealize.ShloMosaic.TcCoe

variable {φ ψ : FTy} {f g h : ℕ → ℕ → ℕ → ℕ → EReal}

/-- A row divided by its root mean square, with a gain. -/
def nrm (f g : ℕ → ℕ → ℕ → ℕ → EReal) (i j _ _ : ℕ) : EReal :=
  f i j 0 0 * Ideal.rsqrt (Ideal.div (∑ k ∈ Finset.range 1024, f i k 0 0 * f i k 0 0) ((1024 : ℝ) : EReal) + ((eps : ℝ) : EReal)) * g 0 j 0 0

instance dotK (x : FVec Ideal S1024x1024 φ) (y : FVec Ideal S1024x256 ψ) [hx : Ex x f] [hy : Ex y g] :
    Ex (matmul dot_S1024x1024_S1024x256_S1024x256_1_0_0_1_n_n none x y (constant S1024x256 .f32 0x00000000#32))
      (fun i j _ _ => ∑ k ∈ Finset.range 1024, f i k 0 0 * g k j 0 0) :=
  Ex.of2 fun i j => by
    pointwise
    exact sum_range _ _ (fun k => f i.val k 0 0 * g k j.val 0 0) fun k => by rw [hx.two, hy.two]

instance pay6 (x : FVec Ideal S1024x1024 .f32) (y : FVec Ideal S1x1024 .f32) [hx : Ex x f] [hy : Ex y g] :
    Ex (S := S1024x1024) (φ := .bf16) (k0_pay6 (F := Ideal) x y) (nrm f g) := by
  simp only [k0_pay6]
  haveI := Ex.sum1 (a := 1024) (b := 1024) (mulf x x) 0x00000000#32 reduces_S1024x1024_S1024 (.inl rfl) rfl
  refine Ex.to2 ?_
  exact fun _ _ => rfl

theorem out3 (x : Vec Ideal S1024x1024 .f32) (y : Vec Ideal S1x1024 .f32) (z : Vec Ideal S8x1024x256 .bf16)
    [hx : Ex (φ := .f32) x f] [hy : Ex (φ := .f32) y g] :
    Ex (S := S1024x1024) (φ := .bf16) (out0_3 (F := Ideal) x y z) (nrm f g) := by
  refine ⟨fun i => ?_⟩
  unfold out0_3
  refine (Ex.allb (f := nrm f g) _ ?_ (View.cover_of_tiledBy _ ![1024, 1024] (by sl_kernel_rfl))).at_ i
  refine Ex.cons2b _ ?_ [] trivial
  intro i j hi hj
  simp [nrm]

/-- The product with a weight in blocks of columns. -/
def blockDot (f g : ℕ → ℕ → ℕ → ℕ → EReal) (i j _ _ : ℕ) : EReal :=
  ∑ k ∈ Finset.range 1024, f i k 0 0 * g (j / 256) k (j % 256) 0

theorem out4 (x : Vec Ideal S1024x1024 .f32) (y : Vec Ideal S1x1024 .f32) (z : Vec Ideal S8x1024x256 .bf16)
    [hx : Ex (φ := .f32) x f] [hy : Ex (φ := .f32) y g] [hz : Ex (φ := .bf16) z h] :
    Ex (S := S1024x2048) (φ := .f32) (out0_4 (F := Ideal) x y z) (blockDot (nrm f g) h) := by
  refine ⟨fun i => ?_⟩
  unfold_out out0_4
  frame_out
  refine (Ex.all (f := blockDot (nrm f g) h) _ ?_ (View.cover_of_tiledBy _ ![1024, 256] (by sl_kernel_rfl))).at_ i
  simp only [k0_pay1, k0_pay2, k0_pay3, k0_pay4, k0_pay5, k0_pay7, k0_pay8, k0_pay9]
  refine Ex.cons2 _ ?_ _ (Ex.cons2 _ ?_ _ (Ex.cons2 _ ?_ _ (Ex.cons2 _ ?_ _
    (Ex.cons2 _ ?_ _ (Ex.cons2 _ ?_ _ (Ex.cons2 _ ?_ _ (Ex.cons2 _ ?_ [] trivial)))))))
  all_goals
    intro i j hi hj
    refine Finset.sum_congr rfl fun k _ => congrArg₂ (· * ·) ?_
      (congrFun (congr (congr (congrArg h ?_) ?_) ?_) 0)
  all_goals first | omega | simp [nrm]

variable (m : (ℓ : Loc nD τ sig) → Buf (Elt Ideal) ℓ) (c : Dev nD)

/-- The input's values. -/
abbrev x (i j : ℕ) : EReal := val2 (a := 4096) (b := 1024) (m ((c : Thread nD τ).loc main_arg0)) i j
/-- The gain's values. -/
abbrev gain (j : ℕ) : EReal := val1 (a := 1024) (m ((c : Thread nD τ).loc main_arg1)) j
/-- The weight's values. -/
abbrev w (i j : ℕ) : EReal := val2 (a := 1024) (b := 2048) (m ((c : Thread nD τ).loc main_arg2)) i j
/-- The normed input. -/
abbrev hid (i j : ℕ) : EReal := nrm (fun i j _ _ => x m c i j) (fun _ j _ _ => gain m c j) i j 0 0
/-- The projection. -/
abbrev proj (i j : ℕ) : EReal := ∑ k ∈ Finset.range 1024, hid m c i k * w m c k j

instance entry3 : Ex (S := S1x1024) (φ := .f32) (V m c main_v3) (fun _ j _ _ => gain m c j) := by
  have e : V m c main_v3 = shapeCast S1x1024 (m ((c : Thread nD τ).loc main_arg1) : FVec Ideal S1024 .f32) shapeCasts_S1024_S1x1024 := by
    simp only [V, hostOps0, List.flatten_cons, List.flatten_nil,
      List.append_nil, List.cons_append, List.nil_append, StableHlo.after_cons, StableHlo.after_nil]
    after_results_simp
    rfl
  rw [e]
  haveI := Ex.val1 (a := 1024) (m ((c : Thread nD τ).loc main_arg1))
  exact Ex.castRow (a := 1024) (φ := .f32) (m ((c : Thread nD τ).loc main_arg1)) _

instance entry2 : Ex (S := S8x1024x256) (φ := .bf16) (V m c main_v2) (fun b i j _ => w m c i (b * 256 + j)) := by
  have e : V m c main_v2 = truncf (F := Ideal) .bf16 (transpose S8x1024x256 [1, 0, 2]
      (shapeCast S1024x8x256 (m ((c : Thread nD τ).loc main_arg2) : FVec Ideal S1024x2048 .f32) shapeCasts_S1024x2048_S1024x8x256)
      transposes_S1024x8x256_S8x1024x256_1_0_2) bitsLt_bf16_f32 := by
    simp only [V, hostOps0, List.flatten_cons, List.flatten_nil,
      List.append_nil, List.cons_append, List.nil_append, StableHlo.after_cons, StableHlo.after_nil]
    after_results_simp
    rfl
  rw [e]
  haveI := Ex.val2 (a := 1024) (b := 2048) (m ((c : Thread nD τ).loc main_arg2))
  exact inferInstance

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

instance block0 (t : Fin cfg0.N) : Ex (S := S1024x1024) (φ := .f32) (iblk m c 0 t) (fun i j _ _ => x m c (1024 * t.val + i) j) := by
  have e : V m c main_arg0 = m ((c : Thread nD τ).loc main_arg0) := by
    simp only [V, hostOps0, List.flatten_cons, List.flatten_nil,
      List.append_nil, List.cons_append, List.nil_append, StableHlo.after_cons, StableHlo.after_nil]
    after_results_simp
  haveI := Ex.val2 (a := 4096) (b := 1024) (m ((c : Thread nD τ).loc main_arg0))
  refine ⟨fun i => ?_⟩
  blk_simp [iblk, idx t]
  rw [e]
  refine (Ex.val (S := S4096x1024) (φ := .f32) (m ((c : Thread nD τ).loc main_arg0)) _).trans ?_
  simp [co, idx t, mul_comm]

instance block1 (t : Fin cfg0.N) : Ex (S := S1x1024) (φ := .f32) (iblk m c 1 t) (fun _ j _ _ => gain m c j) := by
  refine ⟨fun i => ?_⟩
  blk_simp [iblk, idx t]
  refine (Ex.val (S := S1x1024) (φ := .f32) (V m c main_v3) _).trans ?_
  simp [co, idx t]

instance block2 (t : Fin cfg0.N) : Ex (S := S8x1024x256) (φ := .bf16) (iblk m c 2 t) (fun b i j _ => w m c i (b * 256 + j)) := by
  refine ⟨fun i => ?_⟩
  blk_simp [iblk, idx t]
  refine (Ex.val (S := S8x1024x256) (φ := .bf16) (V m c main_v2) _).trans ?_
  simp [co, idx t]

theorem step3 (t : Fin cfg0.N) : Ex (S := S1024x1024) (φ := .bf16) (out0_3 (iblk m c 0 t) (iblk m c 1 t) (iblk m c 2 t))
    (fun i j _ _ => hid m c (1024 * t.val + i) j) :=
  ⟨fun y => ((out3 _ _ _ (hx := block0 m c t) (hy := block1 m c t)).at_ y).trans rfl⟩

theorem step4 (t : Fin cfg0.N) : Ex (S := S1024x2048) (φ := .f32) (out0_4 (iblk m c 0 t) (iblk m c 1 t) (iblk m c 2 t))
    (fun i j _ _ => proj m c (1024 * t.val + i) j) := by
  refine ⟨fun y => ((out4 _ _ _ (hx := block0 m c t) (hy := block1 m c t) (hz := block2 m c t)).at_ y).trans ?_⟩
  refine Finset.sum_congr rfl fun k _ => congrArg (fun j => hid m c (1024 * t.val + co y 0) k * w m c k j) ?_
  omega

theorem fin3 : Ex (S := S4096x1024) (φ := .bf16) ((dats m 0 c).arrAt 3 cfg0.N) (fun i j _ _ => hid m c i j) := by
  refine ⟨fun i => congrFun ((dats m 0 c).arrAt_eq_of_covers 3
    (fun i : S4096x1024.Idx => hid m c (i 0).val (i 1).val) (by decide +kernel) fun t hf y => ?_) i⟩
  blk_simp [idx t]
  rw [after0_3]
  rw [mul_comm]
  exact (step3 m c t).at_ y

theorem fin4 : Ex (S := S4096x2048) (φ := .f32) ((dats m 0 c).arrAt 4 cfg0.N) (fun i j _ _ => proj m c i j) := by
  refine ⟨fun i => congrFun ((dats m 0 c).arrAt_eq_of_covers 4
    (fun i : S4096x2048.Idx => proj m c (i 0).val (i 1).val) (by decide +kernel) fun t hf y => ?_) i⟩
  blk_simp [idx t]
  rw [after0_4]
  rw [mul_comm]
  exact (step4 m c t).at_ y

end Cert.Kernel7Ideal.Gen

namespace Cert.Reference7Ideal.Gen

open Idealize.ShloMosaic Calc
open Cert.Kernel7Ideal.Gen (nrm)

variable {φ ψ : FTy} {f g h : ℕ → ℕ → ℕ → ℕ → EReal}

instance dotH (x : FVec Ideal S4096x1024 .f32) (y : FVec Ideal S1024x2048 .f32) [hx : Ex x f] [hy : Ex y g] :
    Ex (Host.dotGeneral dot_S4096x1024_S1024x2048_S4096x2048_1_0_0_1_n_n none x y)
      (fun i j _ _ => ∑ k ∈ Finset.range 1024, f i k 0 0 * g k j 0 0) :=
  Ex.of2 fun i j => by
    pointwise
    exact sum_range _ _ (fun k => f i.val k 0 0 * g k j.val 0 0) fun k => by rw [hx.two, hy.two]

instance ref12 (x0 : FVec Ideal S4096x1024 .f32) (x1 : FVec Ideal S1024 .f32) [hx : Ex x0 f] [hy : Ex x1 g] :
    Ex (S := S4096x1024) (φ := .f32) (Read.val_main_v12 (F := Ideal) x0 x1) (nrm f (fun _ j _ _ => g j 0 0 0)) := by
  have e : Ex (S := S4096x1024) (φ := .f32) (Read.val_main_v12 (F := Ideal) x0 x1) (fun i j _ _ => f i j 0 0 * Ideal.rsqrt
      (Ideal.div (((0 : ℝ) : EReal) + ∑ k ∈ Finset.range 1024, f i k 0 0 * f i k 0 0) ((1024 : ℝ) : EReal) + ((eps : ℝ) : EReal)) * g j 0 0 0) := by
    unfold Read.val_main_v12 Read.val_main_v11 Read.val_main_v10 Read.val_main_v9 Read.val_main_v8 Read.val_main_v7 Read.val_main_v6
      Read.val_main_v5 Read.val_main_cst_1 Read.val_main_v4 Read.val_main_v3 Read.val_main_cst_0 Read.val_main_v2 Read.val_main_v1
      Read.val_main_cst Read.val_main_v0
    refine Ex.to2 ?_
    exact fun _ _ => rfl
  simp only [EReal.coe_zero, zero_add] at e
  exact e

theorem ref13 (x0 : FVec Ideal S4096x1024 .f32) (x1 : FVec Ideal S1024 .f32) [hx : Ex x0 f] [hy : Ex x1 g] :
    Ex (S := S4096x1024) (φ := .bf16) (Read.val_main_v13 (F := Ideal) x0 x1) (nrm f (fun _ j _ _ => g j 0 0 0)) := by
  unfold Read.val_main_v13
  exact inferInstance

theorem ref14 (x0 : FVec Ideal S4096x1024 .f32) (x1 : FVec Ideal S1024 .f32) (x2 : FVec Ideal S1024x2048 .f32)
    [hx : Ex x0 f] [hy : Ex x1 g] [hz : Ex x2 h] :
    Ex (S := S4096x2048) (φ := .f32) (Read.val_main_v14 (F := Ideal) x0 x1 x2)
      (fun i j _ _ => ∑ k ∈ Finset.range 1024, nrm f (fun _ j _ _ => g j 0 0 0) i k 0 0 * h k j 0 0) := by
  unfold Read.val_main_v14
  exact inferInstance

end Cert.Reference7Ideal.Gen

namespace Cert.Proof.Claims

open Idealize.ShloMosaic Idealize.ShloMosaic.StableHlo Calc Cert.Kernel7Ideal.Gen

theorem preserves7 : Cert.preserves_Kernel7_Kernel7Ideal := trivial

set_option maxHeartbeats 1600000 in
/-- The kernel and the reference leave the same arrays, whatever the arguments hold. -/
theorem algebraic7 : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    all_goals
      haveI i0 := Ex.val2 (a := 4096) (b := 1024) (m ((c.tc : Thread Cert.Kernel7Ideal.nD Cert.Kernel7Ideal.τ).loc Cert.Kernel7Ideal.main_arg0))
      haveI i1 := Ex.val1 (a := 1024) (m ((c.tc : Thread Cert.Kernel7Ideal.nD Cert.Kernel7Ideal.τ).loc Cert.Kernel7Ideal.main_arg1))
      haveI i2 := Ex.val2 (a := 1024) (b := 2048) (m ((c.tc : Thread Cert.Kernel7Ideal.nD Cert.Kernel7Ideal.τ).loc Cert.Kernel7Ideal.main_arg2))
    · exact Ex.same2 (Cert.Reference7Ideal.Gen.ref13 _ _) (fin3 m c) fun _ _ _ _ => rfl
    · exact Ex.same2 (Cert.Reference7Ideal.Gen.ref14 _ _ _) (fin4 m c) fun _ _ _ _ => rfl

end Cert.Proof.Claims
-- ==== Proof.RmsAlg.lean ====
module

public import proofs.«01_k».proof.Proof.Ext

@[expose] public section

noncomputable section

/-! The gradient of a division by the root mean square, over any values. -/

namespace Calc

open Idealize.ShloMosaic

theorem sq_nonneg_any (x : EReal) : 0 ≤ x * x := by
  induction x with
  | bot => simp
  | top => simp
  | coe r => rw [← EReal.coe_mul]; exact_mod_cast mul_self_nonneg r

theorem sum_sq_nonneg (x : ℕ → EReal) (n : ℕ) : 0 ≤ ∑ k ∈ Finset.range n, x k * x k :=
  Finset.sum_nonneg fun k _ => sq_nonneg_any (x k)

theorem div_real (x : EReal) {r : ℝ} (h : r ≠ 0) : Ideal.div x (r : EReal) = x * ((r⁻¹ : ℝ) : EReal) := by
  unfold Ideal.div
  rw [if_neg (by exact_mod_cast h), EReal.coe_inv]

/-- One over the root is a number that is not negative, zero where the mean square is infinite; over its square it is its cube. -/
theorem rsqrt_real {s : EReal} (h : 0 ≤ s) : ∃ ρ : ℝ, 0 ≤ ρ ∧
    Ideal.rsqrt (Ideal.div s ((1024 : ℝ) : EReal) + ((eps : ℝ) : EReal)) = (ρ : EReal) ∧
    Ideal.div (ρ : EReal) (Ideal.div s ((1024 : ℝ) : EReal) + ((eps : ℝ) : EReal)) = ((ρ * ρ * ρ : ℝ) : EReal) := by
  rw [div_real s (by norm_num)]
  induction s with
  | bot => simp at h
  | top =>
    refine ⟨0, le_refl _, ?_, ?_⟩
    all_goals rw [EReal.top_mul_coe_of_pos (by norm_num), EReal.top_add_coe]
    · rfl
    · simp [Ideal.div]
  | coe r =>
    have hr : 0 ≤ r := by exact_mod_cast h
    have ht : 0 < r * 1024⁻¹ + eps := by have := eps_pos; positivity
    rw [← EReal.coe_mul, ← EReal.coe_add]
    generalize r * 1024⁻¹ + eps = t at ht
    refine ⟨(Real.sqrt t)⁻¹, by positivity, ?_, ?_⟩
    · change (if t < 0 then ⊥ else if t = 0 then ⊤ else (((Real.sqrt t)⁻¹ : ℝ) : EReal)) = _
      rw [if_neg (not_lt.mpr ht.le), if_neg ht.ne']
    · rw [div_real _ ht.ne', ← EReal.coe_mul]
      congr 1
      have h2 : Real.sqrt t * Real.sqrt t = t := Real.mul_self_sqrt ht.le
      rw [mul_assoc, ← mul_inv (Real.sqrt t) (Real.sqrt t), h2]

theorem mul_sum_real {ρ : ℝ} (h : 0 ≤ ρ) (u : ℕ → EReal) (n : ℕ) :
    ∑ k ∈ Finset.range n, (ρ : EReal) * u k = (ρ : EReal) * ∑ k ∈ Finset.range n, u k := by
  induction n with
  | zero => simp
  | succ n ih =>
    rw [Finset.sum_range_succ, Finset.sum_range_succ, ih,
      EReal.left_distrib_of_nonneg_of_ne_top (by exact_mod_cast h) (EReal.coe_ne_top _)]

theorem twice (z : EReal) : z + z = ((2 : ℝ) : EReal) * z := by
  have : ((2 : ℝ) : EReal) = 1 + 1 := by rw [← EReal.coe_one, ← EReal.coe_add]; norm_num
  rw [this, EReal.right_distrib_of_nonneg zero_le_one zero_le_one, one_mul]

/-- The two ways of computing the gradient agree. -/
theorem rms_grad {ρ : ℝ} (h : 0 ≤ ρ) (x d : ℕ → EReal) (j n : ℕ) :
    (ρ : EReal) * (d j - x j * (ρ : EReal) * Ideal.div (∑ k ∈ Finset.range n, d k * (x k * (ρ : EReal))) ((1024 : ℝ) : EReal)) =
      d j * (ρ : EReal) + x j * Ideal.div ((∑ k ∈ Finset.range n, x k * d k) * (((-(1 / 2) : ℝ) : EReal) * ((ρ * ρ * ρ : ℝ) : EReal)))
        ((1024 : ℝ) : EReal) + Ideal.div ((∑ k ∈ Finset.range n, x k * d k) * (((-(1 / 2) : ℝ) : EReal) * ((ρ * ρ * ρ : ℝ) : EReal)))
        ((1024 : ℝ) : EReal) * x j := by
  have e : ∑ k ∈ Finset.range n, d k * (x k * (ρ : EReal)) = (ρ : EReal) * ∑ k ∈ Finset.range n, x k * d k := by
    rw [← mul_sum_real h]
    exact Finset.sum_congr rfl fun k _ => by ac_rfl
  rw [e]
  generalize ∑ k ∈ Finset.range n, x k * d k = T
  rw [div_real _ (by norm_num), div_real _ (by norm_num), sub_eq_add_neg,
    EReal.left_distrib_of_nonneg_of_ne_top (by exact_mod_cast h) (EReal.coe_ne_top _), add_assoc, mul_comm (ρ : EReal) (d j),
    mul_comm _ (x j), twice]
  refine congrArg (d j * (ρ : EReal) + ·) ?_
  have l : (ρ : EReal) * -(x j * ρ * (ρ * T * ((1024⁻¹ : ℝ) : EReal))) = x j * T * ((-(ρ * ρ * ρ * 1024⁻¹) : ℝ) : EReal) := by
    rw [mul_neg, EReal.coe_neg, mul_neg]
    refine congrArg _ ?_
    simp only [EReal.coe_mul]
    ac_rfl
  have r : ((2 : ℝ) : EReal) * (x j * (T * (((-(1 / 2) : ℝ) : EReal) * ((ρ * ρ * ρ : ℝ) : EReal)) * ((1024⁻¹ : ℝ) : EReal)))
      = x j * T * ((2 * (-(1 / 2)) * (ρ * ρ * ρ) * 1024⁻¹ : ℝ) : EReal) := by
    simp only [EReal.coe_mul]
    ac_rfl
  rw [l, r]
  exact congrArg (fun a : ℝ => x j * T * (a : EReal)) (by ring)

end Calc
-- ==== Proof.BwdMlp.lean ====
module

public import proofs.«01_k».proof.Defs
public import proofs.«01_k».proof.Proof.Ext
public import proofs.«01_k».proof.Proof.RmsAlg
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

/-! The feed-forward part of the backward pass. -/

namespace Cert.Kernel8Ideal.Gen

open Idealize.ShloMosaic Calc Idealize.SL.Sem Idealize.ShloMosaic.TcCoe

section Tile

variable {φ ψ : FTy} {f g h d dr p w v : ℕ → ℕ → ℕ → ℕ → EReal}

instance dotF (x : FVec Ideal S512x1024 φ) (y : FVec Ideal S512x1024 ψ) [hx : Ex x f] [hy : Ex y g] :
    Ex (matmul dot_S512x1024_S512x1024_S512x512_1_1_0_0_n_n none x y (constant S512x512 .f32 0x00000000#32))
      (fun i j _ _ => ∑ k ∈ Finset.range 1024, f i k 0 0 * g j k 0 0) :=
  Ex.of2 fun i j => by
    pointwise
    exact sum_range _ _ (fun k => f i.val k 0 0 * g j.val k 0 0) fun k => by rw [hx.two, hy.two]

instance dotH (x : FVec Ideal S512x512 φ) (y : FVec Ideal S1024x512 ψ) [hx : Ex x f] [hy : Ex y g] :
    Ex (matmul dot_S512x512_S1024x512_S512x1024_1_1_0_0_n_n none x y (constant S512x1024 .f32 0x00000000#32))
      (fun i j _ _ => ∑ k ∈ Finset.range 512, f i k 0 0 * g j k 0 0) :=
  Ex.of2 fun i j => by
    pointwise
    exact sum_range _ _ (fun k => f i.val k 0 0 * g j.val k 0 0) fun k => by rw [hx.two, hy.two]

/-- The gradient before the activation: twice the activation times the gradient after it. -/
def dfT (d p w : ℕ → ℕ → ℕ → ℕ → EReal) (i q _ _ : ℕ) : EReal :=
  ((2 : ℝ) : EReal) * p i q 0 0 * ∑ k ∈ Finset.range 1024, d i k 0 0 * w q k 0 0

/-- The gradient of the normed input, from a weight in blocks of columns. -/
def dhT (d p w v : ℕ → ℕ → ℕ → ℕ → EReal) (i j _ _ : ℕ) : EReal :=
  ∑ q ∈ Finset.range 4096, dfT d p w i q 0 0 * v (q / 512) j (q % 512) 0

/-- One over the root mean square of a row. -/
def rsT (f : ℕ → ℕ → ℕ → ℕ → EReal) (i _ _ _ : ℕ) : EReal :=
  Ideal.rsqrt (Ideal.div (∑ k ∈ Finset.range 1024, f i k 0 0 * f i k 0 0) ((1024 : ℝ) : EReal) + ((eps : ℝ) : EReal))

/-- A row over its root mean square. -/
def nT (f : ℕ → ℕ → ℕ → ℕ → EReal) (i j _ _ : ℕ) : EReal := f i j 0 0 * rsT f i 0 0 0

/-- The gradient of the input, from the gradient `h` of the normed input, the input `f`, the gain `g` and the gradient `dr` that
skips. -/
def dxT (h f g dr : ℕ → ℕ → ℕ → ℕ → EReal) (i j _ _ : ℕ) : EReal :=
  dr i j 0 0 + rsT f i 0 0 0 * (h i j 0 0 * g 0 j 0 0 - nT f i j 0 0 *
    Ideal.div (∑ k ∈ Finset.range 1024, h i k 0 0 * g 0 k 0 0 * nT f i k 0 0) ((1024 : ℝ) : EReal))

theorem sum_part (u s : ℕ → EReal) (n : ℕ) (h : ∀ k, k < 512 → s k = u (n + k)) :
    (∑ k ∈ Finset.range n, u k) + ∑ k ∈ Finset.range 512, s k = ∑ k ∈ Finset.range (n + 512), u k := by
  rw [Finset.sum_range_add]
  exact congrArg _ (Finset.sum_congr rfl fun k hk => h k (Finset.mem_range.mp hk))

/-- A sum in eight parts. -/
theorem sum_eight {u s0 s1 s2 s3 s4 s5 s6 s7 : ℕ → EReal} (h0 : ∀ k, k < 512 → s0 k = u (0 + k)) (h1 : ∀ k, k < 512 → s1 k = u (512 + k))
    (h2 : ∀ k, k < 512 → s2 k = u (1024 + k)) (h3 : ∀ k, k < 512 → s3 k = u (1536 + k)) (h4 : ∀ k, k < 512 → s4 k = u (2048 + k))
    (h5 : ∀ k, k < 512 → s5 k = u (2560 + k)) (h6 : ∀ k, k < 512 → s6 k = u (3072 + k)) (h7 : ∀ k, k < 512 → s7 k = u (3584 + k)) :
    ((0 : ℝ) : EReal) + ∑ k ∈ Finset.range 512, s0 k + ∑ k ∈ Finset.range 512, s1 k + ∑ k ∈ Finset.range 512, s2 k
      + ∑ k ∈ Finset.range 512, s3 k + ∑ k ∈ Finset.range 512, s4 k + ∑ k ∈ Finset.range 512, s5 k + ∑ k ∈ Finset.range 512, s6 k
      + ∑ k ∈ Finset.range 512, s7 k = ∑ k ∈ Finset.range 4096, u k := by
  rw [show ((0 : ℝ) : EReal) = ∑ k ∈ Finset.range 0, u k from rfl]
  rw [sum_part u s0 0 h0, sum_part u s1 512 h1, sum_part u s2 1024 h2, sum_part u s3 1536 h3, sum_part u s4 2048 h4,
    sum_part u s5 2560 h5, sum_part u s6 3072 h6, sum_part u s7 3584 h7]

theorem block_at (v : ℕ → ℕ → ℕ → ℕ → EReal) {n b k j : ℕ} (hn : n / 512 = b) (hk : n % 512 = k) :
    v b j k 0 = v (n / 512) j (n % 512) 0 := by rw [hn, hk]

instance pay2 (x : Vec Ideal S512x1024 .bf16) [hx : Ex (φ := .bf16) x f] : Ex (S := S512x1024) (φ := .bf16) (k0_pay2 (F := Ideal) x) f := by
  simp only [k0_pay2]
  exact Ex.castId (φ := .bf16) x _

section Block
variable (x' : Vec Ideal S512x1024 .bf16) (x : FVec Ideal S512x1024 .bf16) (r : Vec Ideal S512x512 .bf16) (y : Vec Ideal S512x1024 .bf16)
  [hx' : Ex (φ := .bf16) x' d] [hx : Ex (φ := .bf16) x d] [hr : Ex (φ := .bf16) r p] [hy : Ex (φ := .bf16) y w]

instance pay6 : Ex (S := S512x512) (φ := .bf16) (k0_pay6 (F := Ideal) x r y) (dfT d p w) := by
  simp only [k0_pay6]
  haveI := Ex.castId (φ := .bf16) r shapeCasts_S512x512_S512x512
  haveI := Ex.castId (φ := .bf16) y shapeCasts_S512x1024_S512x1024
  refine Ex.to2 ?_
  exact fun _ _ => rfl
instance pay3 : Ex (S := S512x512) (φ := .bf16) (k0_pay3 (F := Ideal) x' r y) (dfT d p w) := pay6 (k0_pay2 x') r y
instance pay5 : Ex (S := S512x512) (φ := .bf16) (k0_pay5 (F := Ideal) x' r y) (dfT d p w) := pay6 (k0_pay2 x') r y
instance pay8 : Ex (S := S512x512) (φ := .bf16) (k0_pay8 (F := Ideal) x r y) (dfT d p w) := pay6 x r y
instance pay9 : Ex (S := S512x512) (φ := .bf16) (k0_pay9 (F := Ideal) x r y) (dfT d p w) := pay6 x r y
instance pay11 : Ex (S := S512x512) (φ := .bf16) (k0_pay11 (F := Ideal) x r y) (dfT d p w) := pay6 x r y
instance pay13 : Ex (S := S512x512) (φ := .bf16) (k0_pay13 (F := Ideal) x r y) (dfT d p w) := pay6 x r y
instance pay14 : Ex (S := S512x512) (φ := .bf16) (k0_pay14 (F := Ideal) x r y) (dfT d p w) := pay6 x r y
end Block

/-- The sum over the eight blocks. -/
theorem dh_ex (x0 : Vec Ideal S512x1024 .bf16) (x2 : Vec Ideal S4096x1024 .bf16) (x3 : Vec Ideal S512x4096 .bf16)
    (x4 : Vec Ideal S8x1024x512 .bf16) [h0 : Ex (φ := .bf16) x0 d] [h2 : Ex (φ := .bf16) x2 w] [h3 : Ex (φ := .bf16) x3 p]
    [h4 : Ex (φ := .bf16) x4 v] : Ex (S := S512x1024) (φ := .f32)
      (k0_pay15 (k0_pay2 x0)
        (k0_pay10 (k0_pay2 x0)
          (k0_pay7 (k0_pay2 x0)
            (k0_pay4 x0 (View.ld x3 (Rect.unit ![0, 0] ![512, 512] inb_S512x4096_S512x512_0_0))
              (View.ld x2 (Rect.unit ![0, 0] ![512, 1024] inb_S4096x1024_S512x1024_0_0))
              (View.ld x4 (Rect.unit ![0, 0, 0] ![1, 1024, 512] inb_S8x1024x512_S1x1024x512_0_0_0)))
            (k0_pay5 x0
              (View.ld x3 (Rect.unit ![0, 512] ![512, 512] inb_S512x4096_S512x512_0_512))
              (View.ld x2 (Rect.unit ![512, 0] ![512, 1024] inb_S4096x1024_S512x1024_512_0)))
            (View.ld x4 (Rect.unit ![1, 0, 0] ![1, 1024, 512] inb_S8x1024x512_S1x1024x512_1_0_0))
            (View.ld x3 (Rect.unit ![0, 1024] ![512, 512] inb_S512x4096_S512x512_0_1024))
            (View.ld x2 (Rect.unit ![1024, 0] ![512, 1024] inb_S4096x1024_S512x1024_1024_0))
            (View.ld x4 (Rect.unit ![2, 0, 0] ![1, 1024, 512] inb_S8x1024x512_S1x1024x512_2_0_0)))
          (k0_pay8 (k0_pay2 x0)
            (View.ld x3 (Rect.unit ![0, 1536] ![512, 512] inb_S512x4096_S512x512_0_1536))
            (View.ld x2 (Rect.unit ![1536, 0] ![512, 1024] inb_S4096x1024_S512x1024_1536_0)))
          (View.ld x4 (Rect.unit ![3, 0, 0] ![1, 1024, 512] inb_S8x1024x512_S1x1024x512_3_0_0))
          (View.ld x3 (Rect.unit ![0, 2048] ![512, 512] inb_S512x4096_S512x512_0_2048))
          (View.ld x2 (Rect.unit ![2048, 0] ![512, 1024] inb_S4096x1024_S512x1024_2048_0))
          (View.ld x4 (Rect.unit ![4, 0, 0] ![1, 1024, 512] inb_S8x1024x512_S1x1024x512_4_0_0)))
        (k0_pay12 (k0_pay2 x0)
          (View.ld x3 (Rect.unit ![0, 2560] ![512, 512] inb_S512x4096_S512x512_0_2560))
          (View.ld x2 (Rect.unit ![2560, 0] ![512, 1024] inb_S4096x1024_S512x1024_2560_0))
          (View.ld x4 (Rect.unit ![5, 0, 0] ![1, 1024, 512] inb_S8x1024x512_S1x1024x512_5_0_0)))
        (View.ld x3 (Rect.unit ![0, 3072] ![512, 512] inb_S512x4096_S512x512_0_3072))
        (View.ld x2 (Rect.unit ![3072, 0] ![512, 1024] inb_S4096x1024_S512x1024_3072_0))
        (View.ld x4 (Rect.unit ![6, 0, 0] ![1, 1024, 512] inb_S8x1024x512_S1x1024x512_6_0_0))
        (View.ld x3 (Rect.unit ![0, 3584] ![512, 512] inb_S512x4096_S512x512_0_3584))
        (View.ld x2 (Rect.unit ![3584, 0] ![512, 1024] inb_S4096x1024_S512x1024_3584_0))
        (View.ld x4 (Rect.unit ![7, 0, 0] ![1, 1024, 512] inb_S8x1024x512_S1x1024x512_7_0_0))) (dhT d p w v) := by
  simp only [k0_pay4, k0_pay7, k0_pay10, k0_pay12, k0_pay15]
  refine Ex.to2 ?_
  intro i j
  refine sum_eight (u := fun q => dfT d p w i q 0 0 * v (q / 512) j (q % 512) 0) ?_ ?_ ?_ ?_ ?_ ?_ ?_ ?_
  all_goals
    intro k hk
    simp only [zero_add, add_zero]
    refine congrArg₂ (· * ·) ?_ (block_at v ?_ ?_)
  all_goals first | omega | simp [dfT]

instance pay16 (x : Vec Ideal S512x1024 .f32) [hx : Ex (φ := .f32) x f] : Ex (S := S512x1) (φ := .f32) (k0_pay16 (F := Ideal) x) (rsT f) := by
  simp only [k0_pay16]
  haveI := Ex.sum1 (a := 512) (b := 1024) (mulf x x) 0x00000000#32 reduces_S512x1024_S512 (.inl rfl) rfl
  refine Ex.to2 ?_
  exact fun _ _ => rfl

instance pay17 (x : Vec Ideal S512x1024 .f32) [hx : Ex (φ := .f32) x f] : Ex (S := S512x1024) (φ := .f32) (k0_pay17 (F := Ideal) x) (nT f) := by
  simp only [k0_pay17]
  haveI := pay16 x
  refine Ex.to2 ?_
  exact fun _ _ => rfl

instance pay18 (y : FVec Ideal S512x1024 .f32) (x : Vec Ideal S512x1024 .f32) (z : Vec Ideal S1x1024 .f32) (r : Vec Ideal S512x1024 .f32)
    [hy : Ex y h] [hx : Ex (φ := .f32) x f] [hz : Ex (φ := .f32) z g] [hr : Ex (φ := .f32) r dr] :
    Ex (S := S512x1024) (φ := .f32) (k0_pay18 (F := Ideal) y x z r) (dxT h f g dr) := by
  simp only [k0_pay18]
  haveI := pay16 x
  haveI := pay17 x
  haveI := Ex.sum1 (a := 512) (b := 1024) (mulf (mulf y (broadcastTo S512x1024 (shapeCast S1x1024 z shapeCasts_S1x1024_S1x1024)
    broadcasts_S1x1024_S512x1024)) (k0_pay17 x)) 0x00000000#32 reduces_S512x1024_S512 (.inl rfl) rfl
  refine Ex.to2 ?_
  exact fun _ _ => rfl

instance pay20 (y : FVec Ideal S512x1024 .f32) (x : Vec Ideal S512x1024 .f32) (z : Vec Ideal S1x1024 .f32)
    [hy : Ex y h] [hx : Ex (φ := .f32) x f] [hz : Ex (φ := .f32) z g] :
    Ex (S := S1x1024) (φ := .f32) (k0_pay20 (F := Ideal) y x z) (fun i j _ _ => g i j 0 0 + ∑ k ∈ Finset.range 512, h k j 0 0 * nT f k j 0 0) := by
  simp only [k0_pay20]
  haveI := pay17 x
  haveI := Ex.sum0 (a := 512) (b := 1024) (mulf y (k0_pay17 x)) 0x00000000#32 reduces_S512x1024_S1024 (.inl rfl) rfl
  refine Ex.to2 ?_
  exact fun _ _ => rfl

end Tile

variable (m : (ℓ : Loc nD τ sig) → Buf (Elt Ideal) ℓ) (c : Dev nD)

/-- The gradient after the feed-forward part. -/
abbrev dx (i j : ℕ) : EReal := val2 (a := 4096) (b := 1024) (m ((c : Thread nD τ).loc main_arg0)) i j
/-- The input of the feed-forward part. -/
abbrev x1 (i j : ℕ) : EReal := val2 (a := 4096) (b := 1024) (m ((c : Thread nD τ).loc main_arg1)) i j
/-- The gain. -/
abbrev gain (j : ℕ) : EReal := val1 (a := 1024) (m ((c : Thread nD τ).loc main_arg2)) j
/-- The first weight. -/
abbrev w1 (i j : ℕ) : EReal := val2 (a := 1024) (b := 4096) (m ((c : Thread nD τ).loc main_arg3)) i j
/-- The second weight. -/
abbrev w2 (i j : ℕ) : EReal := val2 (a := 4096) (b := 1024) (m ((c : Thread nD τ).loc main_arg4)) i j

/-- One over the root mean square of a row. -/
def rs (f : ℕ → ℕ → EReal) (i : ℕ) : EReal :=
  Ideal.rsqrt (Ideal.div (∑ k ∈ Finset.range 1024, f i k * f i k) ((1024 : ℝ) : EReal) + ((eps : ℝ) : EReal))
/-- The product before the activation. -/
def pre (f : ℕ → ℕ → EReal) (g : ℕ → EReal) (w : ℕ → ℕ → EReal) (i q : ℕ) : EReal :=
  ∑ k ∈ Finset.range 1024, f i k * rs f i * g k * w k q

abbrev F4 := ℕ → ℕ → ℕ → ℕ → EReal

/-- The activation, as the host saves it. -/
abbrev act (i q : ℕ) : EReal := max (pre (x1 m c) (gain m c) (w1 m c) i q) 0
/-- The gradient before the activation. -/
abbrev df (i q : ℕ) : EReal :=
  ((2 : ℝ) : EReal) * act m c i q * ∑ k ∈ Finset.range 1024, dx m c i k * w2 m c q k
/-- The gradient of the normed input. -/
abbrev dh (i j : ℕ) : EReal := ∑ q ∈ Finset.range 4096, df m c i q * w1 m c j q
/-- The gradient of the input. -/
abbrev dxo (i j : ℕ) : EReal :=
  dxT (fun i j _ _ => dh m c i j) (fun i j _ _ => x1 m c i j) (fun _ j _ _ => gain m c j) (fun i j _ _ => dx m c i j) i j 0 0
/-- The gradient of the gain over the first rows. -/
abbrev dgo (n j : ℕ) : EReal := ∑ k ∈ Finset.range n, dh m c k j * (x1 m c k j * rs (x1 m c) k)

instance dotP (x : FVec Ideal S4096x1024 .f32) (y : FVec Ideal S1024x4096 .f32) {f g : F4} [hx : Ex x f] [hy : Ex y g] :
    Ex (Host.dotGeneral dot_S4096x1024_S1024x4096_S4096x4096_1_0_0_1_n_n none x y)
      (fun i j _ _ => ∑ k ∈ Finset.range 1024, f i k 0 0 * g k j 0 0) :=
  Ex.of2 fun i j => by
    pointwise
    exact sum_range _ _ (fun k => f i.val k 0 0 * g k j.val 0 0) fun k => by rw [hx.two, hy.two]

/-- The activation the host computes. -/
def hostAct (x : FVec Ideal S4096x1024 .f32) (g : FVec Ideal S1024 .f32) (w : FVec Ideal S1024x4096 .f32) : FVec Ideal S4096x4096 .f32 :=
  maximumf (Host.dotGeneral dot_S4096x1024_S1024x4096_S4096x4096_1_0_0_1_n_n none
    (mulf (mulf x (broadcastInDim S4096x1024 ![0, 1] bcast_S4096x1_S4096x1024_0_1 (Host.rsqrt (addf
      (Host.divf (broadcastInDim S4096x1 ![0] bcast_S4096_S4096x1_0 (Host.reduceAdd (mulf x x) (constant S_ .f32 0x00000000#32)
        reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 (broadcastInDim S1x1024 ![1] bcast_S1024_S1x1024_1 g))) w)
    (broadcastInDim S4096x4096 ![] bcast_S_S4096x4096 (constant S_ .f32 0x00000000#32))

instance hostAct_ex (x : FVec Ideal S4096x1024 .f32) (g : FVec Ideal S1024 .f32) (w : FVec Ideal S1024x4096 .f32) {f r v : F4}
    [hx : Ex x f] [hg : Ex g r] [hw : Ex w v] : Ex (hostAct x g w)
      (fun i q _ _ => max (pre (fun i j => f i j 0 0) (fun j => r j 0 0 0) (fun i j => v i j 0 0) i q) 0) := by
  unfold hostAct
  refine Ex.to2 ?_
  intro i q
  simp only [EReal.coe_zero, zero_add, pre, rs]

instance entry18 : Ex (S := S4096x1024) (φ := .bf16) (V m c main_v18) (fun i j _ _ => dx m c i j) := by
  have e : V m c main_v18 = truncf (F := Ideal) .bf16 (m ((c : Thread nD τ).loc main_arg0) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg0))
  exact Ex.truncf _ _

instance entry19 : Ex (S := S4096x1024) (φ := .bf16) (V m c main_v19) (fun i j _ _ => w2 m c i j) := by
  have e : V m c main_v19 = truncf (F := Ideal) .bf16 (m ((c : Thread nD τ).loc main_arg4) : FVec Ideal S4096x1024 .f32) bitsLt_bf16_f32 := by
    simp only [V, hostOps0, List.flatten_cons, List.flatten_nil,
      List.append_nil, List.cons_append, List.nil_append, StableHlo.after_cons, StableHlo.after_nil]
    after_results_simp
  rw [e]
  haveI := Ex.val2 (a := 4096) (b := 1024) (m ((c : Thread nD τ).loc main_arg4))
  exact Ex.truncf _ _

instance entry17 : Ex (S := S8x1024x512) (φ := .bf16) (V m c main_v17) (fun b i j _ => w1 m c i (b * 512 + j)) := by
  have e : V m c main_v17 = truncf (F := Ideal) .bf16 (transpose S8x1024x512 [1, 0, 2]
      (shapeCast S1024x8x512 (m ((c : Thread nD τ).loc main_arg3) : FVec Ideal S1024x4096 .f32) shapeCasts_S1024x4096_S1024x8x512)
      transposes_S1024x8x512_S8x1024x512_1_0_2) bitsLt_bf16_f32 := by
    simp only [V, hostOps0, List.flatten_cons, List.flatten_nil,
      List.append_nil, List.cons_append, List.nil_append, StableHlo.after_cons, StableHlo.after_nil]
    after_results_simp
    rfl
  rw [e]
  haveI := Ex.val2 (a := 1024) (b := 4096) (m ((c : Thread nD τ).loc main_arg3))
  exact inferInstance

instance entry21 : Ex (S := S1x1024) (φ := .f32) (V m c main_v21) (fun _ j _ _ => gain m c j) := by
  have e : V m c main_v21 = shapeCast S1x1024 (m ((c : Thread nD τ).loc main_arg2) : FVec Ideal S1024 .f32) shapeCasts_S1024_S1x1024 := by
    simp only [V, hostOps0, List.flatten_cons, List.flatten_nil,
      List.append_nil, List.cons_append, List.nil_append, StableHlo.after_cons, StableHlo.after_nil]
    after_results_simp
    rfl
  rw [e]
  haveI := Ex.val1 (a := 1024) (m ((c : Thread nD τ).loc main_arg2))
  exact Ex.castRow (a := 1024) (φ := .f32) (m ((c : Thread nD τ).loc main_arg2)) _

instance entry20 : Ex (S := S4096x4096) (φ := .bf16) (V m c main_v20) (fun i q _ _ => act m c i q) := by
  have e : V m c main_v20 = truncf (F := Ideal) .bf16 (hostAct (m ((c : Thread nD τ).loc main_arg1)) (m ((c : Thread nD τ).loc main_arg2))
      (m ((c : Thread nD τ).loc main_arg3))) bitsLt_bf16_f32 := by
    simp only [V, hostOps0, hostAct, List.flatten_cons, List.flatten_nil,
      List.append_nil, List.cons_append, List.nil_append, StableHlo.after_cons, StableHlo.after_nil]
    after_results_simp
    first | done | rfl | trace_state
  rw [e]
  haveI := Ex.val2 (a := 4096) (b := 1024) (m ((c : Thread nD τ).loc main_arg1))
  haveI := Ex.val1 (a := 1024) (m ((c : Thread nD τ).loc main_arg2))
  haveI := Ex.val2 (a := 1024) (b := 4096) (m ((c : Thread nD τ).loc main_arg3))
  exact Ex.truncf _ _

theorem idx : ∀ t : Fin cfg0.N, win0_0.index t = ![t.val, 0] ∧ win0_1.index t = ![t.val, 0] ∧ win0_2.index t = ![0, 0]
    ∧ win0_3.index t = ![t.val, 0] ∧ win0_4.index t = ![0, 0, 0] ∧ win0_5.index t = ![t.val, 0] ∧ win0_6.index t = ![0, 0]
    ∧ win0_7.index t = ![t.val, 0] ∧ win0_8.index t = ![t.val, 0] ∧ win0_9.index t = ![t.val, 0] :=
  (by decide +kernel : ∀ t : Fin grid0.N, _)

instance block0 (t : Fin cfg0.N) : Ex (S := S512x1024) (φ := .bf16) (iblk m c 0 t) (fun i j _ _ => dx m c (512 * t.val + i) j) := by
  refine ⟨fun i => ?_⟩
  blk_simp [iblk, idx t]
  refine (Ex.val (S := S4096x1024) (φ := .bf16) (V m c main_v18) _).trans ?_
  simp [co, idx t, mul_comm]

instance block2 (t : Fin cfg0.N) : Ex (S := S4096x1024) (φ := .bf16) (iblk m c 2 t) (fun i j _ _ => w2 m c i j) := by
  refine ⟨fun i => ?_⟩
  blk_simp [iblk, idx t]
  refine (Ex.val (S := S4096x1024) (φ := .bf16) (V m c main_v19) _).trans ?_
  simp [co, idx t, mul_comm]

instance block3 (t : Fin cfg0.N) : Ex (S := S512x4096) (φ := .bf16) (iblk m c 3 t) (fun i q _ _ => act m c (512 * t.val + i) q) := by
  refine ⟨fun i => ?_⟩
  blk_simp [iblk, idx t]
  refine (Ex.val (S := S4096x4096) (φ := .bf16) (V m c main_v20) _).trans ?_
  simp [co, idx t, mul_comm]

instance block4 (t : Fin cfg0.N) : Ex (S := S8x1024x512) (φ := .bf16) (iblk m c 4 t) (fun b i j _ => w1 m c i (b * 512 + j)) := by
  refine ⟨fun i => ?_⟩
  blk_simp [iblk, idx t]
  refine (Ex.val (S := S8x1024x512) (φ := .bf16) (V m c main_v17) _).trans ?_
  simp [co, idx t, mul_comm]

instance block6 (t : Fin cfg0.N) : Ex (S := S1x1024) (φ := .f32) (iblk m c 6 t) (fun _ j _ _ => gain m c j) := by
  refine ⟨fun i => ?_⟩
  blk_simp [iblk, idx t]
  refine (Ex.val (S := S1x1024) (φ := .f32) (V m c main_v21) _).trans ?_
  simp [co, idx t, mul_comm]

instance block1 (t : Fin cfg0.N) : Ex (S := S512x1024) (φ := .f32) (iblk m c 1 t) (fun i j _ _ => dx m c (512 * t.val + i) j) := by
  have e : V m c main_arg0 = m ((c : Thread nD τ).loc main_arg0) := by
    simp only [V, hostOps0, List.flatten_cons, List.flatten_nil,
      List.append_nil, List.cons_append, List.nil_append, StableHlo.after_cons, StableHlo.after_nil]
    after_results_simp
  haveI := Ex.val2 (a := 4096) (b := 1024) (m ((c : Thread nD τ).loc main_arg0))
  refine ⟨fun i => ?_⟩
  blk_simp [iblk, idx t]
  rw [e]
  refine (Ex.val (S := S4096x1024) (φ := .f32) (m ((c : Thread nD τ).loc main_arg0)) _).trans ?_
  simp [co, idx t, mul_comm]

instance block5 (t : Fin cfg0.N) : Ex (S := S512x1024) (φ := .f32) (iblk m c 5 t) (fun i j _ _ => x1 m c (512 * t.val + i) j) := by
  have e : V m c main_arg1 = m ((c : Thread nD τ).loc main_arg1) := by
    simp only [V, hostOps0, List.flatten_cons, List.flatten_nil,
      List.append_nil, List.cons_append, List.nil_append, StableHlo.after_cons, StableHlo.after_nil]
    after_results_simp
  haveI := Ex.val2 (a := 4096) (b := 1024) (m ((c : Thread nD τ).loc main_arg1))
  refine ⟨fun i => ?_⟩
  blk_simp [iblk, idx t]
  rw [e]
  refine (Ex.val (S := S4096x1024) (φ := .f32) (m ((c : Thread nD τ).loc main_arg1)) _).trans ?_
  simp [co, idx t, mul_comm]

/-- The gradient of the normed input at a row of the step. -/
theorem dh_step (t : Fin cfg0.N) (i j : ℕ) : dhT (fun i j _ _ => dx m c (512 * t.val + i) j) (fun i q _ _ => act m c (512 * t.val + i) q)
    (fun i j _ _ => w2 m c i j) (fun b i j _ => w1 m c i (b * 512 + j)) i j 0 0 = dh m c (512 * t.val + i) j :=
  Finset.sum_congr rfl fun q _ => congrArg (fun q' => df m c (512 * t.val + i) q * w1 m c j q') (by omega)

/-- A statement about every point from the first and from one to the next. -/
theorem points {P : ∀ n, n < cfg0.N → Prop} (first : ∀ t : Fin cfg0.N, t.val % 8 = 0 → P t.val t.isLt)
    (next : ∀ t : Fin cfg0.N, ¬t.val % 8 = 0 → ∀ h : t.val - 1 < cfg0.N, P (t.val - 1) h → P t.val t.isLt) :
    ∀ n h, P n h
  | 0, h => first ⟨0, h⟩ rfl
  | n + 1, h => next ⟨n + 1, h⟩ (by have : n + 1 < 8 := h; show ¬(n + 1) % 8 = 0; omega) (Nat.lt_of_succ_lt h)
      (points first next n (Nat.lt_of_succ_lt h))

theorem before (t : Fin cfg0.N) : t.val - 1 < cfg0.N := lt_of_le_of_lt (Nat.sub_le _ _) t.isLt

theorem out7 (t : Fin cfg0.N) : Ex (S := S512x4096) (φ := .bf16) (outsAt0 m c t.val t.isLt).1
    (fun i q _ _ => df m c (512 * t.val + i) q) := by
  refine ⟨fun y => ?_⟩
  by_cases e : t.val % 8 = 0
  on_goal 1 => rw [outsAt0_A m c t e]
  on_goal 2 => rw [outsAt0_B m c t e]
  all_goals
    frame_out
    refine (Ex.allb (f := dfT (fun i j _ _ => dx m c (512 * t.val + i) j) (fun i q _ _ => act m c (512 * t.val + i) q)
      (fun i j _ _ => w2 m c i j)) _ ?_ (View.cover_of_tiledBy _ ![512, 512] (by sl_kernel_rfl))).at_ y
    refine Ex.cons2b _ ?_ _ (Ex.cons2b _ ?_ _ (Ex.cons2b _ ?_ _ (Ex.cons2b _ ?_ _
      (Ex.cons2b _ ?_ _ (Ex.cons2b _ ?_ _ (Ex.cons2b _ ?_ _ (Ex.cons2b _ ?_ [] trivial)))))))
    all_goals
      intro i j hi hj
      simp [dfT]

theorem out8 (t : Fin cfg0.N) : Ex (S := S512x1024) (φ := .f32) (outsAt0 m c t.val t.isLt).2.1
    (fun i j _ _ => dxo m c (512 * t.val + i) j) := by
  refine ⟨fun y => ?_⟩
  by_cases e : t.val % 8 = 0
  on_goal 1 => rw [outsAt0_A m c t e]
  on_goal 2 => rw [outsAt0_B m c t e]
  all_goals
    frame_out
    have hy := dh_ex (iblk m c 0 t) (iblk m c 2 t) (iblk m c 3 t) (iblk m c 4 t) (h0 := block0 m c t) (h2 := block2 m c t)
      (h3 := block3 m c t) (h4 := block4 m c t)
    refine ((pay18 _ _ _ _ (hy := hy) (hx := block5 m c t) (hz := block6 m c t) (hr := block1 m c t)).at_ y).trans ?_
    simp only [dxo, dxT, nT, rsT, dh_step]

theorem out9 (t : Fin cfg0.N) : Ex (S := S512x1024) (φ := .bf16) (outsAt0 m c t.val t.isLt).2.2.1
    (fun i j _ _ => dxo m c (512 * t.val + i) j) := by
  refine ⟨fun y => ?_⟩
  refine Eq.trans ?_ ((out8 m c t).at_ y)
  by_cases e : t.val % 8 = 0
  on_goal 1 => rw [outsAt0_A m c t e]
  on_goal 2 => rw [outsAt0_B m c t e]
  all_goals
    frame_out
    rfl

/-- One more block of rows in a sum. -/
theorem dg_step (t : Fin cfg0.N) (j : ℕ) : dgo m c (512 * t.val) j + ∑ k ∈ Finset.range 512,
    dhT (fun i j _ _ => dx m c (512 * t.val + i) j) (fun i q _ _ => act m c (512 * t.val + i) q)
      (fun i j _ _ => w2 m c i j) (fun b i j _ => w1 m c i (b * 512 + j)) k j 0 0 *
      nT (fun i j _ _ => x1 m c (512 * t.val + i) j) k j 0 0 = dgo m c (512 * (t.val + 1)) j := by
  refine (sum_part _ _ _ fun k _ => ?_).trans rfl
  rw [dh_step]
  rfl

theorem out10 (t : Fin cfg0.N) (hp : ¬t.val % 8 = 0 → Ex (S := S1x1024) (φ := .f32)
      (outsAt0 m c (t.val - 1) (before t)).2.2.2 (fun _ j _ _ => dgo m c (512 * t.val) j)) :
    Ex (S := S1x1024) (φ := .f32) (outsAt0 m c t.val t.isLt).2.2.2 (fun _ j _ _ => dgo m c (512 * (t.val + 1)) j) := by
  refine ⟨fun y => ?_⟩
  by_cases e : t.val % 8 = 0
  · rw [outsAt0_A m c t e]
    frame_out
    have hy := dh_ex (iblk m c 0 t) (iblk m c 2 t) (iblk m c 3 t) (iblk m c 4 t) (h0 := block0 m c t) (h2 := block2 m c t)
      (h3 := block3 m c t) (h4 := block4 m c t)
    have hz : Ex (S := S1x1024) (φ := .f32) (k0_pay1 (F := Ideal)) (fun _ j _ _ => dgo m c (512 * t.val) j) := by
      have h0 : t.val = 0 := by have : t.val < 8 := t.isLt; omega
      have hc : Ex (S := S1x1024) (φ := .f32) (k0_pay1 (F := Ideal)) (fun _ _ _ _ => ((0 : ℝ) : EReal)) := by
        simp only [k0_pay1]
        exact inferInstance
      refine Ex.to2 (a := 1) (b := 1024) fun _ j => ?_
      rw [h0]
      rfl
    exact ((pay20 _ _ _ (hy := hy) (hx := block5 m c t) (hz := hz)).at_ y).trans (dg_step m c t _)
  · rw [outsAt0_B m c t e]
    frame_out
    have hy := dh_ex (iblk m c 0 t) (iblk m c 2 t) (iblk m c 3 t) (iblk m c 4 t) (h0 := block0 m c t) (h2 := block2 m c t)
      (h3 := block3 m c t) (h4 := block4 m c t)
    exact ((pay20 _ _ _ (hy := hy) (hx := block5 m c t) (hz := hp e)).at_ y).trans (dg_step m c t _)

theorem sum10 : ∀ n h, Ex (S := S1x1024) (φ := .f32) (outsAt0 m c n h).2.2.2 (fun _ j _ _ => dgo m c (512 * (n + 1)) j) :=
  points (fun t e => out10 m c t fun h => absurd e h) fun t e _ ih => out10 m c t fun _ => by
    rw [show t.val - 1 + 1 = t.val by omega] at ih; exact ih

theorem fin7 : Ex (S := S4096x4096) (φ := .bf16) ((dats m 0 c).arrAt 7 cfg0.N) (fun i j _ _ => df m c i j) := by
  refine ⟨fun i => congrFun ((dats m 0 c).arrAt_eq_of_covers 7
    (fun i : S4096x4096.Idx => df m c (i 0).val (i 1).val) (by decide +kernel) fun t hf y => ?_) i⟩
  blk_simp [idx t]
  rw [after0_7]
  rw [mul_comm]
  exact (out7 m c t).at_ y

theorem fin8 : Ex (S := S4096x1024) (φ := .f32) ((dats m 0 c).arrAt 8 cfg0.N) (fun i j _ _ => dxo m c i j) := by
  refine ⟨fun i => congrFun ((dats m 0 c).arrAt_eq_of_covers 8
    (fun i : S4096x1024.Idx => dxo m c (i 0).val (i 1).val) (by decide +kernel) fun t hf y => ?_) i⟩
  blk_simp [idx t]
  rw [after0_8]
  rw [mul_comm]
  exact (out8 m c t).at_ y

theorem fin9 : Ex (S := S4096x1024) (φ := .bf16) ((dats m 0 c).arrAt 9 cfg0.N) (fun i j _ _ => dxo m c i j) := by
  refine ⟨fun i => congrFun ((dats m 0 c).arrAt_eq_of_covers 9
    (fun i : S4096x1024.Idx => dxo m c (i 0).val (i 1).val) (by decide +kernel) fun t hf y => ?_) i⟩
  blk_simp [idx t]
  rw [after0_9]
  rw [mul_comm]
  exact (out9 m c t).at_ y

theorem fin10 : Ex (S := S1x1024) (φ := .f32) ((dats m 0 c).arrAt 10 cfg0.N) (fun _ j _ _ => dgo m c 4096 j) := by
  have e : (dats m 0 c).arrAt 10 cfg0.N = (outsAt0 m c t0_7.val t0_7.isLt).2.2.2 := by
    refine (dats m 0 c).arrAt_eq_of_after_last 10 t0_7 (by decide +kernel) _ fun j => ?_
    blk_simp
    rw [after0_10]
  rw [e]
  exact sum10 m c 7 _

end Cert.Kernel8Ideal.Gen

namespace Cert.Reference8Ideal.Gen

open Idealize.ShloMosaic Calc
open Cert.Kernel8Ideal.Gen (rs pre F4)

variable {f x r v w : F4}

instance dotP (x : FVec Ideal S4096x1024 .f32) (y : FVec Ideal S1024x4096 .f32) {f g : F4} [hx : Ex x f] [hy : Ex y g] :
    Ex (Host.dotGeneral dot_S4096x1024_S1024x4096_S4096x4096_1_0_0_1_n_n none x y)
      (fun i j _ _ => ∑ k ∈ Finset.range 1024, f i k 0 0 * g k j 0 0) :=
  Ex.of2 fun i j => by
    pointwise
    exact sum_range _ _ (fun k => f i.val k 0 0 * g k j.val 0 0) fun k => by rw [hx.two, hy.two]

instance dotF (x : FVec Ideal S4096x1024 .f32) (y : FVec Ideal S4096x1024 .f32) {f g : F4} [hx : Ex x f] [hy : Ex y g] :
    Ex (Host.dotGeneral dot_S4096x1024_S4096x1024_S4096x4096_1_1_0_0_n_n none x y)
      (fun i j _ _ => ∑ k ∈ Finset.range 1024, f i k 0 0 * g j k 0 0) :=
  Ex.of2 fun i j => by
    pointwise
    exact sum_range _ _ (fun k => f i.val k 0 0 * g j.val k 0 0) fun k => by rw [hx.two, hy.two]

instance dotG (x : FVec Ideal S4096x4096 .f32) (y : FVec Ideal S1024x4096 .f32) {f g : F4} [hx : Ex x f] [hy : Ex y g] :
    Ex (Host.dotGeneral dot_S4096x4096_S1024x4096_S4096x1024_1_1_0_0_n_n none x y)
      (fun i j _ _ => ∑ k ∈ Finset.range 4096, f i k 0 0 * g j k 0 0) :=
  Ex.of2 fun i j => by
    pointwise
    exact sum_range _ _ (fun k => f i.val k 0 0 * g j.val k 0 0) fun k => by rw [hx.two, hy.two]

/-- A value for every row, along the row. -/
instance hrep {a b : ℕ} {φ : FTy} {f : F4} (x : FVec Ideal ⟨1, ![a]⟩ φ) [hx : Ex x f]
    (h : (⟨1, ![a]⟩ : Shape).BroadcastsInDim ⟨2, ![a, b]⟩ ![0]) :
    Ex (φ := φ) (broadcastInDim ⟨2, ![a, b]⟩ ![0] h x) (fun i _ _ _ => f i 0 0 0) :=
  Ex.of2 fun i j => by
    unfold broadcastInDim
    rw [hx.at_]
    have := i.isLt
    by_cases ha : a = 1
    · subst ha
      have : i.val = 0 := by omega
      simp [co, this]
    · simp [co, ha]

/-- The gradient before the activation, as the reference computes it. -/
def dfR (f x r v w : F4) (i q _ _ : ℕ) : EReal :=
  if ((0 : ℝ) : EReal) < pre (fun i j => x i j 0 0) (fun j => r j 0 0 0) (fun i j => v i j 0 0) i q then
    (∑ k ∈ Finset.range 1024, f i k 0 0 * w q k 0 0) * (((2 : ℝ) : EReal) *
      max (pre (fun i j => x i j 0 0) (fun j => r j 0 0 0) (fun i j => v i j 0 0) i q) ((0 : ℝ) : EReal))
  else ((0 : ℝ) : EReal)

/-- The gradient of the normed input, as the reference computes it. -/
def dhR (f x r v w : F4) (i j _ _ : ℕ) : EReal := ∑ q ∈ Finset.range 4096, dfR f x r v w i q 0 0 * v j q 0 0

section Stages
variable (x0 x1 : FVec Ideal S4096x1024 .f32) (x2 : FVec Ideal S1024 .f32) (x3 : FVec Ideal S1024x4096 .f32) (x4 : FVec Ideal S4096x1024 .f32)
  [h0 : Ex x0 f] [h1 : Ex x1 x] [h2 : Ex x2 r] [h3 : Ex x3 v] [h4 : Ex x4 w]

instance ref6 : Ex (S := S4096x1) (φ := .f32) (Read.val_main_v6 (F := Ideal) x1)
    (fun i _ _ _ => Ideal.div (∑ k ∈ Finset.range 1024, x i k 0 0 * x i k 0 0) ((1024 : ℝ) : EReal) + ((eps : ℝ) : EReal)) := by
  unfold Read.val_main_v6
      Read.val_main_v5 Read.val_main_cst_1 Read.val_main_v4 Read.val_main_v3 Read.val_main_cst_0 Read.val_main_v2 Read.val_main_v1
      Read.val_main_cst Read.val_main_v0
  refine Ex.to2 ?_
  intro i j
  simp only [EReal.coe_zero, zero_add]

instance ref7 : Ex (S := S4096x1) (φ := .f32) (Read.val_main_v7 (F := Ideal) x1) (fun i _ _ _ => rs (fun i j => x i j 0 0) i) := by
  unfold Read.val_main_v7
  haveI := ref6 x1
  refine Ex.to2 ?_
  exact fun _ _ => rfl

instance ref12 : Ex (S := S4096x1024) (φ := .f32) (Read.val_main_v12 (F := Ideal) x1) (fun i j _ _ => x i j 0 0 * rs (fun i j => x i j 0 0) i) := by
  unfold Read.val_main_v12 Read.val_main_v11
  haveI := ref7 x1
  refine Ex.to2 ?_
  exact fun _ _ => rfl

instance ref16 : Ex (S := S4096x4096) (φ := .f32) (Read.val_main_v16 (F := Ideal) x1 x2 x3)
    (fun i q _ _ => pre (fun i j => x i j 0 0) (fun j => r j 0 0 0) (fun i j => v i j 0 0) i q) := by
  unfold Read.val_main_v16 Read.val_main_v15 Read.val_main_v14 Read.val_main_v13
  haveI := ref12 x1
  refine Ex.to2 ?_
  exact fun _ _ => rfl

instance ref28 : Ex (S := S4096x4096) (φ := .f32) (Read.val_main_v28 (F := Ideal) x0 x1 x2 x3 x4) (dfR f x r v w) := by
  unfold Read.val_main_v28 Read.val_main_v27 Read.val_main_cst_6 Read.val_main_v26 Read.val_main_v25 Read.val_main_v23 Read.val_main_v22
    Read.val_main_cst_5 Read.val_main_v19 Read.val_main_v18 Read.val_main_cst_3 Read.val_main_v17 Read.val_main_call0_v0 Read.val_main_call0_cst
  haveI := ref16 x1 x2 x3
  refine Ex.to2 ?_
  exact fun _ _ => rfl

theorem ref51 : Ex (S := S4096x4096) (φ := .bf16) (Read.val_main_v51 (F := Ideal) x0 x1 x2 x3 x4) (dfR f x r v w) := by
  unfold Read.val_main_v51
  haveI := ref28 x0 x1 x2 x3 x4
  exact Ex.truncf _ _

instance ref29 : Ex (S := S4096x1024) (φ := .f32) (Read.val_main_v29 (F := Ideal) x0 x1 x2 x3 x4) (dhR f x r v w) := by
  unfold Read.val_main_v29
  haveI := ref28 x0 x1 x2 x3 x4
  refine Ex.to2 ?_
  exact fun _ _ => rfl

theorem ref53 : Ex (S := S1x1024) (φ := .f32) (Read.val_main_v53 (F := Ideal) x0 x1 x2 x3 x4)
    (fun _ j _ _ => ∑ k ∈ Finset.range 4096, x k j 0 0 * rs (fun i j => x i j 0 0) k * dhR f x r v w k j 0 0) := by
  unfold Read.val_main_v53 Read.val_main_v35 Read.val_main_cst_8 Read.val_main_v32 Read.val_main_v31 Read.val_main_cst_7 Read.val_main_v30
  haveI := ref12 x1
  haveI := ref29 x0 x1 x2 x3 x4
  refine Ex.to2 ?_
  intro i j
  simp only [EReal.coe_zero, zero_add, Finset.sum_range_one]

instance ref34 : Ex (S := S4096x1024) (φ := .f32) (Read.val_main_v34 (F := Ideal) x0 x1 x2 x3 x4)
    (fun i j _ _ => dhR f x r v w i j 0 0 * r j 0 0 0) := by
  unfold Read.val_main_v34 Read.val_main_v33 Read.val_main_v13
  haveI := ref29 x0 x1 x2 x3 x4
  refine Ex.to2 ?_
  exact fun _ _ => rfl

/-- The factor of the input in its gradient, as the reference computes it. -/
def facR (f x r v w : F4) (i : ℕ) : EReal :=
  Ideal.div ((∑ k ∈ Finset.range 1024, x i k 0 0 * (dhR f x r v w i k 0 0 * r k 0 0 0)) * (((-(1 / 2) : ℝ) : EReal) *
    Ideal.div (rs (fun i j => x i j 0 0) i)
      (Ideal.div (∑ k ∈ Finset.range 1024, x i k 0 0 * x i k 0 0) ((1024 : ℝ) : EReal) + ((eps : ℝ) : EReal)))) ((1024 : ℝ) : EReal)

instance ref45 : Ex (S := S4096x1024) (φ := .f32) (Read.val_main_v45 (F := Ideal) x0 x1 x2 x3 x4) (fun i _ _ _ => facR f x r v w i) := by
  unfold Read.val_main_v45 Read.val_main_v44 Read.val_main_cst_11 Read.val_main_v43 Read.val_main_v42 Read.val_main_cst_10 Read.val_main_v41
    Read.val_main_v38 Read.val_main_v37 Read.val_main_cst_9 Read.val_main_v36 Read.val_main_v10 Read.val_main_v9 Read.val_main_cst_2
    Read.val_main_v8
  haveI := ref6 x1
  haveI := ref7 x1
  haveI := ref34 x0 x1 x2 x3 x4
  refine Ex.to2 ?_
  intro i j
  simp only [EReal.coe_zero, zero_add, Finset.sum_range_one]
  rfl

/-- The gradient of the input, as the reference computes it. -/
def dxR (f x r v w : F4) (i j _ _ : ℕ) : EReal :=
  f i j 0 0 + (dhR f x r v w i j 0 0 * r j 0 0 0 * rs (fun i j => x i j 0 0) i + x i j 0 0 * facR f x r v w i + facR f x r v w i * x i j 0 0)

instance ref50 : Ex (S := S4096x1024) (φ := .f32) (Read.val_main_v50 (F := Ideal) x0 x1 x2 x3 x4) (dxR f x r v w) := by
  unfold Read.val_main_v50 Read.val_main_v49 Read.val_main_v48 Read.val_main_v47 Read.val_main_v46 Read.val_main_v40 Read.val_main_v39
  haveI := ref7 x1
  haveI := ref34 x0 x1 x2 x3 x4
  haveI := ref45 x0 x1 x2 x3 x4
  refine Ex.to2 ?_
  exact fun _ _ => rfl

theorem ref52 : Ex (S := S4096x1024) (φ := .bf16) (Read.val_main_v52 (F := Ideal) x0 x1 x2 x3 x4) (dxR f x r v w) := by
  unfold Read.val_main_v52
  haveI := ref50 x0 x1 x2 x3 x4
  exact Ex.truncf _ _

end Stages

/-- The gradient before the activation is twice the activation times the product, where the activation is zero too. -/
theorem df_eq (i q a b : ℕ) : dfR f x r v w i q a b = ((2 : ℝ) : EReal) *
    max (pre (fun i j => x i j 0 0) (fun j => r j 0 0 0) (fun i j => v i j 0 0) i q) 0 * ∑ k ∈ Finset.range 1024, f i k 0 0 * w q k 0 0 := by
  unfold dfR
  rw [EReal.coe_zero]
  split_ifs with h
  · exact mul_comm _ _
  · rw [max_eq_right (not_lt.mp h), mul_zero, zero_mul]

theorem dh_eq (i j : ℕ) : dhR f x r v w i j 0 0 = ∑ q ∈ Finset.range 4096, ((2 : ℝ) : EReal) *
    max (pre (fun i j => x i j 0 0) (fun j => r j 0 0 0) (fun i j => v i j 0 0) i q) 0 *
      (∑ k ∈ Finset.range 1024, f i k 0 0 * w q k 0 0) * v j q 0 0 :=
  Finset.sum_congr rfl fun q _ => congrArg (· * v j q 0 0) (df_eq i q 0 0)

open Cert.Kernel8Ideal.Gen in
/-- The two ways of computing the gradient of the input agree. -/
theorem dx_eq (i j a b : ℕ) : dxR f x r v w i j a b =
    dxT (fun i j _ _ => ∑ q ∈ Finset.range 4096, ((2 : ℝ) : EReal) *
      max (pre (fun i j => x i j 0 0) (fun j => r j 0 0 0) (fun i j => v i j 0 0) i q) 0 *
        (∑ k ∈ Finset.range 1024, f i k 0 0 * w q k 0 0) * v j q 0 0) (fun i j _ _ => x i j 0 0) (fun _ j _ _ => r j 0 0 0) (fun i j _ _ => f i j 0 0) i j 0 0 := by
  obtain ⟨ρ, h, e, e3⟩ := rsqrt_real (sum_sq_nonneg (fun k => x i k 0 0) 1024)
  have er : rs (fun i j => x i j 0 0) i = (ρ : EReal) := e
  have et : rsT (fun i j _ _ => x i j 0 0) i 0 0 0 = (ρ : EReal) := e
  unfold dxR dxT nT facR
  simp only [← dh_eq]
  rw [er, et, e3, rms_grad h (fun k => x i k 0 0) (fun k => dhR f x r v w i k 0 0 * r k 0 0 0) j 1024]

end Cert.Reference8Ideal.Gen

namespace Cert.Proof.Claims

open Idealize.ShloMosaic Idealize.ShloMosaic.StableHlo Calc Cert.Kernel8Ideal.Gen

theorem preserves8 : Cert.preserves_Kernel8_Kernel8Ideal := trivial

set_option maxHeartbeats 1600000 in
/-- The kernel and the reference leave the same four arrays, whatever the arguments hold. -/
theorem algebraic8 : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    all_goals haveI i0 := Ex.val2 (a := 4096) (b := 1024) (m ((c.tc : Thread Cert.Kernel8Ideal.nD Cert.Kernel8Ideal.τ).loc Cert.Kernel8Ideal.main_arg0))
    all_goals haveI i1 := Ex.val2 (a := 4096) (b := 1024) (m ((c.tc : Thread Cert.Kernel8Ideal.nD Cert.Kernel8Ideal.τ).loc Cert.Kernel8Ideal.main_arg1))
    all_goals haveI i2 := Ex.val1 (a := 1024) (m ((c.tc : Thread Cert.Kernel8Ideal.nD Cert.Kernel8Ideal.τ).loc Cert.Kernel8Ideal.main_arg2))
    all_goals haveI i3 := Ex.val2 (a := 1024) (b := 4096) (m ((c.tc : Thread Cert.Kernel8Ideal.nD Cert.Kernel8Ideal.τ).loc Cert.Kernel8Ideal.main_arg3))
    all_goals haveI i4 := Ex.val2 (a := 4096) (b := 1024) (m ((c.tc : Thread Cert.Kernel8Ideal.nD Cert.Kernel8Ideal.τ).loc Cert.Kernel8Ideal.main_arg4))
    · exact Ex.same2 (Cert.Reference8Ideal.Gen.ref51 _ _ _ _ _) (fin7 m c) fun _ _ _ _ => Cert.Reference8Ideal.Gen.df_eq _ _ 0 0
    · refine (Cert.Reference8Ideal.Read.val_main_v50_eq m' c).trans ?_
      simp only [hagree c]
      exact Ex.same2 (Cert.Reference8Ideal.Gen.ref50 _ _ _ _ _) (fin8 m c) fun _ _ _ _ => Cert.Reference8Ideal.Gen.dx_eq _ _ 0 0
    · refine (Cert.Reference8Ideal.Read.val_main_v52_eq m' c).trans ?_
      simp only [hagree c]
      exact Ex.same2 (Cert.Reference8Ideal.Gen.ref52 _ _ _ _ _) (fin9 m c) fun _ _ _ _ => Cert.Reference8Ideal.Gen.dx_eq _ _ 0 0
    · exact Ex.same2 (Cert.Reference8Ideal.Gen.ref53 _ _ _ _ _) (fin10 m c) fun _ j _ _ => Finset.sum_congr rfl fun k _ =>
        (mul_comm _ _).trans (congrArg (· * (x1 m c k j * rs (x1 m c) k)) (Cert.Reference8Ideal.Gen.dh_eq k j))

end Cert.Proof.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Wg2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Wg1
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Wgi
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Ff2
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Ff1
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.FwdIn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.BwdMlp
public import Idealize.ShloMosaic.Adequacy
public import Idealize.ShloMosaic.Init

@[expose] public section

noncomputable section

namespace Cert.Proof

open Idealize.ShloMosaic Idealize.SL.Sem

/-- The reference terminates and leaves its arguments and counters alone. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2.2.2.2.2.2,
      sem_eq_zero_of_no_sems (by decide) r.2⟩)
    (Cert.ReferenceIdeal.Value.run (F := Ideal) m ρ)

theorem frame_ri2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_ri3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_ri4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_ri5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_ri6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_ri7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_ri8 : Cert.quiescent_Reference8Ideal (hReference8Ideal := Cert.Reference8Ideal.Gen.facts) := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Calc.finiteFacts,
    fun m ρ _ => Cert.Kernel.Gen.frame m ρ,
    fun m ρ _ => Cert.KernelIdeal.Gen.frame m ρ,
    fun m ρ _ => Cert.KernelIdeal.Gen.frame m ρ,
    fun m ρ _ => frame_ri m ρ trivial,
    fun m ρ _ => frame_ri m ρ trivial,
    fun m ρ _ => Cert.Kernel2.Gen.frame m ρ,
    fun m ρ _ => Cert.Kernel2Ideal.Gen.frame m ρ,
    frame_ri2,
    fun m ρ _ => Cert.Kernel3.Gen.frame m ρ,
    fun m ρ _ => Cert.Kernel3Ideal.Gen.frame m ρ,
    frame_ri3,
    fun m ρ _ => Cert.Kernel4.Gen.frame m ρ,
    fun m ρ _ => Cert.Kernel4Ideal.Gen.frame m ρ,
    frame_ri4,
    fun m ρ _ => Cert.Kernel5.Gen.frame m ρ,
    fun m ρ _ => Cert.Kernel5Ideal.Gen.frame m ρ,
    frame_ri5,
    fun m ρ _ => Cert.Kernel6.Gen.frame m ρ,
    fun m ρ _ => Cert.Kernel6Ideal.Gen.frame m ρ,
    frame_ri6,
    fun m ρ _ => Cert.Kernel7.Gen.frame m ρ,
    fun m ρ _ => Cert.Kernel7Ideal.Gen.frame m ρ,
    frame_ri7,
    fun m ρ _ => Cert.Kernel8.Gen.frame m ρ,
    fun m ρ _ => Cert.Kernel8Ideal.Gen.frame m ρ,
    frame_ri8,
    Claims.preserves, Claims.algebraic,
    Claims.preserves2, Claims.algebraic2,
    Claims.preserves3, Claims.algebraic3,
    Claims.preserves4, Claims.algebraic4,
    Claims.preserves5, Claims.algebraic5,
    Claims.preserves6, Claims.algebraic6,
    Claims.preserves7, Claims.algebraic7,
    Claims.preserves8, Claims.algebraic8⟩

end Cert.Proof

end
